-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)) (v2 : (c : Dev Cert.Kernel6Ideal.nD) → Buf (Elt Ideal) ((c.tc : Thread Cert.Kernel6Ideal.nD Cert.Kernel6Ideal.τ).loc Cert.Kernel6Ideal.main_v5_2)) (v3 : (c : Dev Cert.Kernel6Ideal.nD) → Buf (Elt Ideal) ((c.tc : Thread Cert.Kernel6Ideal.nD Cert.Kernel6Ideal.τ).loc Cert.Kernel6Ideal.main_v5_3)) (v4 : (c : Dev Cert.Kernel6Ideal.nD) → Buf (Elt Ideal) ((c.tc : Thread Cert.Kernel6Ideal.nD Cert.Kernel6Ideal.τ).loc Cert.Kernel6Ideal.main_v5_4)) (v5 : (c : Dev Cert.Kernel6Ideal.nD) → Buf (Elt Ideal) ((c.tc : Thread Cert.Kernel6Ideal.nD Cert.Kernel6Ideal.τ).loc Cert.Kernel6Ideal.main_v5_5)) (v6 : (c : Dev Cert.Kernel6Ideal.nD) → Buf (Elt Ideal) ((c.tc : Thread Cert.Kernel6Ideal.nD Cert.Kernel6Ideal.τ).loc Cert.Kernel6Ideal.main_v5_6)) (v7 : (c : Dev Cert.Kernel6Ideal.nD) → Buf (Elt Ideal) ((c.tc : Thread Cert.Kernel6Ideal.nD Cert.Kernel6Ideal.τ).loc Cert.Kernel6Ideal.main_v5_7)) (v8 : (c : Dev Cert.Kernel6Ideal.nD) → Buf (Elt Ideal) ((c.tc : Thread Cert.Kernel6Ideal.nD Cert.Kernel6Ideal.τ).loc Cert.Kernel6Ideal.main_v5_8)) (v9 : (c : Dev Cert.Kernel6Ideal.nD) → Buf (Elt Ideal) ((c.tc : Thread Cert.Kernel6Ideal.nD Cert.Kernel6Ideal.τ).loc Cert.Kernel6Ideal.main_v5_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_v5_2) = v2 c
          ∧ r.2.mem ((c.tc : Thread Cert.Kernel6Ideal.nD Cert.Kernel6Ideal.τ).loc Cert.Kernel6Ideal.main_v5_3) = v3 c
          ∧ r.2.mem ((c.tc : Thread Cert.Kernel6Ideal.nD Cert.Kernel6Ideal.τ).loc Cert.Kernel6Ideal.main_v5_4) = v4 c
          ∧ r.2.mem ((c.tc : Thread Cert.Kernel6Ideal.nD Cert.Kernel6Ideal.τ).loc Cert.Kernel6Ideal.main_v5_5) = v5 c
          ∧ r.2.mem ((c.tc : Thread Cert.Kernel6Ideal.nD Cert.Kernel6Ideal.τ).loc Cert.Kernel6Ideal.main_v5_6) = v6 c
          ∧ r.2.mem ((c.tc : Thread Cert.Kernel6Ideal.nD Cert.Kernel6Ideal.τ).loc Cert.Kernel6Ideal.main_v5_7) = v7 c
          ∧ r.2.mem ((c.tc : Thread Cert.Kernel6Ideal.nD Cert.Kernel6Ideal.τ).loc Cert.Kernel6Ideal.main_v5_8) = v8 c
          ∧ r.2.mem ((c.tc : Thread Cert.Kernel6Ideal.nD Cert.Kernel6Ideal.τ).loc Cert.Kernel6Ideal.main_v5_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v106) = v1 c
          ∧ r.2.mem ((c.tc : Thread Cert.Reference6Ideal.nD Cert.Reference6Ideal.τ).loc Cert.Reference6Ideal.main_v108) = v2 c
          ∧ r.2.mem ((c.tc : Thread Cert.Reference6Ideal.nD Cert.Reference6Ideal.τ).loc Cert.Reference6Ideal.main_v109) = v3 c
          ∧ r.2.mem ((c.tc : Thread Cert.Reference6Ideal.nD Cert.Reference6Ideal.τ).loc Cert.Reference6Ideal.main_v110) = v4 c
          ∧ r.2.mem ((c.tc : Thread Cert.Reference6Ideal.nD Cert.Reference6Ideal.τ).loc Cert.Reference6Ideal.main_v111) = v5 c
          ∧ r.2.mem ((c.tc : Thread Cert.Reference6Ideal.nD Cert.Reference6Ideal.τ).loc Cert.Reference6Ideal.main_v112) = v6 c
          ∧ r.2.mem ((c.tc : Thread Cert.Reference6Ideal.nD Cert.Reference6Ideal.τ).loc Cert.Reference6Ideal.main_v113) = v7 c
          ∧ r.2.mem ((c.tc : Thread Cert.Reference6Ideal.nD Cert.Reference6Ideal.τ).loc Cert.Reference6Ideal.main_v114) = v8 c
          ∧ r.2.mem ((c.tc : Thread Cert.Reference6Ideal.nD Cert.Reference6Ideal.τ).loc Cert.Reference6Ideal.main_v116) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x2x4x64 : Shape := ⟨4, ![4096, 2, 4, 64]⟩
abbrev S4096x2x64 : Shape := ⟨3, ![4096, 2, 64]⟩
abbrev S_ : Shape := ⟨0, ![]⟩

class Facts : Prop where
  bcast_S_S4096x2x4x64 : S_.BroadcastsInDim S4096x2x4x64 (![] : Fin 0 → Fin S4096x2x4x64.rank)
  reducesTo_S4096x2x4x64_S_d0_1_2_3 : S4096x2x4x64.ReducesTo [0, 1, 2, 3] S_
  h_S_ : 0 < S_.numel
  bcast_S_S4096x2x64 : S_.BroadcastsInDim S4096x2x64 (![] : Fin 0 → Fin S4096x2x64.rank)
  reducesTo_S4096x2x64_S_d0_1_2 : S4096x2x64.ReducesTo [0, 1, 2] S_

variable [Facts]

def fn_part1 {F : FTy → Type} [FloatOps F] (main_v13 : IVec S_ 1) (main_v16 : IVec S4096x2x4x64 1) : IVec S_ 1 :=
  let main_c_5 : IVec S_ 1 := constantI S_ 1 1#1
  let main_v17 : IVec S_ 1 := (fun x v => Host.reduce IntOp.andi x v reducesTo_S4096x2x4x64_S_d0_1_2_3 h_S_) main_v16 main_c_5
  let main_v18 : IVec S_ 1 := andi main_v13 main_v17
  main_v18

def fn {F : FTy → Type} [FloatOps F] (main_arg0 : FVec F S4096x2x4x64 .f32) (main_arg1 : FVec F S4096x2x64 .f32) (main_arg2 : FVec F S4096x2x64 .f32) (main_arg3 : FVec F S4096x2x4x64 .f32) : IVec S_ 1 :=
  let main_v0 : FVec F S4096x2x4x64 .f32 := Host.absf main_arg0
  let main_cst : FVec F S_ .f32 := constant S_ .f32 0x7F800000#32
  let main_v1 : FVec F S4096x2x4x64 .f32 := broadcastInDim S4096x2x4x64 ![] bcast_S_S4096x2x4x64 main_cst
  let main_v2 : IVec S4096x2x4x64 1 := cmpf .olt main_v0 main_v1
  let main_c : IVec S_ 1 := constantI S_ 1 1#1
  let main_v3 : IVec S_ 1 := (fun x v => Host.reduce IntOp.andi x v reducesTo_S4096x2x4x64_S_d0_1_2_3 h_S_) main_v2 main_c
  let main_v4 : FVec F S4096x2x64 .f32 := Host.absf main_arg1
  let main_cst_0 : FVec F S_ .f32 := constant S_ .f32 0x7F800000#32
  let main_v5 : FVec F S4096x2x64 .f32 := broadcastInDim S4096x2x64 ![] bcast_S_S4096x2x64 main_cst_0
  let main_v6 : IVec S4096x2x64 1 := cmpf .olt main_v4 main_v5
  let main_c_1 : IVec S_ 1 := constantI S_ 1 1#1
  let main_v7 : IVec S_ 1 := (fun x v => Host.reduce IntOp.andi x v reducesTo_S4096x2x64_S_d0_1_2 h_S_) main_v6 main_c_1
  let main_v8 : IVec S_ 1 := andi main_v3 main_v7
  let main_v9 : FVec F S4096x2x64 .f32 := Host.absf main_arg2
  let main_cst_2 : FVec F S_ .f32 := constant S_ .f32 0x7F800000#32
  let main_v10 : FVec F S4096x2x64 .f32 := broadcastInDim S4096x2x64 ![] bcast_S_S4096x2x64 main_cst_2
  let main_v11 : IVec S4096x2x64 1 := cmpf .olt main_v9 main_v10
  let main_c_3 : IVec S_ 1 := constantI S_ 1 1#1
  let main_v12 : IVec S_ 1 := (fun x v => Host.reduce IntOp.andi x v reducesTo_S4096x2x64_S_d0_1_2 h_S_) main_v11 main_c_3
  let main_v13 : IVec S_ 1 := andi main_v8 main_v12
  let main_v14 : FVec F S4096x2x4x64 .f32 := Host.absf main_arg3
  let main_cst_4 : FVec F S_ .f32 := constant S_ .f32 0x7F800000#32
  let main_v15 : FVec F S4096x2x4x64 .f32 := broadcastInDim S4096x2x4x64 ![] bcast_S_S4096x2x4x64 main_cst_4
  let main_v16 : IVec S4096x2x4x64 1 := cmpf .olt main_v14 main_v15
  fn_part1 (F := F) main_v13 main_v16
-- ==== Pre_finite2.lean ====
abbrev S4096x1024 : Shape := ⟨2, ![4096, 1024]⟩
abbrev S3x1024 : Shape := ⟨2, ![3, 1024]⟩
abbrev S1x1024 : Shape := ⟨2, ![1, 1024]⟩
abbrev S1024x4864 : Shape := ⟨2, ![1024, 4864]⟩
abbrev S4096x4864 : Shape := ⟨2, ![4096, 4864]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4864 : S_.BroadcastsInDim S1024x4864 (![] : Fin 0 → Fin S1024x4864.rank)
  reducesTo_S1024x4864_S_d0_1 : S1024x4864.ReducesTo [0, 1] S_
  bcast_S_S4096x4864 : S_.BroadcastsInDim S4096x4864 (![] : Fin 0 → Fin S4096x4864.rank)
  reducesTo_S4096x4864_S_d0_1 : S4096x4864.ReducesTo [0, 1] S_

variable [Facts]

def fn_part1 {F : FTy → Type} [FloatOps F] (main_arg4 : FVec F S4096x4864 .f32) (main_arg5 : FVec F S4096x1024 .f32) (main_v13 : IVec S_ 1) (main_v16 : IVec S1024x4864 1) : IVec S_ 1 :=
  let main_c_5 : IVec S_ 1 := constantI S_ 1 1#1
  let main_v17 : IVec S_ 1 := (fun x v => Host.reduce IntOp.andi x v reducesTo_S1024x4864_S_d0_1 h_S_) main_v16 main_c_5
  let main_v18 : IVec S_ 1 := andi main_v13 main_v17
  let main_v19 : FVec F S4096x4864 .f32 := Host.absf main_arg4
  let main_cst_6 : FVec F S_ .f32 := constant S_ .f32 0x7F800000#32
  let main_v20 : FVec F S4096x4864 .f32 := broadcastInDim S4096x4864 ![] bcast_S_S4096x4864 main_cst_6
  let main_v21 : IVec S4096x4864 1 := cmpf .olt main_v19 main_v20
  let main_c_7 : IVec S_ 1 := constantI S_ 1 1#1
  let main_v22 : IVec S_ 1 := (fun x v => Host.reduce IntOp.andi x v reducesTo_S4096x4864_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S3x1024 .f32) (main_arg2 : FVec F S1x1024 .f32) (main_arg3 : FVec F S1024x4864 .f32) (main_arg4 : FVec F S4096x4864 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S3x1024 .f32 := Host.absf main_arg1
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4864 .f32 := Host.absf main_arg3
  let main_cst_4 : FVec F S_ .f32 := constant S_ .f32 0x7F800000#32
  let main_v15 : FVec F S1024x4864 .f32 := broadcastInDim S1024x4864 ![] bcast_S_S1024x4864 main_cst_4
  let main_v16 : IVec S1024x4864 1 := cmpf .olt main_v14 main_v15
  fn_part1 (F := F) main_arg4 main_arg5 main_v13 main_v16
-- ==== Pre_finite6.lean ====
abbrev S4096x1024 : Shape := ⟨2, ![4096, 1024]⟩
abbrev S3x1024 : Shape := ⟨2, ![3, 1024]⟩
abbrev S1x1024 : Shape := ⟨2, ![1, 1024]⟩
abbrev S4096x512 : Shape := ⟨2, ![4096, 512]⟩
abbrev S4096x4864 : Shape := ⟨2, ![4096, 4864]⟩
abbrev S512x1024 : Shape := ⟨2, ![512, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x4864 : S_.BroadcastsInDim S4096x4864 (![] : Fin 0 → Fin S4096x4864.rank)
  reducesTo_S4096x4864_S_d0_1 : S4096x4864.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S512x1024 .f32) (main_arg8 : FVec F S512x1024 .f32) (main_arg9 : FVec F S1024x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S4096x512 .f32) (main_arg5 : FVec F S4096x4864 .f32) (main_arg6 : FVec F S4096x512 .f32) (main_arg7 : FVec F S512x1024 .f32) (main_arg8 : FVec F S512x1024 .f32) (main_arg9 : FVec F S1024x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x4864 .f32 := Host.absf main_arg5
  let main_cst_8 : FVec F S_ .f32 := constant S_ .f32 0x7F800000#32
  let main_v25 : FVec F S4096x4864 .f32 := broadcastInDim S4096x4864 ![] bcast_S_S4096x4864 main_cst_8
  let main_v26 : IVec S4096x4864 1 := cmpf .olt main_v24 main_v25
  let main_c_9 : IVec S_ 1 := constantI S_ 1 1#1
  let main_v27 : IVec S_ 1 := (fun x v => Host.reduce IntOp.andi x v reducesTo_S4096x4864_S_d0_1 h_S_) main_v26 main_c_9
  let main_v28 : IVec S_ 1 := andi main_v23 main_v27
  let main_v29 : FVec F S4096x512 .f32 := Host.absf main_arg6
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S3x1024 .f32) (main_arg3 : FVec F S1x1024 .f32) (main_arg4 : FVec F S4096x512 .f32) (main_arg5 : FVec F S4096x4864 .f32) (main_arg6 : FVec F S4096x512 .f32) (main_arg7 : FVec F S512x1024 .f32) (main_arg8 : FVec F S512x1024 .f32) (main_arg9 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_v13 main_v16
-- ==== Kernel.lean ====
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S8x64x4096 : Shape := ⟨3, ![8, 64, 4096]⟩
abbrev S2x4096x64 : Shape := ⟨3, ![2, 4096, 64]⟩
abbrev S2x64x4096 : Shape := ⟨3, ![2, 64, 4096]⟩
abbrev S2x64x4x4096 : Shape := ⟨4, ![2, 64, 4, 4096]⟩
abbrev S8x64x1024 : Shape := ⟨3, ![8, 64, 1024]⟩
abbrev S2x1024x64 : Shape := ⟨3, ![2, 1024, 64]⟩
abbrev S2x64x1024 : Shape := ⟨3, ![2, 64, 1024]⟩
abbrev S2x4x1024 : Shape := ⟨3, ![2, 4, 1024]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩

abbrev nBuf : Space → Nat
  | .hbm => 59
  | .vmem => 19
  | .smem => 0
  | _ => 0

abbrev bufTy : (tb : Table) → Fin (tcTables nBuf tb) → BufTy
  | .hbm, ⟨0, _⟩ => ⟨S4096x2x4x64, .f32⟩
  | .hbm, ⟨1, _⟩ => ⟨S4096x2x64, .f32⟩
  | .hbm, ⟨2, _⟩ => ⟨S4096x2x64, .f32⟩
  | .hbm, ⟨3, _⟩ => ⟨S4096x2x4x64, .f32⟩
  | .hbm, ⟨4, _⟩ => ⟨S2x4096x4096x4, .f32⟩
  | .hbm, ⟨5, _⟩ => ⟨S2x4x4096x4096, .f32⟩
  | .hbm, ⟨6, _⟩ => ⟨S_, .f32⟩
  | .hbm, ⟨7, _⟩ => ⟨S2x4x4096, .f32⟩
  | .hbm, ⟨8, _⟩ => ⟨S2x4x4096x1, .f32⟩
  | .hbm, ⟨9, _⟩ => ⟨S2x4x4096x4096, .f32⟩
  | .hbm, ⟨10, _⟩ => ⟨S2x4x4096x4096, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S2x4x4096, .f32⟩
  | .hbm, ⟨15, _⟩ => ⟨S2x4x4096, .f32⟩
  | .hbm, ⟨16, _⟩ => ⟨S_, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S_, .f32⟩
  | .hbm, ⟨21, _⟩ => ⟨S_, .f32⟩
  | .hbm, ⟨22, _⟩ => ⟨S4096x2x4x64, .f32⟩
  | .hbm, ⟨23, _⟩ => ⟨S4096x2x4x64, .f32⟩
  | .hbm, ⟨24, _⟩ => ⟨S2x4x64x4096, .f32⟩
  | .hbm, ⟨25, _⟩ => ⟨S8x64x4096, .f32⟩
  | .hbm, ⟨26, _⟩ => ⟨S8x64x4096, .bf16⟩
  | .hbm, ⟨27, _⟩ => ⟨S2x4096x64, .f32⟩
  | .hbm, ⟨28, _⟩ => ⟨S2x4096x64, .bf16⟩
  | .hbm, ⟨29, _⟩ => ⟨S2x64x4096, .f32⟩
  | .hbm, ⟨30, _⟩ => ⟨S2x64x4096, .bf16⟩
  | .hbm, ⟨31, _⟩ => ⟨S2x4096x64, .f32⟩
  | .hbm, ⟨32, _⟩ => ⟨S2x4096x64, .bf16⟩
  | .hbm, ⟨33, _⟩ => ⟨S2x4x64x4096, .f32⟩
  | .hbm, ⟨34, _⟩ => ⟨S8x64x4096, .f32⟩
  | .hbm, ⟨35, _⟩ => ⟨S8x64x4096, .bf16⟩
  | .hbm, ⟨36, _⟩ => ⟨S2x4096x4096x4, .f32⟩
  | .hbm, ⟨37, _⟩ => ⟨S2x4x4096x4096, .f32⟩
  | .hbm, ⟨38, _⟩ => ⟨S_, .f32⟩
  | .hbm, ⟨39, _⟩ => ⟨S2x4x4096, .f32⟩
  | .hbm, ⟨40, _⟩ => ⟨S_, .f32⟩
  | .hbm, ⟨41, _⟩ => ⟨S2x4x4096, .f32⟩
  | .hbm, ⟨42, _⟩ => ⟨S2x4x4096, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x4096, .f32⟩
  | .hbm, ⟨47, _⟩ => ⟨S_, .f32⟩
  | .hbm, ⟨48, _⟩ => ⟨S2x4x4096, .f32⟩
  | .hbm, ⟨49, _⟩ => ⟨S2x4x4096x1, .f32⟩
  | .hbm, ⟨50, _⟩ => ⟨S2x4x4096x4096, .f32⟩
  | .hbm, ⟨51, _⟩ => ⟨S2x4x4096x4096, .f32⟩
  | .hbm, ⟨52, _⟩ => ⟨S2x64x4x4096, .f32⟩
  | .hbm, ⟨53, _⟩ => ⟨S4096x2x4x64, .f32⟩
  | .hbm, ⟨54, _⟩ => ⟨S2x4x64x4096, .f32⟩
  | .hbm, ⟨55, _⟩ => ⟨S8x64x4096, .f32⟩
  | .hbm, ⟨56, _⟩ => ⟨S8x64x4096, .f32⟩
  | .hbm, ⟨57, _⟩ => ⟨S2x64x4096, .f32⟩
  | .hbm, ⟨58, _⟩ => ⟨S2x64x4096, .f32⟩
  | .local _ .vmem, ⟨0, _⟩ => ⟨S8x64x1024, .bf16⟩
  | .local _ .vmem, ⟨1, _⟩ => ⟨S8x64x1024, .bf16⟩
  | .local _ .vmem, ⟨2, _⟩ => ⟨S2x1024x64, .bf16⟩
  | .local _ .vmem, ⟨3, _⟩ => ⟨S2x1024x64, .bf16⟩
  | .local _ .vmem, ⟨4, _⟩ => ⟨S2x64x1024, .bf16⟩
  | .local _ .vmem, ⟨5, _⟩ => ⟨S2x64x1024, .bf16⟩
  | .local _ .vmem, ⟨6, _⟩ => ⟨S2x1024x64, .bf16⟩
  | .local _ .vmem, ⟨7, _⟩ => ⟨S2x1024x64, .bf16⟩
  | .local _ .vmem, ⟨8, _⟩ => ⟨S8x64x1024, .bf16⟩
  | .local _ .vmem, ⟨9, _⟩ => ⟨S8x64x1024, .bf16⟩
  | .local _ .vmem, ⟨10, _⟩ => ⟨S8x64x1024, .f32⟩
  | .local _ .vmem, ⟨11, _⟩ => ⟨S8x64x1024, .f32⟩
  | .local _ .vmem, ⟨12, _⟩ => ⟨S2x4x1024, .f32⟩
  | .local _ .vmem, ⟨13, _⟩ => ⟨S2x4x1024, .f32⟩
  | .local _ .vmem, ⟨14, _⟩ => ⟨S8x64x4096, .f32⟩
  | .local _ .vmem, ⟨15, _⟩ => ⟨S2x64x1024, .f32⟩
  | .local _ .vmem, ⟨16, _⟩ => ⟨S2x64x1024, .f32⟩
  | .local _ .vmem, ⟨17, _⟩ => ⟨S2x64x1024, .f32⟩
  | .local _ .vmem, ⟨18, _⟩ => ⟨S2x64x1024, .f32⟩
  | _, _ => ⟨S4096x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond3 (i : grid0.Coords) : BitVec 1 :=
  let arg0 : BitVec 32 := BitVec.ofNat 32 (i 0).val
  let c0_i32_258 : BitVec 32 := 0#32
  let v300 : BitVec 1 := Scalar.cmpi .eq arg0 c0_i32_258
  let v301 : BitVec 32 := Scalar.extui v300
  let c0_i32_259 : BitVec 32 := 0#32
  let v302 : BitVec 1 := Scalar.cmpi .ne v301 c0_i32_259
  v302

def k0_off1 (i : grid0.Coords) : Fin 3 → Nat :=
  let c0_262 : Index := 0#32
  let c0_263 : Index := 0#32
  let arg1 : BitVec 32 := BitVec.ofNat 32 (i 1).val
  let c1024_i32 : BitVec 32 := 1024#32
  let v0 : BitVec 32 := Scalar.muli arg1 c1024_i32
  let v1 : BitVec 32 := v0
  let v306 : Index := Scalar.indexCast v1
  ![0, 0, v306.toNat]
def k0_off2 (i : grid0.Coords) : Fin 3 → Nat :=
  let c1_264 : Index := 1#32
  let c0_265 : Index := 0#32
  let arg1 : BitVec 32 := BitVec.ofNat 32 (i 1).val
  let c1024_i32 : BitVec 32 := 1024#32
  let v0 : BitVec 32 := Scalar.muli arg1 c1024_i32
  let v1 : BitVec 32 := v0
  let v310 : Index := Scalar.indexCast v1
  ![1, 0, v310.toNat]
def k0_off3 (i : grid0.Coords) : Fin 3 → Nat :=
  let c2_266 : Index := 2#32
  let c0_267 : Index := 0#32
  let arg1 : BitVec 32 := BitVec.ofNat 32 (i 1).val
  let c1024_i32 : BitVec 32 := 1024#32
  let v0 : BitVec 32 := Scalar.muli arg1 c1024_i32
  let v1 : BitVec 32 := v0
  let v314 : Index := Scalar.indexCast v1
  ![2, 0, v314.toNat]
def k0_off4 (i : grid0.Coords) : Fin 3 → Nat :=
  let c3_268 : Index := 3#32
  let c0_269 : Index := 0#32
  let arg1 : BitVec 32 := BitVec.ofNat 32 (i 1).val
  let c1024_i32 : BitVec 32 := 1024#32
  let v0 : BitVec 32 := Scalar.muli arg1 c1024_i32
  let v1 : BitVec 32 := v0
  let v318 : Index := Scalar.indexCast v1
  ![3, 0, v318.toNat]
def k0_off5 (i : grid0.Coords) : Fin 3 → Nat :=
  let c4_270 : Index := 4#32
  let c0_271 : Index := 0#32
  let arg1 : BitVec 32 := BitVec.ofNat 32 (i 1).val
  let c1024_i32 : BitVec 32 := 1024#32
  let v0 : BitVec 32 := Scalar.muli arg1 c1024_i32
  let v1 : BitVec 32 := v0
  let v322 : Index := Scalar.indexCast v1
  ![4, 0, v322.toNat]
def k0_off6 (i : grid0.Coords) : Fin 3 → Nat :=
  let c5_272 : Index := 5#32
  let c0_273 : Index := 0#32
  let arg1 : BitVec 32 := BitVec.ofNat 32 (i 1).val
  let c1024_i32 : BitVec 32 := 1024#32
  let v0 : BitVec 32 := Scalar.muli arg1 c1024_i32
  let v1 : BitVec 32 := v0
  let v326 : Index := Scalar.indexCast v1
  ![5, 0, v326.toNat]
def k0_off7 (i : grid0.Coords) : Fin 3 → Nat :=
  let c6_274 : Index := 6#32
  let c0_275 : Index := 0#32
  let arg1 : BitVec 32 := BitVec.ofNat 32 (i 1).val
  let c1024_i32 : BitVec 32 := 1024#32
  let v0 : BitVec 32 := Scalar.muli arg1 c1024_i32
  let v1 : BitVec 32 := v0
  let v330 : Index := Scalar.indexCast v1
  ![6, 0, v330.toNat]
def k0_off8 (i : grid0.Coords) : Fin 3 → Nat :=
  let c7_276 : Index := 7#32
  let c0_277 : Index := 0#32
  let arg1 : BitVec 32 := BitVec.ofNat 32 (i 1).val
  let c1024_i32 : BitVec 32 := 1024#32
  let v0 : BitVec 32 := Scalar.muli arg1 c1024_i32
  let v1 : BitVec 32 := v0
  let v334 : Index := Scalar.indexCast v1
  ![7, 0, v334.toNat]
def k0_cond4 (i : grid0.Coords) : BitVec 1 :=
  let arg0 : BitVec 32 := BitVec.ofNat 32 (i 0).val
  let c0_i32_260 : BitVec 32 := 0#32
  let v303 : BitVec 1 := Scalar.cmpi .sgt arg0 c0_i32_260
  let v304 : BitVec 32 := Scalar.extui v303
  let c0_i32_261 : BitVec 32 := 0#32
  let v305 : BitVec 1 := Scalar.cmpi .ne v304 c0_i32_261
  v305

def k0_off9 (i : grid0.Coords) : Fin 3 → Nat :=
  let c0_262 : Index := 0#32
  let c0_263 : Index := 0#32
  let arg1 : BitVec 32 := BitVec.ofNat 32 (i 1).val
  let c1024_i32 : BitVec 32 := 1024#32
  let v0 : BitVec 32 := Scalar.muli arg1 c1024_i32
  let v1 : BitVec 32 := v0
  let v306 : Index := Scalar.indexCast v1
  ![0, 0, v306.toNat]
def k0_off10 (i : grid0.Coords) : Fin 3 → Nat :=
  let c1_266 : Index := 1#32
  let c0_267 : Index := 0#32
  let arg1 : BitVec 32 := BitVec.ofNat 32 (i 1).val
  let c1024_i32 : BitVec 32 := 1024#32
  let v0 : BitVec 32 := Scalar.muli arg1 c1024_i32
  let v1 : BitVec 32 := v0
  let v314 : Index := Scalar.indexCast v1
  ![1, 0, v314.toNat]
def k0_off11 (i : grid0.Coords) : Fin 3 → Nat :=
  let c2_270 : Index := 2#32
  let c0_271 : Index := 0#32
  let arg1 : BitVec 32 := BitVec.ofNat 32 (i 1).val
  let c1024_i32 : BitVec 32 := 1024#32
  let v0 : BitVec 32 := Scalar.muli arg1 c1024_i32
  let v1 : BitVec 32 := v0
  let v322 : Index := Scalar.indexCast v1
  ![2, 0, v322.toNat]
def k0_off12 (i : grid0.Coords) : Fin 3 → Nat :=
  let c3_274 : Index := 3#32
  let c0_275 : Index := 0#32
  let arg1 : BitVec 32 := BitVec.ofNat 32 (i 1).val
  let c1024_i32 : BitVec 32 := 1024#32
  let v0 : BitVec 32 := Scalar.muli arg1 c1024_i32
  let v1 : BitVec 32 := v0
  let v330 : Index := Scalar.indexCast v1
  ![3, 0, v330.toNat]
def k0_off13 (i : grid0.Coords) : Fin 3 → Nat :=
  let c4_278 : Index := 4#32
  let c0_279 : Index := 0#32
  let arg1 : BitVec 32 := BitVec.ofNat 32 (i 1).val
  let c1024_i32 : BitVec 32 := 1024#32
  let v0 : BitVec 32 := Scalar.muli arg1 c1024_i32
  let v1 : BitVec 32 := v0
  let v338 : Index := Scalar.indexCast v1
  ![4, 0, v338.toNat]
def k0_off14 (i : grid0.Coords) : Fin 3 → Nat :=
  let c5_282 : Index := 5#32
  let c0_283 : Index := 0#32
  let arg1 : BitVec 32 := BitVec.ofNat 32 (i 1).val
  let c1024_i32 : BitVec 32 := 1024#32
  let v0 : BitVec 32 := Scalar.muli arg1 c1024_i32
  let v1 : BitVec 32 := v0
  let v346 : Index := Scalar.indexCast v1
  ![5, 0, v346.toNat]
def k0_off15 (i : grid0.Coords) : Fin 3 → Nat :=
  let c6_286 : Index := 6#32
  let c0_287 : Index := 0#32
  let arg1 : BitVec 32 := BitVec.ofNat 32 (i 1).val
  let c1024_i32 : BitVec 32 := 1024#32
  let v0 : BitVec 32 := Scalar.muli arg1 c1024_i32
  let v1 : BitVec 32 := v0
  let v354 : Index := Scalar.indexCast v1
  ![6, 0, v354.toNat]
def k0_off16 (i : grid0.Coords) : Fin 3 → Nat :=
  let c7_290 : Index := 7#32
  let c0_291 : Index := 0#32
  let arg1 : BitVec 32 := BitVec.ofNat 32 (i 1).val
  let c1024_i32 : BitVec 32 := 1024#32
  let v0 : BitVec 32 := Scalar.muli arg1 c1024_i32
  let v1 : BitVec 32 := v0
  let v362 : Index := Scalar.indexCast v1
  ![7, 0, v362.toNat]
def k0_cond1 (i : grid0.Coords) : BitVec 1 :=
  let arg1 : BitVec 32 := BitVec.ofNat 32 (i 1).val
  let c0_i32 : BitVec 32 := 0#32
  let v294 : BitVec 1 := Scalar.cmpi .eq arg1 c0_i32
  let v295 : BitVec 32 := Scalar.extui v294
  let c0_i32_255 : BitVec 32 := 0#32
  let v296 : BitVec 1 := Scalar.cmpi .ne v295 c0_i32_255
  v296

def k0_cond2 (i : grid0.Coords) : BitVec 1 :=
  let arg1 : BitVec 32 := BitVec.ofNat 32 (i 1).val
  let c0_i32_256 : BitVec 32 := 0#32
  let v297 : BitVec 1 := Scalar.cmpi .sgt arg1 c0_i32_256
  let v298 : BitVec 32 := Scalar.extui v297
  let c0_i32_257 : BitVec 32 := 0#32
  let v299 : BitVec 1 := Scalar.cmpi .ne v298 c0_i32_257
  v299

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x64x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩
abbrev S2x4x64x4096 : Shape := ⟨4, ![2, 4, 64, 4096]⟩
abbrev S8x64x4096 : Shape := ⟨3, ![8, 64, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x2x4x64, .f32⟩
  | .hbm, ⟨1, _⟩ => ⟨S4096x2x64, .f32⟩
  | .hbm, ⟨2, _⟩ => ⟨S4096x2x64, .f32⟩
  | .hbm, ⟨3, _⟩ => ⟨S4096x2x4x64, .f32⟩
  | .hbm, ⟨4, _⟩ => ⟨S2x4096x4096x4, .f32⟩
  | .hbm, ⟨5, _⟩ => ⟨S2x4x4096x4096, .f32⟩
  | .hbm, ⟨6, _⟩ => ⟨S_, .f32⟩
  | .hbm, ⟨7, _⟩ => ⟨S2x4x4096, .f32⟩
  | .hbm, ⟨8, _⟩ => ⟨S2x4x4096x1, .f32⟩
  | .hbm, ⟨9, _⟩ => ⟨S2x4x4096x4096, .f32⟩
  | .hbm, ⟨10, _⟩ => ⟨S2x4x4096x4096, .i1⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .i1⟩
  | .hbm, ⟨20, _⟩ => ⟨S_, .f32⟩
  | .hbm, ⟨21, _⟩ => ⟨S2x4x4096, .f32⟩
  | .hbm, ⟨22, _⟩ => ⟨S2x4x4096, .i1⟩
  | .hbm, ⟨23, _⟩ => ⟨S_, .f32⟩
  | .hbm, ⟨24, _⟩ => ⟨S2x4x4096, .f32⟩
  | .hbm, ⟨25, _⟩ => ⟨S_, .f32⟩
  | .hbm, ⟨26, _⟩ => ⟨S2x4x4096, .f32⟩
  | .hbm, ⟨27, _⟩ => ⟨S_, .f32⟩
  | .hbm, ⟨28, _⟩ => ⟨S2x4x4096, .f32⟩
  | .hbm, ⟨29, _⟩ => ⟨S2x4x4096, .f32⟩
  | .hbm, ⟨30, _⟩ => ⟨S2x4x4096, .f32⟩
  | .hbm, ⟨31, _⟩ => ⟨S2x4x4096x1, .f32⟩
  | .hbm, ⟨32, _⟩ => ⟨S2x4x4096x4096, .f32⟩
  | .hbm, ⟨33, _⟩ => ⟨S2x4x4096x4096, .f32⟩
  | .hbm, ⟨34, _⟩ => ⟨S2x4x4096x4096, .f32⟩
  | .hbm, ⟨35, _⟩ => ⟨S_, .f32⟩
  | .hbm, ⟨36, _⟩ => ⟨S2x4x4096, .f32⟩
  | .hbm, ⟨37, _⟩ => ⟨S2x4x4096x1, .f32⟩
  | .hbm, ⟨38, _⟩ => ⟨S2x4x4096x4096, .f32⟩
  | .hbm, ⟨39, _⟩ => ⟨S2x4x4096x4096, .f32⟩
  | .hbm, ⟨40, _⟩ => ⟨S2x4x4096x1, .f32⟩
  | .hbm, ⟨41, _⟩ => ⟨S_, .f32⟩
  | .hbm, ⟨42, _⟩ => ⟨S2x4x4096x1, .f32⟩
  | .hbm, ⟨43, _⟩ => ⟨S2x4x4096x1, .f32⟩
  | .hbm, ⟨44, _⟩ => ⟨S2x64x4x4096, .f32⟩
  | .hbm, ⟨45, _⟩ => ⟨S4096x2x4x64, .f32⟩
  | .hbm, ⟨46, _⟩ => ⟨S2x64x4x4096, .f32⟩
  | .hbm, ⟨47, _⟩ => ⟨S2x4x4096x4096, .f32⟩
  | .hbm, ⟨48, _⟩ => ⟨S2x64x4096, .f32⟩
  | .hbm, ⟨49, _⟩ => ⟨S4096x2x64, .f32⟩
  | .hbm, ⟨50, _⟩ => ⟨S2x4x4096x4096, .f32⟩
  | .hbm, ⟨51, _⟩ => ⟨S2x4x4096x4096, .f32⟩
  | .hbm, ⟨52, _⟩ => ⟨S2x4x4096x4096, .f32⟩
  | .hbm, ⟨53, _⟩ => ⟨S_, .f32⟩
  | .hbm, ⟨54, _⟩ => ⟨S2x4x4096, .f32⟩
  | .hbm, ⟨55, _⟩ => ⟨S2x4x4096x1, .f32⟩
  | .hbm, ⟨56, _⟩ => ⟨S2x4x4096x1, .f32⟩
  | .hbm, ⟨57, _⟩ => ⟨S2x4x4096x4096, .f32⟩
  | .hbm, ⟨58, _⟩ => ⟨S2x4x4096x4096, .f32⟩
  | .hbm, ⟨59, _⟩ => ⟨S_, .f32⟩
  | .hbm, ⟨60, _⟩ => ⟨S2x4x4096, .f32⟩
  | .hbm, ⟨61, _⟩ => ⟨S2x4x4096x4096, .f32⟩
  | .hbm, ⟨62, _⟩ => ⟨S2x4x4096x4096, .f32⟩
  | .hbm, ⟨63, _⟩ => ⟨S2x4x4096x4096, .f32⟩
  | .hbm, ⟨64, _⟩ => ⟨S2x4096x4096x4, .f32⟩
  | .hbm, ⟨65, _⟩ => ⟨S2x4096x4x64, .f32⟩
  | .hbm, ⟨66, _⟩ => ⟨S4096x2x4x64, .f32⟩
  | .hbm, ⟨67, _⟩ => ⟨S2x4096x64, .f32⟩
  | .hbm, ⟨68, _⟩ => ⟨S4096x2x64, .f32⟩
  | .hbm, ⟨69, _⟩ => ⟨S2x4x64x4096, .f32⟩
  | .hbm, ⟨70, _⟩ => ⟨S8x64x4096, .f32⟩
  | .hbm, ⟨71, _⟩ => ⟨S_, .f32⟩
  | .hbm, ⟨72, _⟩ => ⟨S_, .f32⟩
  | .hbm, ⟨73, _⟩ => ⟨S4096x2x64, .f32⟩
  | .hbm, ⟨74, _⟩ => ⟨S4096x2x64, .f32⟩
  | .hbm, ⟨75, _⟩ => ⟨S2x64x4096, .f32⟩
  | .hbm, ⟨76, _⟩ => ⟨S2x64x4096, .f32⟩
  | _, _ => ⟨S4096x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel2.lean ====
abbrev S4096x1024 : Shape := ⟨2, ![4096, 1024]⟩
abbrev S3x1024 : Shape := ⟨2, ![3, 1024]⟩
abbrev S1x1024 : Shape := ⟨2, ![1, 1024]⟩
abbrev S1024x4864 : Shape := ⟨2, ![1024, 4864]⟩
abbrev S4096x4864 : Shape := ⟨2, ![4096, 4864]⟩
abbrev S4096x2048 : Shape := ⟨2, ![4096, 2048]⟩
abbrev S4096x512 : Shape := ⟨2, ![4096, 512]⟩
abbrev S4096x2560 : Shape := ⟨2, ![4096, 2560]⟩
abbrev S4096x128 : Shape := ⟨2, ![4096, 128]⟩
abbrev S4096x768 : Shape := ⟨2, ![4096, 768]⟩
abbrev S4096x256 : Shape := ⟨2, ![4096, 256]⟩
abbrev S1024x2048 : Shape := ⟨2, ![1024, 2048]⟩
abbrev S1024x512 : Shape := ⟨2, ![1024, 512]⟩
abbrev S1024x128 : Shape := ⟨2, ![1024, 128]⟩
abbrev S1024x256 : Shape := ⟨2, ![1024, 256]⟩
abbrev S8x1024 : Shape := ⟨2, ![8, 1024]⟩
abbrev S256x2560 : Shape := ⟨2, ![256, 2560]⟩
abbrev S256x768 : Shape := ⟨2, ![256, 768]⟩
abbrev S256x1024 : Shape := ⟨2, ![256, 1024]⟩
abbrev S1024x2560 : Shape := ⟨2, ![1024, 2560]⟩
abbrev S1024x768 : Shape := ⟨2, ![1024, 768]⟩
abbrev S256 : Shape := ⟨1, ![256]⟩
abbrev S256x1 : Shape := ⟨2, ![256, 1]⟩
abbrev S1024 : Shape := ⟨1, ![1024]⟩

abbrev nBuf : Space → Nat
  | .hbm => 36
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1x1024, .f32⟩
  | .hbm, ⟨3, _⟩ => ⟨S1024x4864, .f32⟩
  | .hbm, ⟨4, _⟩ => ⟨S4096x4864, .f32⟩
  | .hbm, ⟨5, _⟩ => ⟨S4096x1024, .f32⟩
  | .hbm, ⟨6, _⟩ => ⟨S4096x2048, .f32⟩
  | .hbm, ⟨7, _⟩ => ⟨S4096x512, .f32⟩
  | .hbm, ⟨8, _⟩ => ⟨S4096x2560, .f32⟩
  | .hbm, ⟨9, _⟩ => ⟨S4096x2560, .bf16⟩
  | .hbm, ⟨10, _⟩ => ⟨S4096x512, .f32⟩
  | .hbm, ⟨11, _⟩ => ⟨S4096x128, .f32⟩
  | .hbm, ⟨12, _⟩ => ⟨S4096x128, .f32⟩
  | .hbm, ⟨13, _⟩ => ⟨S4096x768, .f32⟩
  | .hbm, ⟨14, _⟩ => ⟨S4096x768, .bf16⟩
  | .hbm, ⟨15, _⟩ => ⟨S4096x256, .f32⟩
  | .hbm, ⟨16, _⟩ => ⟨S4096x512, .f32⟩
  | .hbm, ⟨17, _⟩ => ⟨S4096x768, .f32⟩
  | .hbm, ⟨18, _⟩ => ⟨S4096x768, .bf16⟩
  | .hbm, ⟨19, _⟩ => ⟨S4096x512, .f32⟩
  | .hbm, ⟨20, _⟩ => ⟨S4096x256, .f32⟩
  | .hbm, ⟨21, _⟩ => ⟨S4096x768, .f32⟩
  | .hbm, ⟨22, _⟩ => ⟨S4096x768, .bf16⟩
  | .hbm, ⟨23, _⟩ => ⟨S1024x2048, .f32⟩
  | .hbm, ⟨24, _⟩ => ⟨S1024x512, .f32⟩
  | .hbm, ⟨25, _⟩ => ⟨S1024x512, .f32⟩
  | .hbm, ⟨26, _⟩ => ⟨S1024x128, .f32⟩
  | .hbm, ⟨27, _⟩ => ⟨S1024x128, .f32⟩
  | .hbm, ⟨28, _⟩ => ⟨S1024x256, .f32⟩
  | .hbm, ⟨29, _⟩ => ⟨S1024x512, .f32⟩
  | .hbm, ⟨30, _⟩ => ⟨S1024x512, .f32⟩
  | .hbm, ⟨31, _⟩ => ⟨S1024x256, .f32⟩
  | .hbm, ⟨32, _⟩ => ⟨S1024x4864, .f32⟩
  | .hbm, ⟨33, _⟩ => ⟨S1024x4864, .bf16⟩
  | .hbm, ⟨34, _⟩ => ⟨S4096x1024, .f32⟩
  | .hbm, ⟨35, _⟩ => ⟨S8x1024, .f32⟩
  | .local _ .vmem, ⟨0, _⟩ => ⟨S256x2560, .bf16⟩
  | .local _ .vmem, ⟨1, _⟩ => ⟨S256x2560, .bf16⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S256x768, .bf16⟩
  | .local _ .vmem, ⟨7, _⟩ => ⟨S256x768, .bf16⟩
  | .local _ .vmem, ⟨8, _⟩ => ⟨S1024x4864, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S3x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S3x1024 : Shape := ⟨2, ![3, 1024]⟩
abbrev S1x1024 : Shape := ⟨2, ![1, 1024]⟩
abbrev S1024x4864 : Shape := ⟨2, ![1024, 4864]⟩
abbrev S4096x4864 : Shape := ⟨2, ![4096, 4864]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1x1024, .f32⟩
  | .hbm, ⟨3, _⟩ => ⟨S1024x4864, .f32⟩
  | .hbm, ⟨4, _⟩ => ⟨S4096x4864, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x4864, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S5x1024, .f32⟩
  | .hbm, ⟨71, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel3.lean ====
abbrev S4096x1024 : Shape := ⟨2, ![4096, 1024]⟩
abbrev S4096x2560 : Shape := ⟨2, ![4096, 2560]⟩
abbrev S1024x2560 : Shape := ⟨2, ![1024, 2560]⟩
abbrev S4096x640 : Shape := ⟨2, ![4096, 640]⟩
abbrev S1024x640 : Shape := ⟨2, ![1024, 640]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S4096x1024, .bf16⟩
  | .hbm, ⟨3, _⟩ => ⟨S4096x2560, .bf16⟩
  | .hbm, ⟨4, _⟩ => ⟨S1024x2560, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond3 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x2560 : Shape := ⟨2, ![4096, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2560, .f32⟩
  | .hbm, ⟨2, _⟩ => ⟨S_, .f32⟩
  | .hbm, ⟨3, _⟩ => ⟨S1024x2560, .f32⟩
  | .hbm, ⟨4, _⟩ => ⟨S4096x2560, .f32⟩
  | .hbm, ⟨5, _⟩ => ⟨S2560x1024, .f32⟩
  | .hbm, ⟨6, _⟩ => ⟨S1024x2560, .f32⟩
  | .hbm, ⟨7, _⟩ => ⟨S1024x2560, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S4096x768 : Shape := ⟨2, ![4096, 768]⟩
abbrev S1024x768 : Shape := ⟨2, ![1024, 768]⟩
abbrev S2048x1024 : Shape := ⟨2, ![2048, 1024]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S4096x1024, .bf16⟩
  | .hbm, ⟨3, _⟩ => ⟨S4096x768, .bf16⟩
  | .hbm, ⟨4, _⟩ => ⟨S1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S4096x768 : Shape := ⟨2, ![4096, 768]⟩
abbrev S_ : Shape := ⟨0, ![]⟩
abbrev S1024x768 : Shape := ⟨2, ![1024, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x768, .f32⟩
  | .hbm, ⟨2, _⟩ => ⟨S_, .f32⟩
  | .hbm, ⟨3, _⟩ => ⟨S1024x768, .f32⟩
  | .hbm, ⟨4, _⟩ => ⟨S4096x768, .f32⟩
  | .hbm, ⟨5, _⟩ => ⟨S768x1024, .f32⟩
  | .hbm, ⟨6, _⟩ => ⟨S1024x768, .f32⟩
  | .hbm, ⟨7, _⟩ => ⟨S1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S3x1024 : Shape := ⟨2, ![3, 1024]⟩
abbrev S1x1024 : Shape := ⟨2, ![1, 1024]⟩
abbrev S1024x4864 : Shape := ⟨2, ![1024, 4864]⟩
abbrev S1024x2048 : Shape := ⟨2, ![1024, 2048]⟩
abbrev S1024x512 : Shape := ⟨2, ![1024, 512]⟩
abbrev S1024x128 : Shape := ⟨2, ![1024, 128]⟩
abbrev S1024x256 : Shape := ⟨2, ![1024, 256]⟩
abbrev S4096x4864 : Shape := ⟨2, ![4096, 4864]⟩
abbrev S512x1024 : Shape := ⟨2, ![512, 1024]⟩
abbrev S512x4864 : Shape := ⟨2, ![512, 4864]⟩
abbrev S512 : Shape := ⟨1, ![512]⟩
abbrev S512x1 : Shape := ⟨2, ![512, 1]⟩

abbrev nBuf : Space → Nat
  | .hbm => 17
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1x1024, .f32⟩
  | .hbm, ⟨3, _⟩ => ⟨S1024x4864, .f32⟩
  | .hbm, ⟨4, _⟩ => ⟨S1024x2048, .f32⟩
  | .hbm, ⟨5, _⟩ => ⟨S1024x512, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x256, .f32⟩
  | .hbm, ⟨10, _⟩ => ⟨S1024x512, .f32⟩
  | .hbm, ⟨11, _⟩ => ⟨S1024x512, .f32⟩
  | .hbm, ⟨12, _⟩ => ⟨S1024x256, .f32⟩
  | .hbm, ⟨13, _⟩ => ⟨S1024x4864, .f32⟩
  | .hbm, ⟨14, _⟩ => ⟨S1024x4864, .bf16⟩
  | .hbm, ⟨15, _⟩ => ⟨S4096x4864, .bf16⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x1024, .f32⟩
  | .local _ .vmem, ⟨4, _⟩ => ⟨S1024x4864, .bf16⟩
  | .local _ .vmem, ⟨5, _⟩ => ⟨S512x4864, .bf16⟩
  | .local _ .vmem, ⟨6, _⟩ => ⟨S512x4864, .bf16⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4864 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S3x1024 : Shape := ⟨2, ![3, 1024]⟩
abbrev S1x1024 : Shape := ⟨2, ![1, 1024]⟩
abbrev S1024x4864 : Shape := ⟨2, ![1024, 4864]⟩
abbrev S_ : Shape := ⟨0, ![]⟩
abbrev S4096 : Shape := ⟨1, ![4096]⟩
abbrev S4096x1 : Shape := ⟨2, ![4096, 1]⟩
abbrev S4096x4864 : Shape := ⟨2, ![4096, 4864]⟩
abbrev S4096x512 : Shape := ⟨2, ![4096, 512]⟩
abbrev S4096x128 : Shape := ⟨2, ![4096, 128]⟩
abbrev S4096x256 : Shape := ⟨2, ![4096, 256]⟩
abbrev S4096x2048 : Shape := ⟨2, ![4096, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S1x1024, .f32⟩
  | .hbm, ⟨3, _⟩ => ⟨S1024x4864, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x4864, .f32⟩
  | .hbm, ⟨29, _⟩ => ⟨S4096x512, .f32⟩
  | .hbm, ⟨30, _⟩ => ⟨S4096x128, .f32⟩
  | .hbm, ⟨31, _⟩ => ⟨S4096x128, .f32⟩
  | .hbm, ⟨32, _⟩ => ⟨S4096x512, .f32⟩
  | .hbm, ⟨33, _⟩ => ⟨S4096x256, .f32⟩
  | .hbm, ⟨34, _⟩ => ⟨S4096x256, .f32⟩
  | .hbm, ⟨35, _⟩ => ⟨S4096x512, .f32⟩
  | .hbm, ⟨36, _⟩ => ⟨S4096x512, .f32⟩
  | .hbm, ⟨37, _⟩ => ⟨S4096x2048, .f32⟩
  | .hbm, ⟨38, _⟩ => ⟨S4096x4864, .f32⟩
  | .hbm, ⟨39, _⟩ => ⟨S4096x4864, .bf16⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel6.lean ====
abbrev S4096x1024 : Shape := ⟨2, ![4096, 1024]⟩
abbrev S3x1024 : Shape := ⟨2, ![3, 1024]⟩
abbrev S1x1024 : Shape := ⟨2, ![1, 1024]⟩
abbrev S4096x512 : Shape := ⟨2, ![4096, 512]⟩
abbrev S4096x4864 : Shape := ⟨2, ![4096, 4864]⟩
abbrev S512x1024 : Shape := ⟨2, ![512, 1024]⟩
abbrev S1024x1024 : Shape := ⟨2, ![1024, 1024]⟩
abbrev S8x64x4096 : Shape := ⟨3, ![8, 64, 4096]⟩
abbrev S4096x2560 : Shape := ⟨2, ![4096, 2560]⟩
abbrev S8x1024 : Shape := ⟨2, ![8, 1024]⟩
abbrev S256x1024 : Shape := ⟨2, ![256, 1024]⟩
abbrev S256x512 : Shape := ⟨2, ![256, 512]⟩
abbrev S256x2048 : Shape := ⟨2, ![256, 2048]⟩
abbrev S8x64x256 : Shape := ⟨3, ![8, 64, 256]⟩
abbrev S256x2560 : Shape := ⟨2, ![256, 2560]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S128x256 : Shape := ⟨2, ![128, 256]⟩
abbrev S64x256 : Shape := ⟨2, ![64, 256]⟩
abbrev S1x64x256 : Shape := ⟨3, ![1, 64, 256]⟩

abbrev nBuf : Space → Nat
  | .hbm => 25
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3x1024, .f32⟩
  | .hbm, ⟨3, _⟩ => ⟨S1x1024, .f32⟩
  | .hbm, ⟨4, _⟩ => ⟨S4096x512, .f32⟩
  | .hbm, ⟨5, _⟩ => ⟨S4096x4864, .f32⟩
  | .hbm, ⟨6, _⟩ => ⟨S4096x512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4096x4864, .bf16⟩
  | .hbm, ⟨11, _⟩ => ⟨S4096x512, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S4096x1024, .f32⟩
  | .hbm, ⟨16, _⟩ => ⟨S8x64x4096, .bf16⟩
  | .hbm, ⟨17, _⟩ => ⟨S4096x2560, .bf16⟩
  | .hbm, ⟨18, _⟩ => ⟨S4096x512, .f32⟩
  | .hbm, ⟨19, _⟩ => ⟨S4096x1024, .bf16⟩
  | .hbm, ⟨20, _⟩ => ⟨S4096x1024, .bf16⟩
  | .hbm, ⟨21, _⟩ => ⟨S4096x512, .bf16⟩
  | .hbm, ⟨22, _⟩ => ⟨S4096x1024, .bf16⟩
  | .hbm, ⟨23, _⟩ => ⟨S4096x1024, .bf16⟩
  | .hbm, ⟨24, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x1024, .f32⟩
  | .local _ .vmem, ⟨5, _⟩ => ⟨S1x1024, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x2048, .bf16⟩
  | .local _ .vmem, ⟨11, _⟩ => ⟨S256x2048, .bf16⟩
  | .local _ .vmem, ⟨12, _⟩ => ⟨S256x512, .bf16⟩
  | .local _ .vmem, ⟨13, _⟩ => ⟨S256x512, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S8x64x256, .bf16⟩
  | .local _ .vmem, ⟨20, _⟩ => ⟨S8x64x256, .bf16⟩
  | .local _ .vmem, ⟨21, _⟩ => ⟨S256x2560, .bf16⟩
  | .local _ .vmem, ⟨22, _⟩ => ⟨S256x2560, .bf16⟩
  | .local _ .vmem, ⟨23, _⟩ => ⟨S256x512, .f32⟩
  | .local _ .vmem, ⟨24, _⟩ => ⟨S256x512, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x512, .bf16⟩
  | .local _ .vmem, ⟨30, _⟩ => ⟨S256x512, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_v5_9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference6Ideal.lean ====
abbrev S4096x1024 : Shape := ⟨2, ![4096, 1024]⟩
abbrev S3x1024 : Shape := ⟨2, ![3, 1024]⟩
abbrev S1x1024 : Shape := ⟨2, ![1, 1024]⟩
abbrev S4096x512 : Shape := ⟨2, ![4096, 512]⟩
abbrev S4096x4864 : Shape := ⟨2, ![4096, 4864]⟩
abbrev S512x1024 : Shape := ⟨2, ![512, 1024]⟩
abbrev S1024x1024 : Shape := ⟨2, ![1024, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x8x64 : Shape := ⟨3, ![4096, 8, 64]⟩
abbrev S8x64x4096 : Shape := ⟨3, ![8, 64, 4096]⟩
abbrev S4096x2560 : Shape := ⟨2, ![4096, 2560]⟩
abbrev S5x1024 : Shape := ⟨2, ![5, 1024]⟩
abbrev S8x1024 : Shape := ⟨2, ![8, 1024]⟩

abbrev nBuf : Space → Nat
  | .hbm => 152
  | .vmem => 0
  | .smem => 0
  | _ => 0

abbrev hbmTy0_0 (i : Nat) : BufTy := match i % 128 with
  | 0 => ⟨S4096x1024, .f32⟩
  | 1 => ⟨S4096x1024, .f32⟩
  | 2 => ⟨S3x1024, .f32⟩
  | 3 => ⟨S1x1024, .f32⟩
  | 4 => ⟨S4096x512, .f32⟩
  | 5 => ⟨S4096x4864, .f32⟩
  | 6 => ⟨S4096x512, .f32⟩
  | 7 => ⟨S512x1024, .f32⟩
  | 8 => ⟨S512x1024, .f32⟩
  | 9 => ⟨S1024x1024, .f32⟩
  | 10 => ⟨S4096x2048, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x1024, .f32⟩
  | 27 => ⟨S4096x1024, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S4096x2048, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S1x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096, .f32⟩
  | 76 => ⟨S_, .f32⟩
  | 77 => ⟨S4096, .f32⟩
  | 78 => ⟨S4096, .f32⟩
  | 79 => ⟨S_, .f32⟩
  | 80 => ⟨S_, .f32⟩
  | 81 => ⟨S_, .f32⟩
  | 82 => ⟨S_, .f32⟩
  | 83 => ⟨S_, .f32⟩
  | 84 => ⟨S1024, .f32⟩
  | 85 => ⟨S1x1024, .f32⟩
  | 86 => ⟨S_, .f32⟩
  | 87 => ⟨S_, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S4096x1024, .f32⟩
  | 112 => ⟨S4096x1024, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x2048, .f32⟩
  | 2 => ⟨S4096x2048, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x8x64, .f32⟩
  | 11 => ⟨S8x64x4096, .f32⟩
  | 12 => ⟨S8x64x4096, .bf16⟩
  | 13 => ⟨S4096x2560, .f32⟩
  | 14 => ⟨S4096x2560, .bf16⟩
  | 15 => ⟨S4096x512, .f32⟩
  | 16 => ⟨S4096x1024, .bf16⟩
  | 17 => ⟨S4096x1024, .bf16⟩
  | 18 => ⟨S4096x512, .bf16⟩
  | 19 => ⟨S4096x1024, .bf16⟩
  | 20 => ⟨S4096x1024, .bf16⟩
  | 21 => ⟨S_, .f32⟩
  | 22 => ⟨S5x1024, .f32⟩
  | 23 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_21 : Ref sig .tc := ⟨.hbm, 114, rfl⟩
abbrev main_v82 : Ref sig .tc := ⟨.hbm, 115, rfl⟩
abbrev main_v83 : Ref sig .tc := ⟨.hbm, 116, rfl⟩
abbrev main_cst_22 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_23 : Ref sig .tc := ⟨.hbm, 149, rfl⟩
abbrev main_v115 : Ref sig .tc := ⟨.hbm, 150, rfl⟩
abbrev main_v116 : Ref sig .tc := ⟨.hbm, 151, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond3 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x512, .bf16⟩
  | .hbm, ⟨3, _⟩ => ⟨S4096x1024, .bf16⟩
  | .hbm, ⟨4, _⟩ => ⟨S512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond3 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Kit.lean ====
/- What the runs of the attention backward kernel's body are stated over: the conditions of its four regions over the grid's
   points, the staging memrefs, and the proof data of the launch. -/
module

public import proofs.«01_k».proof.Proof.Gen.Kernel.Frame
public import proofs.«01_k».proof.Proof.Gen.Kernel.Skeleton
public import Idealize.ShloMosaic.Lib.WordCmp
public import Idealize.ShloMosaic.Lib.Claim

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The first conditional region: the first block of queries. -/
abbrev cond0_0 (i : grid0.Coords) : Prop := k0_cond1 i = 1#1
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-- The second: a later block of queries. -/
abbrev cond0_1 (i : grid0.Coords) : Prop := k0_cond2 i = 1#1
theorem hcond0_1 : ∀ t : Fin cfg0.N, cond0_1 (grid0.coords t) ↔ 1 ≤ t.val % 4 :=
  (by decide +kernel : ∀ t : Fin grid0.N, cond0_1 (grid0.coords t) ↔ 1 ≤ t.val % 4)

/-- The third: the first block of keys. -/
abbrev cond0_2 (i : grid0.Coords) : Prop := k0_cond3 i = 1#1
theorem hcond0_2 : ∀ t : Fin cfg0.N, cond0_2 (grid0.coords t) ↔ t.val < 4 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val < 4)

/-- The fourth: a later block of keys. -/
abbrev cond0_3 (i : grid0.Coords) : Prop := k0_cond4 i = 1#1
theorem hcond0_3 : ∀ t : Fin cfg0.N, cond0_3 (grid0.coords t) ↔ 4 ≤ t.val :=
  (by decide +kernel : ∀ t : Fin grid0.N, cond0_3 (grid0.coords t) ↔ 4 ≤ t.val)

/-! ## The inputs' windows are never idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-! ## Each window's staging memref at a point, and that it is whole -/

abbrev ms0_0 (t : Fin cfg0.N) : Memref sig .tc .vmem S8x64x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x64x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x64x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x64x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x64x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x64x1024 .f32 := win0_9.stage (cfg0.slots t 9)
abbrev hs0_9 (t : Fin cfg0.N) : (ms0_9 t).IsWhole := hstage0_9 ((cfg0.slots t 9).cast nbuf0_9)

/-! ## The pipeline's proof data -/

/-- The outputs' windows. -/
def forgets0 : Fin 10 → Bool := fun w => w.val == 7 || w.val == 8 || w.val == 9

/-- The proof data of the launch on core `c`: the arrays as the launch finds them; after the body each input's memref at
    its block, the outputs at nothing in particular; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's staging memref holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

end Cert.AttnBwd

end
-- ==== Proof.RunA.lean ====
/- The runs of the attention backward kernel's body: one triple per case of its four conditional regions, over any
   staging memrefs at any contents, with the pieces each output's memref is left with. -/
module

public import proofs.«01_k».proof.Proof.Kit

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the three outputs' memrefs (first block of queries, first block of keys), last written first, with the triple: from
    whole memrefs at any contents the inputs' end as they were and each output's at its contents with its pieces written. -/
noncomputable def runA (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : cond0_0 i) (hc1 : ¬cond0_1 i) (hc2 : cond0_2 i) (hc3 : ¬cond0_3 i)
    (x0 : Vec F S8x64x1024 .bf16) (x1 : Vec F S2x1024x64 .bf16) (x2 : Vec F S2x64x1024 .bf16) (x3 : Vec F S2x1024x64 .bf16) (x4 : Vec F S8x64x1024 .bf16) (x5 : Vec F S8x64x1024 .f32) (x6 : Vec F S2x4x1024 .f32) (x7 : Vec F S8x64x4096 .f32) (x8 : Vec F S2x64x1024 .f32) (x9 : Vec F S2x64x1024 .f32) :
    Σ' (L7 : List (View.Piece (Elt F) S8x64x4096 .f32)), Σ' (L8 : List (View.Piece (Elt F) S2x64x1024 .f32)), { L9 : List (View.Piece (Elt F) S2x64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_attn_bwd_eq_skeleton]; unfold cc0_attn_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

end Cert.AttnBwd

end
-- ==== Proof.RunB.lean ====
/- The runs of the attention backward kernel's body: one triple per case of its four conditional regions, over any
   staging memrefs at any contents, with the pieces each output's memref is left with. -/
module

public import proofs.«01_k».proof.Proof.RunA

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the three outputs' memrefs (later block of queries, first block of keys), last written first, with the triple: from
    whole memrefs at any contents the inputs' end as they were and each output's at its contents with its pieces written. -/
noncomputable def runB (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : ¬cond0_0 i) (hc1 : cond0_1 i) (hc2 : cond0_2 i) (hc3 : ¬cond0_3 i)
    (x0 : Vec F S8x64x1024 .bf16) (x1 : Vec F S2x1024x64 .bf16) (x2 : Vec F S2x64x1024 .bf16) (x3 : Vec F S2x1024x64 .bf16) (x4 : Vec F S8x64x1024 .bf16) (x5 : Vec F S8x64x1024 .f32) (x6 : Vec F S2x4x1024 .f32) (x7 : Vec F S8x64x4096 .f32) (x8 : Vec F S2x64x1024 .f32) (x9 : Vec F S2x64x1024 .f32) :
    Σ' (L7 : List (View.Piece (Elt F) S8x64x4096 .f32)), Σ' (L8 : List (View.Piece (Elt F) S2x64x1024 .f32)), { L9 : List (View.Piece (Elt F) S2x64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_attn_bwd_eq_skeleton]; unfold cc0_attn_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

end Cert.AttnBwd

end
-- ==== Proof.RunC.lean ====
/- The runs of the attention backward kernel's body: one triple per case of its four conditional regions, over any
   staging memrefs at any contents, with the pieces each output's memref is left with. -/
module

public import proofs.«01_k».proof.Proof.RunB

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the three outputs' memrefs (first block of queries, later block of keys), last written first, with the triple: from
    whole memrefs at any contents the inputs' end as they were and each output's at its contents with its pieces written. -/
noncomputable def runC (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : cond0_0 i) (hc1 : ¬cond0_1 i) (hc2 : ¬cond0_2 i) (hc3 : cond0_3 i)
    (x0 : Vec F S8x64x1024 .bf16) (x1 : Vec F S2x1024x64 .bf16) (x2 : Vec F S2x64x1024 .bf16) (x3 : Vec F S2x1024x64 .bf16) (x4 : Vec F S8x64x1024 .bf16) (x5 : Vec F S8x64x1024 .f32) (x6 : Vec F S2x4x1024 .f32) (x7 : Vec F S8x64x4096 .f32) (x8 : Vec F S2x64x1024 .f32) (x9 : Vec F S2x64x1024 .f32) :
    Σ' (L7 : List (View.Piece (Elt F) S8x64x4096 .f32)), Σ' (L8 : List (View.Piece (Elt F) S2x64x1024 .f32)), { L9 : List (View.Piece (Elt F) S2x64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_attn_bwd_eq_skeleton]; unfold cc0_attn_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

end Cert.AttnBwd

end
-- ==== Proof.RunD.lean ====
/- The runs of the attention backward kernel's body: one triple per case of its four conditional regions, over any
   staging memrefs at any contents, with the pieces each output's memref is left with. -/
module

public import proofs.«01_k».proof.Proof.RunC

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the three outputs' memrefs (later blocks of both), last written first, with the triple: from
    whole memrefs at any contents the inputs' end as they were and each output's at its contents with its pieces written. -/
noncomputable def runD (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : ¬cond0_0 i) (hc1 : cond0_1 i) (hc2 : ¬cond0_2 i) (hc3 : cond0_3 i)
    (x0 : Vec F S8x64x1024 .bf16) (x1 : Vec F S2x1024x64 .bf16) (x2 : Vec F S2x64x1024 .bf16) (x3 : Vec F S2x1024x64 .bf16) (x4 : Vec F S8x64x1024 .bf16) (x5 : Vec F S8x64x1024 .f32) (x6 : Vec F S2x4x1024 .f32) (x7 : Vec F S8x64x4096 .f32) (x8 : Vec F S2x64x1024 .f32) (x9 : Vec F S2x64x1024 .f32) :
    Σ' (L7 : List (View.Piece (Elt F) S8x64x4096 .f32)), Σ' (L8 : List (View.Piece (Elt F) S2x64x1024 .f32)), { L9 : List (View.Piece (Elt F) S2x64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} arg9.view.writes (Elt F) (harg9.unread x7) L7) ∗ (arg10.view.loc (c : Thread nD τ) ↦[arg10.view.set]{fullShare} arg10.view.writes (Elt F) (harg10.unread x8) L8) ∗ (arg11.view.loc (c : Thread nD τ) ↦[arg11.view.set]{fullShare} arg11.view.writes (Elt F) (harg11.unread x9) L9)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_attn_bwd_eq_skeleton]; unfold cc0_attn_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    iexact H9

end Cert.AttnBwd

end
-- ==== Proof.Step.lean ====
/- The attention backward kernel's body obligation and launch, over any element type: what each output's memref is held to is a
   parameter, and one point keeps it where some run of the body does. The frame holds the outputs to nothing. -/
module

public import proofs.«01_k».proof.Proof.RunD
public import Idealize.ShloMosaic.Lib.Pipeline.DatRel
public import Idealize.ShloMosaic.Lib.Pipeline.ArrRel

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' memrefs are held to after each point. -/
abbrev Holds : Type := (w : Fin cfg0.W) → Fin cfg0.N → ((cfg0.win w).block.Idx → Elt F (cfg0.win w).elt) → Prop

variable (R : Dev nD → Holds (F := F))

/-- The proof data, the outputs held to `R`. -/
abbrev rdatOf (c : Dev nD) : Pipeline.RDat τ (Elt F) Unit ℕ (UR sig nD τ) ℕ cfg0 c := (dats m 0 c).toRRel forgets0 (R c)

/-! ## The body obligation -/

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdatOf m R c).Finds 7 t Y⌝ ∗ owns (c : Thread nD τ) (ms0_7 t) fullShare Y)
    ∗ (∃ Y, ⌜(rdatOf m R c).Finds 8 t Y⌝ ∗ owns (c : Thread nD τ) (ms0_8 t) fullShare Y)
    ∗ (∃ Y, ⌜(rdatOf m R c).Finds 9 t Y⌝ ∗ owns (c : Thread nD τ) (ms0_9 t) fullShare Y))

/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ X, ⌜R c 7 t X⌝ ∗ owns (c : Thread nD τ) (ms0_7 t) fullShare X)
    ∗ (∃ X, ⌜R c 8 t X⌝ ∗ owns (c : Thread nD τ) (ms0_8 t) fullShare X)
    ∗ (∃ X, ⌜R c 9 t X⌝ ∗ owns (c : Thread nD τ) (ms0_9 t) fullShare X))

/-- The body at point `t` runs from the inputs' blocks and the outputs' memrefs at `Y7`, `Y8`, `Y9` to the same inputs and the
    outputs with the pieces `L7`, `L8`, `L9` written. -/
def Runs (c : Dev nD) (t : Fin cfg0.N) (Y7 : Vec F S8x64x4096 .f32) (Y8 Y9 : Vec F S2x64x1024 .f32)
    (L7 : List (View.Piece (Elt F) S8x64x4096 .f32)) (L8 L9 : List (View.Piece (Elt F) S2x64x1024 .f32)) : Prop :=
  ∀ (E : Set ℕ) (K : PUnit → sProp 𝕄),
    iprop(owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (iblk m c 6 t)
        ∗ owns (c : Thread nD τ) (ms0_7 t) fullShare Y7 ∗ owns (c : Thread nD τ) (ms0_8 t) fullShare Y8 ∗ owns (c : Thread nD τ) (ms0_9 t) fullShare Y9
        ∗ (iprop(owns (c : Thread nD τ) (ms0_0 t) fullShare (iblk m c 0 t)
        ∗ owns (c : Thread nD τ) (ms0_1 t) fullShare (iblk m c 1 t)
        ∗ owns (c : Thread nD τ) (ms0_2 t) fullShare (iblk m c 2 t)
        ∗ owns (c : Thread nD τ) (ms0_3 t) fullShare (iblk m c 3 t)
        ∗ owns (c : Thread nD τ) (ms0_4 t) fullShare (iblk m c 4 t)
        ∗ owns (c : Thread nD τ) (ms0_5 t) fullShare (iblk m c 5 t)
        ∗ owns (c : Thread nD τ) (ms0_6 t) fullShare (iblk m c 6 t)
        ∗ ((ms0_7 t).view.loc (c : Thread nD τ) ↦[(ms0_7 t).view.set]{fullShare} (ms0_7 t).view.writes (Elt F) ((hs0_7 t).unread Y7) L7)
        ∗ ((ms0_8 t).view.loc (c : Thread nD τ) ↦[(ms0_8 t).view.set]{fullShare} (ms0_8 t).view.writes (Elt F) ((hs0_8 t).unread Y8) L8)
        ∗ ((ms0_9 t).view.loc (c : Thread nD τ) ↦[(ms0_9 t).view.set]{fullShare} (ms0_9 t).view.writes (Elt F) ((hs0_9 t).unread Y9) L9)) -∗ K ⟨⟩))
      ⊢ wp frame (wpE (defs₀ (F := F)) Variants.none c none) E (cc0_attn_bwd (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)) K

/-! The run of each case at the staging memrefs. -/

section
variable (c : Dev nD) (t : Fin cfg0.N) (Y7 : Vec F S8x64x4096 .f32) (Y8 Y9 : Vec F S2x64x1024 .f32)

abbrev atA (h0 : t.val % 4 = 0) (h1 : ¬ 1 ≤ t.val % 4) (h2 : t.val < 4) (h3 : ¬ 4 ≤ t.val) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9
abbrev atB (h0 : ¬ t.val % 4 = 0) (h1 : 1 ≤ t.val % 4) (h2 : t.val < 4) (h3 : ¬ 4 ≤ t.val) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9
abbrev atC (h0 : t.val % 4 = 0) (h1 : ¬ 1 ≤ t.val % 4) (h2 : ¬ t.val < 4) (h3 : 4 ≤ t.val) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9
abbrev atD (h0 : ¬ t.val % 4 = 0) (h1 : 1 ≤ t.val % 4) (h2 : ¬ t.val < 4) (h3 : 4 ≤ t.val) :=
  runD (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9

end

/-- A point keeps `R` where, whatever it finds, one of the runs leaves the outputs as `R` holds them. -/
def Keeps (c : Dev nD) (t : Fin cfg0.N) : Prop :=
  ∀ Y7 Y8 Y9, (rdatOf m R c).Finds 7 t Y7 → (rdatOf m R c).Finds 8 t Y8 → (rdatOf m R c).Finds 9 t Y9 →
    ∃ L7 L8 L9, Runs m c t Y7 Y8 Y9 L7 L8 L9
      ∧ R c 7 t ((ms0_7 t).view.read (Elt F) ((ms0_7 t).view.writes (Elt F) ((hs0_7 t).unread Y7) L7))
      ∧ R c 8 t ((ms0_8 t).view.read (Elt F) ((ms0_8 t).view.writes (Elt F) ((hs0_8 t).unread Y8) L8))
      ∧ R c 9 t ((ms0_9 t).view.read (Elt F) ((ms0_9 t).view.writes (Elt F) ((hs0_9 t).unread Y9) L9))

variable {R} in
theorem sound (c : Dev nD) (t : Fin cfg0.N) (H : Keeps m R c t) :
    pre m R c t ⊢ wp frame (wpE (defs₀ (F := F)) Variants.none c none) Set.univ (bodyAt0 t) (fun _ => post m R c t) := by
  unfold pre post bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y7, %hf7, H7⟩, ⟨%Y8, %hf8, H8⟩, ⟨%Y9, %hf9, H9⟩⟩
  obtain ⟨L7, L8, L9, hr, k7, k8, k9⟩ := H Y7 Y8 Y9 hf7 hf8 hf9
  iapply (hr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; · ipureintro; exact k7
    unfold owns; iexists _; isplitr; swap; · iexact H7
    ipureintro; rfl
  isplitl [H8]
  · iexists _; isplitr; · ipureintro; exact k8
    unfold owns; iexists _; isplitr; swap; · iexact H8
    ipureintro; rfl
  iexists _; isplitr; · ipureintro; exact k9
  unfold owns; iexists _; isplitr; swap; · iexact H9
  ipureintro; rfl

/-- The body table's row at point `t`'s memrefs is the body. -/
theorem defs₀_row (t : Fin cfg0.N) :
    defs₀ (F := F) .tc cfg0.body (cfg0.bodyArgs t (cfg0.slots t)) = bodyAt0 t := by
  unfold defs₀; rw [Defs.onTc_tc]

variable {R} in
/-- The library's body obligation, at every point. -/
theorem obligation (c : Dev nD) (H : ∀ t, Keeps m R c t) :
    BodyObligationRel (dats m 0 c) (defs₀ (F := F)) Variants.none () Set.univ forgets0 (R c) := fun t => by
  rw [bigSep_W0, bigSep_W0, defs₀_row]
  exact triple_restated (sound m c t (H t)) rfl .rfl fun _ => .rfl

variable {R} in
set_option backward.isDefEq.respectTransparency.types false in
/-- The launch: every final state has the arrays at contents that relational proof data allow, and every counter at zero. -/
theorem launchOf (H : ∀ c t, Keeps m R c t) : θ_run defs (onTc (τ := τ) (main (F := F))) (s₀ m ρ)
    (fun r => Pipeline.RDat.FramePost (cfgs 0) (rdatOf m R) (V m) r ∧ r.2.sem = fun _ => 0) :=
  Pipeline.RDat.θ_run_frame (Q' := _) cfgs (0 : Fin 1) launch0 defs₀ Variants.none (rdatOf m R) m ρ main
    (hbody := fun c => (obligation m c (H c)).toRRel) (hshare := fun c => (dats m 0 c).share_full fun _ => rfl)
    (howed := fun _ _ => rfl) (V := V m) (hmain := hmain m Variants.none) (hA := A_eq m) (hΦ := fun _ _ => rfl)

/-! ## The frame -/

/-- Nothing is asked of the outputs: any run will do. -/
theorem keeps_any (c : Dev nD) (t : Fin cfg0.N) : Keeps m (fun _ _ _ _ => True) c t := by
  intro Y7 Y8 Y9 _ _ _
  by_cases h0 : t.val % 4 = 0 <;> by_cases h2 : t.val < 4
  · exact ⟨_, _, _, (atA m c t Y7 Y8 Y9 h0 (by omega) h2 (by omega)).2.2.property, trivial, trivial, trivial⟩
  · exact ⟨_, _, _, (atC m c t Y7 Y8 Y9 h0 (by omega) h2 (by omega)).2.2.property, trivial, trivial, trivial⟩
  · exact ⟨_, _, _, (atB m c t Y7 Y8 Y9 h0 (by omega) h2 (by omega)).2.2.property, trivial, trivial, trivial⟩
  · exact ⟨_, _, _, (atD m c t Y7 Y8 Y9 h0 (by omega) h2 (by omega)).2.2.property, trivial, trivial, trivial⟩

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩)
    (launchOf m ρ (keeps_any m))

end Cert.AttnBwd

end
-- ==== Proof.Soft.lean ====
/- The gradient of softmax attention over the reals, and extended-real arithmetic that stays real. -/
module

public import Idealize.ShloMosaic.Lib.Claim
public import Idealize.ShloMosaic.Lib.Pointwise

@[expose] public section

noncomputable section

namespace Cert.AttnBwd

open Idealize.ShloMosaic

/-! ## Real values among the extended reals -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem log_real (a : ℝ) (ha : 0 < a) : Ideal.log (a : EReal) = ((Real.log a : ℝ) : EReal) := by
  rw [Ideal.log_coe, if_neg (not_le.mpr ha)]

/-- The largest of finitely many reals, from minus infinity on, is a real. -/
theorem fold_max_real {n : ℕ} [NeZero n] (f : Fin n → ℝ) :
    ∃ M : ℝ, (Finset.univ : Finset (Fin n)).fold max (⊥ : EReal) (fun k => ((f k : ℝ) : EReal)) = (M : EReal) := by
  classical
  have key : ∀ s : Finset (Fin n), s.fold max (⊥ : EReal) (fun k => ((f k : ℝ) : EReal)) = ⊥ ∧ s = ∅
      ∨ ∃ M : ℝ, s.fold max (⊥ : EReal) (fun k => ((f k : ℝ) : EReal)) = (M : EReal) := by
    intro s
    induction s using Finset.induction_on with
    | empty => exact .inl ⟨rfl, rfl⟩
    | insert a s ha ih =>
      refine .inr ?_
      rw [Finset.fold_insert ha]
      rcases ih with ⟨h, -⟩ | ⟨M, h⟩
      · exact ⟨f a, by rw [h]; exact max_eq_left bot_le⟩
      · refine ⟨max (f a) M, ?_⟩
        rw [h]
        rcases le_total (f a) M with hle | hle
        · rw [max_eq_right hle, max_eq_right (by exact_mod_cast hle)]
        · rw [max_eq_left hle, max_eq_left (by exact_mod_cast hle)]
  rcases key Finset.univ with ⟨-, h⟩ | h
  · exact absurd (h ▸ Finset.mem_univ (0 : Fin n)) (by simp)
  · exact h

/-! ## Attention over the reals -/

section Attention

variable (q ct : Fin 4096 → Fin 2 → Fin 4 → Fin 64 → ℝ) (k v : Fin 4096 → Fin 2 → Fin 64 → ℝ)

/-- The score of key `s` for query `a` of head `r` of group `g`, -/
def rs (g : Fin 2) (r : Fin 4) (a s : Fin 4096) : ℝ := ∑ d : Fin 64, k s g d * q a g r d
/-- the normaliser, -/
def rz (g : Fin 2) (r : Fin 4) (a : Fin 4096) : ℝ := ∑ s : Fin 4096, Real.exp (rs q k g r a s)
/-- the probability, -/
def rp (g : Fin 2) (r : Fin 4) (a s : Fin 4096) : ℝ := Real.exp (rs q k g r a s) / rz q k g r a
/-- the output, -/
def ro (g : Fin 2) (r : Fin 4) (a : Fin 4096) (d : Fin 64) : ℝ := ∑ s : Fin 4096, v s g d * rp q k g r a s
/-- the gradient of the probability, -/
def rdp (g : Fin 2) (r : Fin 4) (a s : Fin 4096) : ℝ := ∑ d : Fin 64, ct a g r d * v s g d
/-- and of the score. -/
def rds (g : Fin 2) (r : Fin 4) (a s : Fin 4096) : ℝ :=
  rp q k g r a s * (rdp ct v g r a s - ∑ s' : Fin 4096, rp q k g r a s' * rdp ct v g r a s')

theorem rz_pos (g : Fin 2) (r : Fin 4) (a : Fin 4096) : 0 < rz q k g r a :=
  Finset.sum_pos (fun _ _ => Real.exp_pos _) ⟨0, Finset.mem_univ _⟩

/-- Scores shifted by `M` sum to the normaliser times `exp (-M)`, -/
theorem shifted_sum (M : ℝ) (g : Fin 2) (r : Fin 4) (a : Fin 4096) :
    ∑ s : Fin 4096, Real.exp (rs q k g r a s - M) = rz q k g r a * Real.exp (-M) := by
  unfold rz
  rw [Finset.sum_mul]
  exact Finset.sum_congr rfl fun s _ => by rw [sub_eq_add_neg, Real.exp_add]

theorem shifted_pos (M : ℝ) (g : Fin 2) (r : Fin 4) (a : Fin 4096) : 0 < ∑ s : Fin 4096, Real.exp (rs q k g r a s - M) :=
  Finset.sum_pos (fun _ _ => Real.exp_pos _) ⟨0, Finset.mem_univ _⟩

/-- so the shift leaves the probability alone. -/
theorem shifted_prob (M : ℝ) (g : Fin 2) (r : Fin 4) (a s : Fin 4096) :
    Real.exp (rs q k g r a s - M) / (∑ s' : Fin 4096, Real.exp (rs q k g r a s' - M)) = rp q k g r a s := by
  rw [shifted_sum, rp, sub_eq_add_neg, Real.exp_add]
  exact mul_div_mul_right _ _ (Real.exp_pos _).ne'

/-- Two to the power of the score in base two less the saved log-sum is the probability. -/
theorem saved_prob (M : ℝ) (g : Fin 2) (r : Fin 4) (a s : Fin 4096) :
    Real.rpow 2 (∑ d : Fin 64, k s g d * (q a g r d / Real.log 2)
      - (M + Real.log (∑ s' : Fin 4096, Real.exp (rs q k g r a s' - M))) / Real.log 2) = rp q k g r a s := by
  have h2 : Real.log 2 ≠ 0 := (Real.log_pos one_lt_two).ne'
  have e : ∑ d : Fin 64, k s g d * (q a g r d / Real.log 2) = rs q k g r a s / Real.log 2 := by
    unfold rs
    rw [Finset.sum_div]
    exact Finset.sum_congr rfl fun d _ => (mul_div_assoc _ _ _).symm
  rw [e, ← sub_div, ← shifted_prob q k M g r a s]
  show (2 : ℝ) ^ (_ : ℝ) = _
  rw [Real.rpow_def_of_pos two_pos, mul_div_cancel₀ _ h2, ← sub_sub, Real.exp_sub, Real.exp_log (shifted_pos q k M g r a)]

/-- The product of the output with its gradient is the mean of the probability's gradient. -/
theorem out_mean (g : Fin 2) (r : Fin 4) (a : Fin 4096) :
    ∑ d : Fin 64, ct a g r d * ro q k v g r a d = ∑ s : Fin 4096, rp q k g r a s * rdp ct v g r a s := by
  unfold ro rdp
  simp only [Finset.mul_sum]
  rw [Finset.sum_comm]
  exact Finset.sum_congr rfl fun s _ => Finset.sum_congr rfl fun d _ => by ring

/-- The score's gradient as differentiating the shifted quotient writes it. -/
theorem quotient_ds (M : ℝ) (g : Fin 2) (r : Fin 4) (a s : Fin 4096) :
    (rdp ct v g r a s / (∑ s' : Fin 4096, Real.exp (rs q k g r a s' - M))
      + -(∑ s'' : Fin 4096, rdp ct v g r a s''
            * (1 / ((∑ s' : Fin 4096, Real.exp (rs q k g r a s' - M)) * (∑ s' : Fin 4096, Real.exp (rs q k g r a s' - M))))
            * Real.exp (rs q k g r a s'' - M))) * Real.exp (rs q k g r a s - M) = rds q ct k v g r a s := by
  unfold rds
  have hz := shifted_pos q k M g r a
  have e : ∑ s' : Fin 4096, rp q k g r a s' * rdp ct v g r a s'
      = (∑ s'' : Fin 4096, rdp ct v g r a s''
            * (1 / ((∑ s' : Fin 4096, Real.exp (rs q k g r a s' - M)) * (∑ s' : Fin 4096, Real.exp (rs q k g r a s' - M))))
            * Real.exp (rs q k g r a s'' - M)) * (∑ s' : Fin 4096, Real.exp (rs q k g r a s' - M)) := by
    rw [Finset.sum_mul]
    refine Finset.sum_congr rfl fun s' _ => ?_
    rw [← shifted_prob q k M g r a s']
    field_simp
  rw [e, ← shifted_prob q k M g r a s]
  field_simp
  ring

end Attention

/-- A sum over an axis of 4096 in four blocks of 1024. -/
theorem sum_blocks (f : Fin 4096 → ℝ) :
    ∑ j : Fin 4, ∑ t : Fin 1024, f ⟨1024 * j.val + t.val, by omega⟩ = ∑ s : Fin 4096, f s := by
  rw [Fin.sum_univ_tiles 4 1024 rfl f]
  exact Finset.sum_congr rfl fun j _ => Finset.sum_congr rfl fun t _ => congrArg f (Fin.ext (by show 1024 * j.val + t.val = j.val * 1024 + t.val; omega))

end Cert.AttnBwd

end
-- ==== Proof.Blk.lean ====
/- What one grid point of the attention backward kernel adds to each gradient, over the point's blocks: the block's
   scores, probabilities and their gradients as sums over the extended reals. -/
module

public import proofs.«01_k».proof.Proof.Gen.Kernel.Skeleton
public import Idealize.ShloMosaic.Lib.Claim
public import Idealize.ShloMosaic.Lib.Pipeline.ValueKit
public import Idealize.ShloMosaic.Lib.Pointwise
public import Idealize.ShloMosaic.Lib.WritesUnit

@[expose] public section

set_option maxRecDepth 16384

noncomputable section

namespace Cert.AttnBwd

open Cert.Kernel Cert.Kernel.Gen
open Idealize.ShloMosaic Idealize.ShloMosaic.TcCoe Idealize.SL.Sem

/-- The key/value head a query head belongs to (four query heads to one), -/
abbrev grp (h : Fin 8) : Fin 2 := ⟨h.val / 4, by omega⟩
/-- and the query head's place among its four. -/
abbrev sub4 (h : Fin 8) : Fin 4 := ⟨h.val % 4, by omega⟩
/-- Query head `r` of group `g`. -/
abbrev hd (g : Fin 2) (r : Fin 4) : Fin 8 := ⟨4 * g.val + r.val, by omega⟩

section Blocks

variable (x0 : FVec Ideal S8x64x1024 .bf16) (x1 : FVec Ideal S2x1024x64 .bf16) (x2 : FVec Ideal S2x64x1024 .bf16)
  (x3 : FVec Ideal S2x1024x64 .bf16) (x4 : FVec Ideal S8x64x1024 .bf16) (x5 : FVec Ideal S8x64x1024 .f32)
  (x6 : FVec Ideal S2x4x1024 .f32)

/-- The probability of key `k` for query `q` of head `h`: two to the power of the score less the saved log-sum. -/
def ptB (h : Fin 8) (k q : Fin 1024) : EReal :=
  FloatOps.exp2 (F := Ideal) (φ := .f32) (∑ d : Fin 64, x1 (ix3 (grp h) k d) * x0 (ix3 h d q) - x6 (ix3 (grp h) (sub4 h) q))

/-- The gradient of the score: the probability times what the value product's gradient exceeds its mean by. -/
def dsB (h : Fin 8) (k q : Fin 1024) : EReal :=
  ptB x0 x1 x6 h k q * (∑ d : Fin 64, x3 (ix3 (grp h) k d) * x4 (ix3 h d q) - ∑ d : Fin 64, x4 (ix3 h d q) * x5 (ix3 h d q))

/-- What the point adds to the gradient of the queries, -/
def dqB (h : Fin 8) (d : Fin 64) (q : Fin 1024) : EReal := ∑ k : Fin 1024, x2 (ix3 (grp h) d k) * dsB x0 x1 x3 x4 x5 x6 h k q
/-- one head's part of what it adds to the gradient of the keys, -/
def dkH (h : Fin 8) (d : Fin 64) (k : Fin 1024) : EReal := ∑ q : Fin 1024, x0 (ix3 h d q) * dsB x0 x1 x3 x4 x5 x6 h k q
/-- and to the gradient of the values. -/
def dvH (h : Fin 8) (d : Fin 64) (k : Fin 1024) : EReal := ∑ q : Fin 1024, x4 (ix3 h d q) * ptB x0 x1 x6 h k q
/-- A group's parts, its four heads added in order. -/
def dkB (g : Fin 2) (d : Fin 64) (k : Fin 1024) : EReal :=
  dkH x0 x1 x3 x4 x5 x6 (hd g 0) d k + dkH x0 x1 x3 x4 x5 x6 (hd g 1) d k + dkH x0 x1 x3 x4 x5 x6 (hd g 2) d k + dkH x0 x1 x3 x4 x5 x6 (hd g 3) d k
def dvB (g : Fin 2) (d : Fin 64) (k : Fin 1024) : EReal :=
  dvH x0 x1 x4 x6 (hd g 0) d k + dvH x0 x1 x4 x6 (hd g 1) d k + dvH x0 x1 x4 x6 (hd g 2) d k + dvH x0 x1 x4 x6 (hd g 3) d k

end Blocks

/-- The word the kernel computes for the first column of query block `n`. -/
theorem col_word : ∀ n : Fin 4, (Scalar.indexCast (Scalar.muli (BitVec.ofNat 32 n.val) 1024#32)).toNat = 1024 * n.val := by
  decide +kernel

/-- Column `q` of the point's query block, in the whole array. -/
abbrev colOf (i : grid0.Coords) (q : Fin 1024) : Fin 4096 := ⟨1024 * (i 1).val + q.val, by have : (i 1).val < 4 := (i 1).isLt; omega⟩

theorem at_col (i : grid0.Coords) (h : Fin 8) (d : Fin 64) (q : Fin 1024) (a : Fin 3) :
    ((ix3 h d (colOf i q) : S8x64x4096.Idx) a).val
      = (![h.val, 0, 1024 * (i 1).val] : Fin 3 → ℕ) a + ((ix3 (0 : Fin 1) d q : S1x64x1024.Idx) a).val := by
  fin_cases a
  · rfl
  · exact (Nat.zero_add _).symm
  · rfl

theorem at_zero (g : Fin 2) (d : Fin 64) (k : Fin 1024) (a : Fin 3) :
    ((ix3 g d k : S2x64x1024.Idx) a).val
      = (![g.val, 0, 0] : Fin 3 → ℕ) a + ((ix3 (0 : Fin 1) d k : S1x64x1024.Idx) a).val := by
  fin_cases a
  · rfl
  · exact (Nat.zero_add _).symm
  · exact (Nat.zero_add _).symm

theorem off1 (i : grid0.Coords) : k0_off1 i = ![0, 0, 1024 * (i 1).val] := by
  show ![0, 0, (Scalar.indexCast (Scalar.muli (BitVec.ofNat 32 (i 1).val) 1024#32)).toNat] = _
  rw [col_word (i 1)]
theorem off2 (i : grid0.Coords) : k0_off2 i = ![1, 0, 1024 * (i 1).val] := by
  show ![1, 0, (Scalar.indexCast (Scalar.muli (BitVec.ofNat 32 (i 1).val) 1024#32)).toNat] = _
  rw [col_word (i 1)]
theorem off3 (i : grid0.Coords) : k0_off3 i = ![2, 0, 1024 * (i 1).val] := by
  show ![2, 0, (Scalar.indexCast (Scalar.muli (BitVec.ofNat 32 (i 1).val) 1024#32)).toNat] = _
  rw [col_word (i 1)]
theorem off4 (i : grid0.Coords) : k0_off4 i = ![3, 0, 1024 * (i 1).val] := by
  show ![3, 0, (Scalar.indexCast (Scalar.muli (BitVec.ofNat 32 (i 1).val) 1024#32)).toNat] = _
  rw [col_word (i 1)]
theorem off5 (i : grid0.Coords) : k0_off5 i = ![4, 0, 1024 * (i 1).val] := by
  show ![4, 0, (Scalar.indexCast (Scalar.muli (BitVec.ofNat 32 (i 1).val) 1024#32)).toNat] = _
  rw [col_word (i 1)]
theorem off6 (i : grid0.Coords) : k0_off6 i = ![5, 0, 1024 * (i 1).val] := by
  show ![5, 0, (Scalar.indexCast (Scalar.muli (BitVec.ofNat 32 (i 1).val) 1024#32)).toNat] = _
  rw [col_word (i 1)]
theorem off7 (i : grid0.Coords) : k0_off7 i = ![6, 0, 1024 * (i 1).val] := by
  show ![6, 0, (Scalar.indexCast (Scalar.muli (BitVec.ofNat 32 (i 1).val) 1024#32)).toNat] = _
  rw [col_word (i 1)]
theorem off8 (i : grid0.Coords) : k0_off8 i = ![7, 0, 1024 * (i 1).val] := by
  show ![7, 0, (Scalar.indexCast (Scalar.muli (BitVec.ofNat 32 (i 1).val) 1024#32)).toNat] = _
  rw [col_word (i 1)]
theorem off9 (i : grid0.Coords) : k0_off9 i = ![0, 0, 1024 * (i 1).val] := by
  show ![0, 0, (Scalar.indexCast (Scalar.muli (BitVec.ofNat 32 (i 1).val) 1024#32)).toNat] = _
  rw [col_word (i 1)]
theorem off10 (i : grid0.Coords) : k0_off10 i = ![1, 0, 1024 * (i 1).val] := by
  show ![1, 0, (Scalar.indexCast (Scalar.muli (BitVec.ofNat 32 (i 1).val) 1024#32)).toNat] = _
  rw [col_word (i 1)]
theorem off11 (i : grid0.Coords) : k0_off11 i = ![2, 0, 1024 * (i 1).val] := by
  show ![2, 0, (Scalar.indexCast (Scalar.muli (BitVec.ofNat 32 (i 1).val) 1024#32)).toNat] = _
  rw [col_word (i 1)]
theorem off12 (i : grid0.Coords) : k0_off12 i = ![3, 0, 1024 * (i 1).val] := by
  show ![3, 0, (Scalar.indexCast (Scalar.muli (BitVec.ofNat 32 (i 1).val) 1024#32)).toNat] = _
  rw [col_word (i 1)]
theorem off13 (i : grid0.Coords) : k0_off13 i = ![4, 0, 1024 * (i 1).val] := by
  show ![4, 0, (Scalar.indexCast (Scalar.muli (BitVec.ofNat 32 (i 1).val) 1024#32)).toNat] = _
  rw [col_word (i 1)]
theorem off14 (i : grid0.Coords) : k0_off14 i = ![5, 0, 1024 * (i 1).val] := by
  show ![5, 0, (Scalar.indexCast (Scalar.muli (BitVec.ofNat 32 (i 1).val) 1024#32)).toNat] = _
  rw [col_word (i 1)]
theorem off15 (i : grid0.Coords) : k0_off15 i = ![6, 0, 1024 * (i 1).val] := by
  show ![6, 0, (Scalar.indexCast (Scalar.muli (BitVec.ofNat 32 (i 1).val) 1024#32)).toNat] = _
  rw [col_word (i 1)]
theorem off16 (i : grid0.Coords) : k0_off16 i = ![7, 0, 1024 * (i 1).val] := by
  show ![7, 0, (Scalar.indexCast (Scalar.muli (BitVec.ofNat 32 (i 1).val) 1024#32)).toNat] = _
  rw [col_word (i 1)]

end Cert.AttnBwd

end
-- ==== Proof.CellsA.lean ====
/- What the attention backward kernel's body leaves in each output's staging memref, element by element, in case A:
   `runA`'s pieces read at an index, over the point's blocks. -/
module

public import proofs.«01_k».proof.Proof.RunA
public import proofs.«01_k».proof.Proof.Blk

@[expose] public section

set_option maxRecDepth 16384

noncomputable section

namespace Cert.AttnBwd

open Cert.Kernel Cert.Kernel.Gen
open Idealize.ShloMosaic Idealize.ShloMosaic.TcCoe Idealize.SL.Sem

section CaseA

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : cond0_0 i) (hc1 : ¬cond0_1 i) (hc2 : cond0_2 i) (hc3 : ¬cond0_3 i)
  (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32) (x7 : Vec Ideal S8x64x4096 .f32) (x8 : Vec Ideal S2x64x1024 .f32) (x9 : Vec Ideal S2x64x1024 .f32)

theorem read7A_miss (h : Fin 8) (d : Fin 64) (q : Fin 4096) (hq : q.val / 1024 ≠ (i 1).val) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d q) = x7 (ix3 h d q) := by
  have hi : q.val < 1024 * (i 1).val ∨ 1024 * (i 1).val + 1024 ≤ q.val := by omega
  unfold runA; dsimp only
  refine (View.read_writes_cons_unit_of_not_mem _ _ _ _ _ _ (off8 i) 2 hi).trans ?_
  refine (View.read_writes_cons_unit_of_not_mem _ _ _ _ _ _ (off7 i) 2 hi).trans ?_
  refine (View.read_writes_cons_unit_of_not_mem _ _ _ _ _ _ (off6 i) 2 hi).trans ?_
  refine (View.read_writes_cons_unit_of_not_mem _ _ _ _ _ _ (off5 i) 2 hi).trans ?_
  refine (View.read_writes_cons_unit_of_not_mem _ _ _ _ _ _ (off4 i) 2 hi).trans ?_
  refine (View.read_writes_cons_unit_of_not_mem _ _ _ _ _ _ (off3 i) 2 hi).trans ?_
  refine (View.read_writes_cons_unit_of_not_mem _ _ _ _ _ _ (off2 i) 2 hi).trans ?_
  refine (View.read_writes_cons_unit_of_not_mem _ _ _ _ _ _ (off1 i) 2 hi).trans ?_
  exact congrFun (harg9.read_unread x7) _

set_option maxHeartbeats 1000000 in
theorem read7A_0 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 0 d (colOf i q)) = dqB x0 x1 x2 x3 x4 x5 x6 0 d q := by
  unfold runA; dsimp only
  refine (View.read_writes_cons_unit_of_not_mem _ _ _ _ _ _ (off8 i) 0 (Or.inl (show 0 < 7 by decide))).trans ?_
  refine (View.read_writes_cons_unit_of_not_mem _ _ _ _ _ _ (off7 i) 0 (Or.inl (show 0 < 6 by decide))).trans ?_
  refine (View.read_writes_cons_unit_of_not_mem _ _ _ _ _ _ (off6 i) 0 (Or.inl (show 0 < 5 by decide))).trans ?_
  refine (View.read_writes_cons_unit_of_not_mem _ _ _ _ _ _ (off5 i) 0 (Or.inl (show 0 < 4 by decide))).trans ?_
  refine (View.read_writes_cons_unit_of_not_mem _ _ _ _ _ _ (off4 i) 0 (Or.inl (show 0 < 3 by decide))).trans ?_
  refine (View.read_writes_cons_unit_of_not_mem _ _ _ _ _ _ (off3 i) 0 (Or.inl (show 0 < 2 by decide))).trans ?_
  refine (View.read_writes_cons_unit_of_not_mem _ _ _ _ _ _ (off2 i) 0 (Or.inl (show 0 < 1 by decide))).trans ?_
  refine (View.read_writes_cons_unit_of_mem _ _ _ _ _ _ (ix3 0 d q) (off1 i) (at_col i 0 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_1 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 1 d (colOf i q)) = dqB x0 x1 x2 x3 x4 x5 x6 1 d q := by
  unfold runA; dsimp only
  refine (View.read_writes_cons_unit_of_not_mem _ _ _ _ _ _ (off8 i) 0 (Or.inl (show 1 < 7 by decide))).trans ?_
  refine (View.read_writes_cons_unit_of_not_mem _ _ _ _ _ _ (off7 i) 0 (Or.inl (show 1 < 6 by decide))).trans ?_
  refine (View.read_writes_cons_unit_of_not_mem _ _ _ _ _ _ (off6 i) 0 (Or.inl (show 1 < 5 by decide))).trans ?_
  refine (View.read_writes_cons_unit_of_not_mem _ _ _ _ _ _ (off5 i) 0 (Or.inl (show 1 < 4 by decide))).trans ?_
  refine (View.read_writes_cons_unit_of_not_mem _ _ _ _ _ _ (off4 i) 0 (Or.inl (show 1 < 3 by decide))).trans ?_
  refine (View.read_writes_cons_unit_of_not_mem _ _ _ _ _ _ (off3 i) 0 (Or.inl (show 1 < 2 by decide))).trans ?_
  refine (View.read_writes_cons_unit_of_mem _ _ _ _ _ _ (ix3 0 d q) (off2 i) (at_col i 1 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_2 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 2 d (colOf i q)) = dqB x0 x1 x2 x3 x4 x5 x6 2 d q := by
  unfold runA; dsimp only
  refine (View.read_writes_cons_unit_of_not_mem _ _ _ _ _ _ (off8 i) 0 (Or.inl (show 2 < 7 by decide))).trans ?_
  refine (View.read_writes_cons_unit_of_not_mem _ _ _ _ _ _ (off7 i) 0 (Or.inl (show 2 < 6 by decide))).trans ?_
  refine (View.read_writes_cons_unit_of_not_mem _ _ _ _ _ _ (off6 i) 0 (Or.inl (show 2 < 5 by decide))).trans ?_
  refine (View.read_writes_cons_unit_of_not_mem _ _ _ _ _ _ (off5 i) 0 (Or.inl (show 2 < 4 by decide))).trans ?_
  refine (View.read_writes_cons_unit_of_not_mem _ _ _ _ _ _ (off4 i) 0 (Or.inl (show 2 < 3 by decide))).trans ?_
  refine (View.read_writes_cons_unit_of_mem _ _ _ _ _ _ (ix3 0 d q) (off3 i) (at_col i 2 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_3 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 3 d (colOf i q)) = dqB x0 x1 x2 x3 x4 x5 x6 3 d q := by
  unfold runA; dsimp only
  refine (View.read_writes_cons_unit_of_not_mem _ _ _ _ _ _ (off8 i) 0 (Or.inl (show 3 < 7 by decide))).trans ?_
  refine (View.read_writes_cons_unit_of_not_mem _ _ _ _ _ _ (off7 i) 0 (Or.inl (show 3 < 6 by decide))).trans ?_
  refine (View.read_writes_cons_unit_of_not_mem _ _ _ _ _ _ (off6 i) 0 (Or.inl (show 3 < 5 by decide))).trans ?_
  refine (View.read_writes_cons_unit_of_not_mem _ _ _ _ _ _ (off5 i) 0 (Or.inl (show 3 < 4 by decide))).trans ?_
  refine (View.read_writes_cons_unit_of_mem _ _ _ _ _ _ (ix3 0 d q) (off4 i) (at_col i 3 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_4 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 4 d (colOf i q)) = dqB x0 x1 x2 x3 x4 x5 x6 4 d q := by
  unfold runA; dsimp only
  refine (View.read_writes_cons_unit_of_not_mem _ _ _ _ _ _ (off8 i) 0 (Or.inl (show 4 < 7 by decide))).trans ?_
  refine (View.read_writes_cons_unit_of_not_mem _ _ _ _ _ _ (off7 i) 0 (Or.inl (show 4 < 6 by decide))).trans ?_
  refine (View.read_writes_cons_unit_of_not_mem _ _ _ _ _ _ (off6 i) 0 (Or.inl (show 4 < 5 by decide))).trans ?_
  refine (View.read_writes_cons_unit_of_mem _ _ _ _ _ _ (ix3 0 d q) (off5 i) (at_col i 4 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_5 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 5 d (colOf i q)) = dqB x0 x1 x2 x3 x4 x5 x6 5 d q := by
  unfold runA; dsimp only
  refine (View.read_writes_cons_unit_of_not_mem _ _ _ _ _ _ (off8 i) 0 (Or.inl (show 5 < 7 by decide))).trans ?_
  refine (View.read_writes_cons_unit_of_not_mem _ _ _ _ _ _ (off7 i) 0 (Or.inl (show 5 < 6 by decide))).trans ?_
  refine (View.read_writes_cons_unit_of_mem _ _ _ _ _ _ (ix3 0 d q) (off6 i) (at_col i 5 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_6 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 6 d (colOf i q)) = dqB x0 x1 x2 x3 x4 x5 x6 6 d q := by
  unfold runA; dsimp only
  refine (View.read_writes_cons_unit_of_not_mem _ _ _ _ _ _ (off8 i) 0 (Or.inl (show 6 < 7 by decide))).trans ?_
  refine (View.read_writes_cons_unit_of_mem _ _ _ _ _ _ (ix3 0 d q) (off7 i) (at_col i 6 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7A_7 (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 7 d (colOf i q)) = dqB x0 x1 x2 x3 x4 x5 x6 7 d q := by
  unfold runA; dsimp only
  refine (View.read_writes_cons_unit_of_mem _ _ _ _ _ _ (ix3 0 d q) (off8 i) (at_col i 7 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the queries' gradient at the point's columns. -/
theorem read7A (h : Fin 8) (d : Fin 64) (q : Fin 1024) :
    arg9.view.read (Elt Ideal) (arg9.view.writes (Elt Ideal) (harg9.unread x7) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d (colOf i q))
      = dqB x0 x1 x2 x3 x4 x5 x6 h d q := by
  fin_cases h
  · exact read7A_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_2 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_3 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_4 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_5 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_6 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7A_7 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q

set_option maxHeartbeats 1000000 in
theorem read8A_0 (d : Fin 64) (k : Fin 1024) :
    arg10.view.read (Elt Ideal) (arg10.view.writes (Elt Ideal) (harg10.unread x8) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 0 d k) = dkB x0 x1 x3 x4 x5 x6 0 d k := by
  unfold runA; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read8A_1 (d : Fin 64) (k : Fin 1024) :
    arg10.view.read (Elt Ideal) (arg10.view.writes (Elt Ideal) (harg10.unread x8) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 1 d k) = dkB x0 x1 x3 x4 x5 x6 1 d k := by
  unfold runA; dsimp only
  refine (View.read_writes_cons_unit_of_mem _ _ _ _ _ _ (ix3 0 d k) rfl (at_zero 1 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the keys' gradient. -/
theorem read8A (g : Fin 2) (d : Fin 64) (k : Fin 1024) :
    arg10.view.read (Elt Ideal) (arg10.view.writes (Elt Ideal) (harg10.unread x8) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 g d k) = dkB x0 x1 x3 x4 x5 x6 g d k := by
  fin_cases g
  · exact read8A_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read8A_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

set_option maxHeartbeats 1000000 in
theorem read9A_0 (d : Fin 64) (k : Fin 1024) :
    arg11.view.read (Elt Ideal) (arg11.view.writes (Elt Ideal) (harg11.unread x9) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 0 d k) = dvB x0 x1 x4 x6 0 d k := by
  unfold runA; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read9A_1 (d : Fin 64) (k : Fin 1024) :
    arg11.view.read (Elt Ideal) (arg11.view.writes (Elt Ideal) (harg11.unread x9) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 1 d k) = dvB x0 x1 x4 x6 1 d k := by
  unfold runA; dsimp only
  refine (View.read_writes_cons_unit_of_mem _ _ _ _ _ _ (ix3 0 d k) rfl (at_zero 1 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the values' gradient. -/
theorem read9A (g : Fin 2) (d : Fin 64) (k : Fin 1024) :
    arg11.view.read (Elt Ideal) (arg11.view.writes (Elt Ideal) (harg11.unread x9) (runA (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 g d k) = dvB x0 x1 x4 x6 g d k := by
  fin_cases g
  · exact read9A_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read9A_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

end CaseA

end Cert.AttnBwd

end
-- ==== Proof.CellsB.lean ====
/- What the attention backward kernel's body leaves in each output's staging memref, element by element, in case B:
   `runB`'s pieces read at an index, over the point's blocks. -/
module

public import proofs.«01_k».proof.Proof.RunB
public import proofs.«01_k».proof.Proof.Blk

@[expose] public section

set_option maxRecDepth 16384

noncomputable section

namespace Cert.AttnBwd

open Cert.Kernel Cert.Kernel.Gen
open Idealize.ShloMosaic Idealize.ShloMosaic.TcCoe Idealize.SL.Sem

section CaseB

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : ¬cond0_0 i) (hc1 : cond0_1 i) (hc2 : cond0_2 i) (hc3 : ¬cond0_3 i)
  (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32) (x7 : Vec Ideal S8x64x4096 .f32) (x8 : Vec Ideal S2x64x1024 .f32) (x9 : Vec Ideal S2x64x1024 .f32)

theorem read7B_miss (h : Fin 8) (d : Fin 64) (q : Fin 4096) (hq : q.val / 1024 ≠ (i 1).val) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d q) = x7 (ix3 h d q) := by
  have hi : q.val < 1024 * (i 1).val ∨ 1024 * (i 1).val + 1024 ≤ q.val := by omega
  unfold runB; dsimp only
  refine (View.read_writes_cons_unit_of_not_mem _ _ _ _ _ _ (off8 i) 2 hi).trans ?_
  refine (View.read_writes_cons_unit_of_not_mem _ _ _ _ _ _ (off7 i) 2 hi).trans ?_
  refine (View.read_writes_cons_unit_of_not_mem _ _ _ _ _ _ (off6 i) 2 hi).trans ?_
  refine (View.read_writes_cons_unit_of_not_mem _ _ _ _ _ _ (off5 i) 2 hi).trans ?_
  refine (View.read_writes_cons_unit_of_not_mem _ _ _ _ _ _ (off4 i) 2 hi).trans ?_
  refine (View.read_writes_cons_unit_of_not_mem _ _ _ _ _ _ (off3 i) 2 hi).trans ?_
  refine (View.read_writes_cons_unit_of_not_mem _ _ _ _ _ _ (off2 i) 2 hi).trans ?_
  refine (View.read_writes_cons_unit_of_not_mem _ _ _ _ _ _ (off1 i) 2 hi).trans ?_
  exact congrFun (harg9.read_unread x7) _

set_option maxHeartbeats 1000000 in
theorem read7B_0 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 0 d (colOf i q)) = dqB x0 x1 x2 x3 x4 x5 x6 0 d q := by
  unfold runB; dsimp only
  refine (View.read_writes_cons_unit_of_not_mem _ _ _ _ _ _ (off8 i) 0 (Or.inl (show 0 < 7 by decide))).trans ?_
  refine (View.read_writes_cons_unit_of_not_mem _ _ _ _ _ _ (off7 i) 0 (Or.inl (show 0 < 6 by decide))).trans ?_
  refine (View.read_writes_cons_unit_of_not_mem _ _ _ _ _ _ (off6 i) 0 (Or.inl (show 0 < 5 by decide))).trans ?_
  refine (View.read_writes_cons_unit_of_not_mem _ _ _ _ _ _ (off5 i) 0 (Or.inl (show 0 < 4 by decide))).trans ?_
  refine (View.read_writes_cons_unit_of_not_mem _ _ _ _ _ _ (off4 i) 0 (Or.inl (show 0 < 3 by decide))).trans ?_
  refine (View.read_writes_cons_unit_of_not_mem _ _ _ _ _ _ (off3 i) 0 (Or.inl (show 0 < 2 by decide))).trans ?_
  refine (View.read_writes_cons_unit_of_not_mem _ _ _ _ _ _ (off2 i) 0 (Or.inl (show 0 < 1 by decide))).trans ?_
  refine (View.read_writes_cons_unit_of_mem _ _ _ _ _ _ (ix3 0 d q) (off1 i) (at_col i 0 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_1 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 1 d (colOf i q)) = dqB x0 x1 x2 x3 x4 x5 x6 1 d q := by
  unfold runB; dsimp only
  refine (View.read_writes_cons_unit_of_not_mem _ _ _ _ _ _ (off8 i) 0 (Or.inl (show 1 < 7 by decide))).trans ?_
  refine (View.read_writes_cons_unit_of_not_mem _ _ _ _ _ _ (off7 i) 0 (Or.inl (show 1 < 6 by decide))).trans ?_
  refine (View.read_writes_cons_unit_of_not_mem _ _ _ _ _ _ (off6 i) 0 (Or.inl (show 1 < 5 by decide))).trans ?_
  refine (View.read_writes_cons_unit_of_not_mem _ _ _ _ _ _ (off5 i) 0 (Or.inl (show 1 < 4 by decide))).trans ?_
  refine (View.read_writes_cons_unit_of_not_mem _ _ _ _ _ _ (off4 i) 0 (Or.inl (show 1 < 3 by decide))).trans ?_
  refine (View.read_writes_cons_unit_of_not_mem _ _ _ _ _ _ (off3 i) 0 (Or.inl (show 1 < 2 by decide))).trans ?_
  refine (View.read_writes_cons_unit_of_mem _ _ _ _ _ _ (ix3 0 d q) (off2 i) (at_col i 1 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_2 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 2 d (colOf i q)) = dqB x0 x1 x2 x3 x4 x5 x6 2 d q := by
  unfold runB; dsimp only
  refine (View.read_writes_cons_unit_of_not_mem _ _ _ _ _ _ (off8 i) 0 (Or.inl (show 2 < 7 by decide))).trans ?_
  refine (View.read_writes_cons_unit_of_not_mem _ _ _ _ _ _ (off7 i) 0 (Or.inl (show 2 < 6 by decide))).trans ?_
  refine (View.read_writes_cons_unit_of_not_mem _ _ _ _ _ _ (off6 i) 0 (Or.inl (show 2 < 5 by decide))).trans ?_
  refine (View.read_writes_cons_unit_of_not_mem _ _ _ _ _ _ (off5 i) 0 (Or.inl (show 2 < 4 by decide))).trans ?_
  refine (View.read_writes_cons_unit_of_not_mem _ _ _ _ _ _ (off4 i) 0 (Or.inl (show 2 < 3 by decide))).trans ?_
  refine (View.read_writes_cons_unit_of_mem _ _ _ _ _ _ (ix3 0 d q) (off3 i) (at_col i 2 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_3 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 3 d (colOf i q)) = dqB x0 x1 x2 x3 x4 x5 x6 3 d q := by
  unfold runB; dsimp only
  refine (View.read_writes_cons_unit_of_not_mem _ _ _ _ _ _ (off8 i) 0 (Or.inl (show 3 < 7 by decide))).trans ?_
  refine (View.read_writes_cons_unit_of_not_mem _ _ _ _ _ _ (off7 i) 0 (Or.inl (show 3 < 6 by decide))).trans ?_
  refine (View.read_writes_cons_unit_of_not_mem _ _ _ _ _ _ (off6 i) 0 (Or.inl (show 3 < 5 by decide))).trans ?_
  refine (View.read_writes_cons_unit_of_not_mem _ _ _ _ _ _ (off5 i) 0 (Or.inl (show 3 < 4 by decide))).trans ?_
  refine (View.read_writes_cons_unit_of_mem _ _ _ _ _ _ (ix3 0 d q) (off4 i) (at_col i 3 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_4 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 4 d (colOf i q)) = dqB x0 x1 x2 x3 x4 x5 x6 4 d q := by
  unfold runB; dsimp only
  refine (View.read_writes_cons_unit_of_not_mem _ _ _ _ _ _ (off8 i) 0 (Or.inl (show 4 < 7 by decide))).trans ?_
  refine (View.read_writes_cons_unit_of_not_mem _ _ _ _ _ _ (off7 i) 0 (Or.inl (show 4 < 6 by decide))).trans ?_
  refine (View.read_writes_cons_unit_of_not_mem _ _ _ _ _ _ (off6 i) 0 (Or.inl (show 4 < 5 by decide))).trans ?_
  refine (View.read_writes_cons_unit_of_mem _ _ _ _ _ _ (ix3 0 d q) (off5 i) (at_col i 4 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_5 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 5 d (colOf i q)) = dqB x0 x1 x2 x3 x4 x5 x6 5 d q := by
  unfold runB; dsimp only
  refine (View.read_writes_cons_unit_of_not_mem _ _ _ _ _ _ (off8 i) 0 (Or.inl (show 5 < 7 by decide))).trans ?_
  refine (View.read_writes_cons_unit_of_not_mem _ _ _ _ _ _ (off7 i) 0 (Or.inl (show 5 < 6 by decide))).trans ?_
  refine (View.read_writes_cons_unit_of_mem _ _ _ _ _ _ (ix3 0 d q) (off6 i) (at_col i 5 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_6 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 6 d (colOf i q)) = dqB x0 x1 x2 x3 x4 x5 x6 6 d q := by
  unfold runB; dsimp only
  refine (View.read_writes_cons_unit_of_not_mem _ _ _ _ _ _ (off8 i) 0 (Or.inl (show 6 < 7 by decide))).trans ?_
  refine (View.read_writes_cons_unit_of_mem _ _ _ _ _ _ (ix3 0 d q) (off7 i) (at_col i 6 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read7B_7 (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 7 d (colOf i q)) = dqB x0 x1 x2 x3 x4 x5 x6 7 d q := by
  unfold runB; dsimp only
  refine (View.read_writes_cons_unit_of_mem _ _ _ _ _ _ (ix3 0 d q) (off8 i) (at_col i 7 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the queries' gradient at the point's columns. -/
theorem read7B (h : Fin 8) (d : Fin 64) (q : Fin 1024) :
    arg9.view.read (Elt Ideal) (arg9.view.writes (Elt Ideal) (harg9.unread x7) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d (colOf i q))
      = dqB x0 x1 x2 x3 x4 x5 x6 h d q := by
  fin_cases h
  · exact read7B_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_2 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_3 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_4 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_5 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_6 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7B_7 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q

set_option maxHeartbeats 1000000 in
theorem read8B_0 (d : Fin 64) (k : Fin 1024) :
    arg10.view.read (Elt Ideal) (arg10.view.writes (Elt Ideal) (harg10.unread x8) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 0 d k) = x8 (ix3 0 d k) + dkB x0 x1 x3 x4 x5 x6 0 d k := by
  unfold runB; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read8B_1 (d : Fin 64) (k : Fin 1024) :
    arg10.view.read (Elt Ideal) (arg10.view.writes (Elt Ideal) (harg10.unread x8) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 1 d k) = x8 (ix3 1 d k) + dkB x0 x1 x3 x4 x5 x6 1 d k := by
  unfold runB; dsimp only
  refine (View.read_writes_cons_unit_of_mem _ _ _ _ _ _ (ix3 0 d k) rfl (at_zero 1 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the keys' gradient. -/
theorem read8B (g : Fin 2) (d : Fin 64) (k : Fin 1024) :
    arg10.view.read (Elt Ideal) (arg10.view.writes (Elt Ideal) (harg10.unread x8) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 g d k) = x8 (ix3 g d k) + dkB x0 x1 x3 x4 x5 x6 g d k := by
  fin_cases g
  · exact read8B_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read8B_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

set_option maxHeartbeats 1000000 in
theorem read9B_0 (d : Fin 64) (k : Fin 1024) :
    arg11.view.read (Elt Ideal) (arg11.view.writes (Elt Ideal) (harg11.unread x9) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 0 d k) = x9 (ix3 0 d k) + dvB x0 x1 x4 x6 0 d k := by
  unfold runB; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read9B_1 (d : Fin 64) (k : Fin 1024) :
    arg11.view.read (Elt Ideal) (arg11.view.writes (Elt Ideal) (harg11.unread x9) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 1 d k) = x9 (ix3 1 d k) + dvB x0 x1 x4 x6 1 d k := by
  unfold runB; dsimp only
  refine (View.read_writes_cons_unit_of_mem _ _ _ _ _ _ (ix3 0 d k) rfl (at_zero 1 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the values' gradient. -/
theorem read9B (g : Fin 2) (d : Fin 64) (k : Fin 1024) :
    arg11.view.read (Elt Ideal) (arg11.view.writes (Elt Ideal) (harg11.unread x9) (runB (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 g d k) = x9 (ix3 g d k) + dvB x0 x1 x4 x6 g d k := by
  fin_cases g
  · exact read9B_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read9B_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

end CaseB

end Cert.AttnBwd

end
-- ==== Proof.CellsC.lean ====
/- What the attention backward kernel's body leaves in each output's staging memref, element by element, in case C:
   `runC`'s pieces read at an index, over the point's blocks. -/
module

public import proofs.«01_k».proof.Proof.RunC
public import proofs.«01_k».proof.Proof.Blk

@[expose] public section

set_option maxRecDepth 16384

noncomputable section

namespace Cert.AttnBwd

open Cert.Kernel Cert.Kernel.Gen
open Idealize.ShloMosaic Idealize.ShloMosaic.TcCoe Idealize.SL.Sem

section CaseC

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : cond0_0 i) (hc1 : ¬cond0_1 i) (hc2 : ¬cond0_2 i) (hc3 : cond0_3 i)
  (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32) (x7 : Vec Ideal S8x64x4096 .f32) (x8 : Vec Ideal S2x64x1024 .f32) (x9 : Vec Ideal S2x64x1024 .f32)

theorem read7C_miss (h : Fin 8) (d : Fin 64) (q : Fin 4096) (hq : q.val / 1024 ≠ (i 1).val) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d q) = x7 (ix3 h d q) := by
  have hi : q.val < 1024 * (i 1).val ∨ 1024 * (i 1).val + 1024 ≤ q.val := by omega
  unfold runC; dsimp only
  refine (View.read_writes_cons_unit_of_not_mem _ _ _ _ _ _ (off16 i) 2 hi).trans ?_
  refine (View.read_writes_cons_unit_of_not_mem _ _ _ _ _ _ (off15 i) 2 hi).trans ?_
  refine (View.read_writes_cons_unit_of_not_mem _ _ _ _ _ _ (off14 i) 2 hi).trans ?_
  refine (View.read_writes_cons_unit_of_not_mem _ _ _ _ _ _ (off13 i) 2 hi).trans ?_
  refine (View.read_writes_cons_unit_of_not_mem _ _ _ _ _ _ (off12 i) 2 hi).trans ?_
  refine (View.read_writes_cons_unit_of_not_mem _ _ _ _ _ _ (off11 i) 2 hi).trans ?_
  refine (View.read_writes_cons_unit_of_not_mem _ _ _ _ _ _ (off10 i) 2 hi).trans ?_
  refine (View.read_writes_cons_unit_of_not_mem _ _ _ _ _ _ (off9 i) 2 hi).trans ?_
  exact congrFun (harg9.read_unread x7) _

set_option maxHeartbeats 1000000 in
theorem read7C_0 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 0 d (colOf i q)) = x7 (ix3 0 d (colOf i q)) + dqB x0 x1 x2 x3 x4 x5 x6 0 d q := by
  unfold runC; dsimp only
  refine (View.read_writes_cons_unit_of_not_mem _ _ _ _ _ _ (off16 i) 0 (Or.inl (show 0 < 7 by decide))).trans ?_
  refine (View.read_writes_cons_unit_of_not_mem _ _ _ _ _ _ (off15 i) 0 (Or.inl (show 0 < 6 by decide))).trans ?_
  refine (View.read_writes_cons_unit_of_not_mem _ _ _ _ _ _ (off14 i) 0 (Or.inl (show 0 < 5 by decide))).trans ?_
  refine (View.read_writes_cons_unit_of_not_mem _ _ _ _ _ _ (off13 i) 0 (Or.inl (show 0 < 4 by decide))).trans ?_
  refine (View.read_writes_cons_unit_of_not_mem _ _ _ _ _ _ (off12 i) 0 (Or.inl (show 0 < 3 by decide))).trans ?_
  refine (View.read_writes_cons_unit_of_not_mem _ _ _ _ _ _ (off11 i) 0 (Or.inl (show 0 < 2 by decide))).trans ?_
  refine (View.read_writes_cons_unit_of_not_mem _ _ _ _ _ _ (off10 i) 0 (Or.inl (show 0 < 1 by decide))).trans ?_
  refine (View.read_writes_cons_unit_of_mem _ _ _ _ _ _ (ix3 0 d q) (off9 i) (at_col i 0 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off9]

set_option maxHeartbeats 1000000 in
theorem read7C_1 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 1 d (colOf i q)) = x7 (ix3 1 d (colOf i q)) + dqB x0 x1 x2 x3 x4 x5 x6 1 d q := by
  unfold runC; dsimp only
  refine (View.read_writes_cons_unit_of_not_mem _ _ _ _ _ _ (off16 i) 0 (Or.inl (show 1 < 7 by decide))).trans ?_
  refine (View.read_writes_cons_unit_of_not_mem _ _ _ _ _ _ (off15 i) 0 (Or.inl (show 1 < 6 by decide))).trans ?_
  refine (View.read_writes_cons_unit_of_not_mem _ _ _ _ _ _ (off14 i) 0 (Or.inl (show 1 < 5 by decide))).trans ?_
  refine (View.read_writes_cons_unit_of_not_mem _ _ _ _ _ _ (off13 i) 0 (Or.inl (show 1 < 4 by decide))).trans ?_
  refine (View.read_writes_cons_unit_of_not_mem _ _ _ _ _ _ (off12 i) 0 (Or.inl (show 1 < 3 by decide))).trans ?_
  refine (View.read_writes_cons_unit_of_not_mem _ _ _ _ _ _ (off11 i) 0 (Or.inl (show 1 < 2 by decide))).trans ?_
  refine (View.read_writes_cons_unit_of_mem _ _ _ _ _ _ (ix3 0 d q) (off10 i) (at_col i 1 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off10]

set_option maxHeartbeats 1000000 in
theorem read7C_2 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 2 d (colOf i q)) = x7 (ix3 2 d (colOf i q)) + dqB x0 x1 x2 x3 x4 x5 x6 2 d q := by
  unfold runC; dsimp only
  refine (View.read_writes_cons_unit_of_not_mem _ _ _ _ _ _ (off16 i) 0 (Or.inl (show 2 < 7 by decide))).trans ?_
  refine (View.read_writes_cons_unit_of_not_mem _ _ _ _ _ _ (off15 i) 0 (Or.inl (show 2 < 6 by decide))).trans ?_
  refine (View.read_writes_cons_unit_of_not_mem _ _ _ _ _ _ (off14 i) 0 (Or.inl (show 2 < 5 by decide))).trans ?_
  refine (View.read_writes_cons_unit_of_not_mem _ _ _ _ _ _ (off13 i) 0 (Or.inl (show 2 < 4 by decide))).trans ?_
  refine (View.read_writes_cons_unit_of_not_mem _ _ _ _ _ _ (off12 i) 0 (Or.inl (show 2 < 3 by decide))).trans ?_
  refine (View.read_writes_cons_unit_of_mem _ _ _ _ _ _ (ix3 0 d q) (off11 i) (at_col i 2 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off11]

set_option maxHeartbeats 1000000 in
theorem read7C_3 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 3 d (colOf i q)) = x7 (ix3 3 d (colOf i q)) + dqB x0 x1 x2 x3 x4 x5 x6 3 d q := by
  unfold runC; dsimp only
  refine (View.read_writes_cons_unit_of_not_mem _ _ _ _ _ _ (off16 i) 0 (Or.inl (show 3 < 7 by decide))).trans ?_
  refine (View.read_writes_cons_unit_of_not_mem _ _ _ _ _ _ (off15 i) 0 (Or.inl (show 3 < 6 by decide))).trans ?_
  refine (View.read_writes_cons_unit_of_not_mem _ _ _ _ _ _ (off14 i) 0 (Or.inl (show 3 < 5 by decide))).trans ?_
  refine (View.read_writes_cons_unit_of_not_mem _ _ _ _ _ _ (off13 i) 0 (Or.inl (show 3 < 4 by decide))).trans ?_
  refine (View.read_writes_cons_unit_of_mem _ _ _ _ _ _ (ix3 0 d q) (off12 i) (at_col i 3 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off12]

set_option maxHeartbeats 1000000 in
theorem read7C_4 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 4 d (colOf i q)) = x7 (ix3 4 d (colOf i q)) + dqB x0 x1 x2 x3 x4 x5 x6 4 d q := by
  unfold runC; dsimp only
  refine (View.read_writes_cons_unit_of_not_mem _ _ _ _ _ _ (off16 i) 0 (Or.inl (show 4 < 7 by decide))).trans ?_
  refine (View.read_writes_cons_unit_of_not_mem _ _ _ _ _ _ (off15 i) 0 (Or.inl (show 4 < 6 by decide))).trans ?_
  refine (View.read_writes_cons_unit_of_not_mem _ _ _ _ _ _ (off14 i) 0 (Or.inl (show 4 < 5 by decide))).trans ?_
  refine (View.read_writes_cons_unit_of_mem _ _ _ _ _ _ (ix3 0 d q) (off13 i) (at_col i 4 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off13]

set_option maxHeartbeats 1000000 in
theorem read7C_5 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 5 d (colOf i q)) = x7 (ix3 5 d (colOf i q)) + dqB x0 x1 x2 x3 x4 x5 x6 5 d q := by
  unfold runC; dsimp only
  refine (View.read_writes_cons_unit_of_not_mem _ _ _ _ _ _ (off16 i) 0 (Or.inl (show 5 < 7 by decide))).trans ?_
  refine (View.read_writes_cons_unit_of_not_mem _ _ _ _ _ _ (off15 i) 0 (Or.inl (show 5 < 6 by decide))).trans ?_
  refine (View.read_writes_cons_unit_of_mem _ _ _ _ _ _ (ix3 0 d q) (off14 i) (at_col i 5 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off14]

set_option maxHeartbeats 1000000 in
theorem read7C_6 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 6 d (colOf i q)) = x7 (ix3 6 d (colOf i q)) + dqB x0 x1 x2 x3 x4 x5 x6 6 d q := by
  unfold runC; dsimp only
  refine (View.read_writes_cons_unit_of_not_mem _ _ _ _ _ _ (off16 i) 0 (Or.inl (show 6 < 7 by decide))).trans ?_
  refine (View.read_writes_cons_unit_of_mem _ _ _ _ _ _ (ix3 0 d q) (off15 i) (at_col i 6 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off15]

set_option maxHeartbeats 1000000 in
theorem read7C_7 (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 7 d (colOf i q)) = x7 (ix3 7 d (colOf i q)) + dqB x0 x1 x2 x3 x4 x5 x6 7 d q := by
  unfold runC; dsimp only
  refine (View.read_writes_cons_unit_of_mem _ _ _ _ _ _ (ix3 0 d q) (off16 i) (at_col i 7 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off16]

/-- The block of the queries' gradient at the point's columns. -/
theorem read7C (h : Fin 8) (d : Fin 64) (q : Fin 1024) :
    arg9.view.read (Elt Ideal) (arg9.view.writes (Elt Ideal) (harg9.unread x7) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d (colOf i q))
      = x7 (ix3 h d (colOf i q)) + dqB x0 x1 x2 x3 x4 x5 x6 h d q := by
  fin_cases h
  · exact read7C_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_2 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_3 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_4 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_5 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_6 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7C_7 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q

set_option maxHeartbeats 1000000 in
theorem read8C_0 (d : Fin 64) (k : Fin 1024) :
    arg10.view.read (Elt Ideal) (arg10.view.writes (Elt Ideal) (harg10.unread x8) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 0 d k) = dkB x0 x1 x3 x4 x5 x6 0 d k := by
  unfold runC; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read8C_1 (d : Fin 64) (k : Fin 1024) :
    arg10.view.read (Elt Ideal) (arg10.view.writes (Elt Ideal) (harg10.unread x8) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 1 d k) = dkB x0 x1 x3 x4 x5 x6 1 d k := by
  unfold runC; dsimp only
  refine (View.read_writes_cons_unit_of_mem _ _ _ _ _ _ (ix3 0 d k) rfl (at_zero 1 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the keys' gradient. -/
theorem read8C (g : Fin 2) (d : Fin 64) (k : Fin 1024) :
    arg10.view.read (Elt Ideal) (arg10.view.writes (Elt Ideal) (harg10.unread x8) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 g d k) = dkB x0 x1 x3 x4 x5 x6 g d k := by
  fin_cases g
  · exact read8C_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read8C_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

set_option maxHeartbeats 1000000 in
theorem read9C_0 (d : Fin 64) (k : Fin 1024) :
    arg11.view.read (Elt Ideal) (arg11.view.writes (Elt Ideal) (harg11.unread x9) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 0 d k) = dvB x0 x1 x4 x6 0 d k := by
  unfold runC; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read9C_1 (d : Fin 64) (k : Fin 1024) :
    arg11.view.read (Elt Ideal) (arg11.view.writes (Elt Ideal) (harg11.unread x9) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 1 d k) = dvB x0 x1 x4 x6 1 d k := by
  unfold runC; dsimp only
  refine (View.read_writes_cons_unit_of_mem _ _ _ _ _ _ (ix3 0 d k) rfl (at_zero 1 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the values' gradient. -/
theorem read9C (g : Fin 2) (d : Fin 64) (k : Fin 1024) :
    arg11.view.read (Elt Ideal) (arg11.view.writes (Elt Ideal) (harg11.unread x9) (runC (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 g d k) = dvB x0 x1 x4 x6 g d k := by
  fin_cases g
  · exact read9C_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read9C_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

end CaseC

end Cert.AttnBwd

end
-- ==== Proof.CellsD.lean ====
/- What the attention backward kernel's body leaves in each output's staging memref, element by element, in case D:
   `runD`'s pieces read at an index, over the point's blocks. -/
module

public import proofs.«01_k».proof.Proof.RunD
public import proofs.«01_k».proof.Proof.Blk

@[expose] public section

set_option maxRecDepth 16384

noncomputable section

namespace Cert.AttnBwd

open Cert.Kernel Cert.Kernel.Gen
open Idealize.ShloMosaic Idealize.ShloMosaic.TcCoe Idealize.SL.Sem

section CaseD

variable (c : Dev nD) (i : grid0.Coords) (arg2 : Memref sig .tc .vmem S8x64x1024 .bf16) (harg2 : arg2.IsWhole) (arg3 : Memref sig .tc .vmem S2x1024x64 .bf16) (harg3 : arg3.IsWhole) (arg4 : Memref sig .tc .vmem S2x64x1024 .bf16) (harg4 : arg4.IsWhole) (arg5 : Memref sig .tc .vmem S2x1024x64 .bf16) (harg5 : arg5.IsWhole) (arg6 : Memref sig .tc .vmem S8x64x1024 .bf16) (harg6 : arg6.IsWhole) (arg7 : Memref sig .tc .vmem S8x64x1024 .f32) (harg7 : arg7.IsWhole) (arg8 : Memref sig .tc .vmem S2x4x1024 .f32) (harg8 : arg8.IsWhole) (arg9 : Memref sig .tc .vmem S8x64x4096 .f32) (harg9 : arg9.IsWhole) (arg10 : Memref sig .tc .vmem S2x64x1024 .f32) (harg10 : arg10.IsWhole) (arg11 : Memref sig .tc .vmem S2x64x1024 .f32) (harg11 : arg11.IsWhole) (hc0 : ¬cond0_0 i) (hc1 : cond0_1 i) (hc2 : ¬cond0_2 i) (hc3 : cond0_3 i)
  (x0 : Vec Ideal S8x64x1024 .bf16) (x1 : Vec Ideal S2x1024x64 .bf16) (x2 : Vec Ideal S2x64x1024 .bf16) (x3 : Vec Ideal S2x1024x64 .bf16) (x4 : Vec Ideal S8x64x1024 .bf16) (x5 : Vec Ideal S8x64x1024 .f32) (x6 : Vec Ideal S2x4x1024 .f32) (x7 : Vec Ideal S8x64x4096 .f32) (x8 : Vec Ideal S2x64x1024 .f32) (x9 : Vec Ideal S2x64x1024 .f32)

theorem read7D_miss (h : Fin 8) (d : Fin 64) (q : Fin 4096) (hq : q.val / 1024 ≠ (i 1).val) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d q) = x7 (ix3 h d q) := by
  have hi : q.val < 1024 * (i 1).val ∨ 1024 * (i 1).val + 1024 ≤ q.val := by omega
  unfold runD; dsimp only
  refine (View.read_writes_cons_unit_of_not_mem _ _ _ _ _ _ (off16 i) 2 hi).trans ?_
  refine (View.read_writes_cons_unit_of_not_mem _ _ _ _ _ _ (off15 i) 2 hi).trans ?_
  refine (View.read_writes_cons_unit_of_not_mem _ _ _ _ _ _ (off14 i) 2 hi).trans ?_
  refine (View.read_writes_cons_unit_of_not_mem _ _ _ _ _ _ (off13 i) 2 hi).trans ?_
  refine (View.read_writes_cons_unit_of_not_mem _ _ _ _ _ _ (off12 i) 2 hi).trans ?_
  refine (View.read_writes_cons_unit_of_not_mem _ _ _ _ _ _ (off11 i) 2 hi).trans ?_
  refine (View.read_writes_cons_unit_of_not_mem _ _ _ _ _ _ (off10 i) 2 hi).trans ?_
  refine (View.read_writes_cons_unit_of_not_mem _ _ _ _ _ _ (off9 i) 2 hi).trans ?_
  exact congrFun (harg9.read_unread x7) _

set_option maxHeartbeats 1000000 in
theorem read7D_0 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 0 d (colOf i q)) = x7 (ix3 0 d (colOf i q)) + dqB x0 x1 x2 x3 x4 x5 x6 0 d q := by
  unfold runD; dsimp only
  refine (View.read_writes_cons_unit_of_not_mem _ _ _ _ _ _ (off16 i) 0 (Or.inl (show 0 < 7 by decide))).trans ?_
  refine (View.read_writes_cons_unit_of_not_mem _ _ _ _ _ _ (off15 i) 0 (Or.inl (show 0 < 6 by decide))).trans ?_
  refine (View.read_writes_cons_unit_of_not_mem _ _ _ _ _ _ (off14 i) 0 (Or.inl (show 0 < 5 by decide))).trans ?_
  refine (View.read_writes_cons_unit_of_not_mem _ _ _ _ _ _ (off13 i) 0 (Or.inl (show 0 < 4 by decide))).trans ?_
  refine (View.read_writes_cons_unit_of_not_mem _ _ _ _ _ _ (off12 i) 0 (Or.inl (show 0 < 3 by decide))).trans ?_
  refine (View.read_writes_cons_unit_of_not_mem _ _ _ _ _ _ (off11 i) 0 (Or.inl (show 0 < 2 by decide))).trans ?_
  refine (View.read_writes_cons_unit_of_not_mem _ _ _ _ _ _ (off10 i) 0 (Or.inl (show 0 < 1 by decide))).trans ?_
  refine (View.read_writes_cons_unit_of_mem _ _ _ _ _ _ (ix3 0 d q) (off9 i) (at_col i 0 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off9]

set_option maxHeartbeats 1000000 in
theorem read7D_1 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 1 d (colOf i q)) = x7 (ix3 1 d (colOf i q)) + dqB x0 x1 x2 x3 x4 x5 x6 1 d q := by
  unfold runD; dsimp only
  refine (View.read_writes_cons_unit_of_not_mem _ _ _ _ _ _ (off16 i) 0 (Or.inl (show 1 < 7 by decide))).trans ?_
  refine (View.read_writes_cons_unit_of_not_mem _ _ _ _ _ _ (off15 i) 0 (Or.inl (show 1 < 6 by decide))).trans ?_
  refine (View.read_writes_cons_unit_of_not_mem _ _ _ _ _ _ (off14 i) 0 (Or.inl (show 1 < 5 by decide))).trans ?_
  refine (View.read_writes_cons_unit_of_not_mem _ _ _ _ _ _ (off13 i) 0 (Or.inl (show 1 < 4 by decide))).trans ?_
  refine (View.read_writes_cons_unit_of_not_mem _ _ _ _ _ _ (off12 i) 0 (Or.inl (show 1 < 3 by decide))).trans ?_
  refine (View.read_writes_cons_unit_of_not_mem _ _ _ _ _ _ (off11 i) 0 (Or.inl (show 1 < 2 by decide))).trans ?_
  refine (View.read_writes_cons_unit_of_mem _ _ _ _ _ _ (ix3 0 d q) (off10 i) (at_col i 1 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off10]

set_option maxHeartbeats 1000000 in
theorem read7D_2 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 2 d (colOf i q)) = x7 (ix3 2 d (colOf i q)) + dqB x0 x1 x2 x3 x4 x5 x6 2 d q := by
  unfold runD; dsimp only
  refine (View.read_writes_cons_unit_of_not_mem _ _ _ _ _ _ (off16 i) 0 (Or.inl (show 2 < 7 by decide))).trans ?_
  refine (View.read_writes_cons_unit_of_not_mem _ _ _ _ _ _ (off15 i) 0 (Or.inl (show 2 < 6 by decide))).trans ?_
  refine (View.read_writes_cons_unit_of_not_mem _ _ _ _ _ _ (off14 i) 0 (Or.inl (show 2 < 5 by decide))).trans ?_
  refine (View.read_writes_cons_unit_of_not_mem _ _ _ _ _ _ (off13 i) 0 (Or.inl (show 2 < 4 by decide))).trans ?_
  refine (View.read_writes_cons_unit_of_not_mem _ _ _ _ _ _ (off12 i) 0 (Or.inl (show 2 < 3 by decide))).trans ?_
  refine (View.read_writes_cons_unit_of_mem _ _ _ _ _ _ (ix3 0 d q) (off11 i) (at_col i 2 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off11]

set_option maxHeartbeats 1000000 in
theorem read7D_3 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 3 d (colOf i q)) = x7 (ix3 3 d (colOf i q)) + dqB x0 x1 x2 x3 x4 x5 x6 3 d q := by
  unfold runD; dsimp only
  refine (View.read_writes_cons_unit_of_not_mem _ _ _ _ _ _ (off16 i) 0 (Or.inl (show 3 < 7 by decide))).trans ?_
  refine (View.read_writes_cons_unit_of_not_mem _ _ _ _ _ _ (off15 i) 0 (Or.inl (show 3 < 6 by decide))).trans ?_
  refine (View.read_writes_cons_unit_of_not_mem _ _ _ _ _ _ (off14 i) 0 (Or.inl (show 3 < 5 by decide))).trans ?_
  refine (View.read_writes_cons_unit_of_not_mem _ _ _ _ _ _ (off13 i) 0 (Or.inl (show 3 < 4 by decide))).trans ?_
  refine (View.read_writes_cons_unit_of_mem _ _ _ _ _ _ (ix3 0 d q) (off12 i) (at_col i 3 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off12]

set_option maxHeartbeats 1000000 in
theorem read7D_4 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 4 d (colOf i q)) = x7 (ix3 4 d (colOf i q)) + dqB x0 x1 x2 x3 x4 x5 x6 4 d q := by
  unfold runD; dsimp only
  refine (View.read_writes_cons_unit_of_not_mem _ _ _ _ _ _ (off16 i) 0 (Or.inl (show 4 < 7 by decide))).trans ?_
  refine (View.read_writes_cons_unit_of_not_mem _ _ _ _ _ _ (off15 i) 0 (Or.inl (show 4 < 6 by decide))).trans ?_
  refine (View.read_writes_cons_unit_of_not_mem _ _ _ _ _ _ (off14 i) 0 (Or.inl (show 4 < 5 by decide))).trans ?_
  refine (View.read_writes_cons_unit_of_mem _ _ _ _ _ _ (ix3 0 d q) (off13 i) (at_col i 4 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off13]

set_option maxHeartbeats 1000000 in
theorem read7D_5 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 5 d (colOf i q)) = x7 (ix3 5 d (colOf i q)) + dqB x0 x1 x2 x3 x4 x5 x6 5 d q := by
  unfold runD; dsimp only
  refine (View.read_writes_cons_unit_of_not_mem _ _ _ _ _ _ (off16 i) 0 (Or.inl (show 5 < 7 by decide))).trans ?_
  refine (View.read_writes_cons_unit_of_not_mem _ _ _ _ _ _ (off15 i) 0 (Or.inl (show 5 < 6 by decide))).trans ?_
  refine (View.read_writes_cons_unit_of_mem _ _ _ _ _ _ (ix3 0 d q) (off14 i) (at_col i 5 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off14]

set_option maxHeartbeats 1000000 in
theorem read7D_6 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 6 d (colOf i q)) = x7 (ix3 6 d (colOf i q)) + dqB x0 x1 x2 x3 x4 x5 x6 6 d q := by
  unfold runD; dsimp only
  refine (View.read_writes_cons_unit_of_not_mem _ _ _ _ _ _ (off16 i) 0 (Or.inl (show 6 < 7 by decide))).trans ?_
  refine (View.read_writes_cons_unit_of_mem _ _ _ _ _ _ (ix3 0 d q) (off15 i) (at_col i 6 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off15]

set_option maxHeartbeats 1000000 in
theorem read7D_7 (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 7 d (colOf i q)) = x7 (ix3 7 d (colOf i q)) + dqB x0 x1 x2 x3 x4 x5 x6 7 d q := by
  unfold runD; dsimp only
  refine (View.read_writes_cons_unit_of_mem _ _ _ _ _ _ (ix3 0 d q) (off16 i) (at_col i 7 d q)).trans ?_
  frame_out
  pointwise [dqB, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  refine congrArg₂ (· + ·) (congrArg x7 ?_) rfl
  refine (ix3_inj ..).2 ⟨?_, ?_, ?_⟩ <;> refine Fin.ext ?_ <;> simp [off16]

/-- The block of the queries' gradient at the point's columns. -/
theorem read7D (h : Fin 8) (d : Fin 64) (q : Fin 1024) :
    arg9.view.read (Elt Ideal) (arg9.view.writes (Elt Ideal) (harg9.unread x7) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).1) (ix3 h d (colOf i q))
      = x7 (ix3 h d (colOf i q)) + dqB x0 x1 x2 x3 x4 x5 x6 h d q := by
  fin_cases h
  · exact read7D_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_2 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_3 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_4 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_5 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_6 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q
  · exact read7D_7 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d q

set_option maxHeartbeats 1000000 in
theorem read8D_0 (d : Fin 64) (k : Fin 1024) :
    arg10.view.read (Elt Ideal) (arg10.view.writes (Elt Ideal) (harg10.unread x8) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 0 d k) = x8 (ix3 0 d k) + dkB x0 x1 x3 x4 x5 x6 0 d k := by
  unfold runD; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read8D_1 (d : Fin 64) (k : Fin 1024) :
    arg10.view.read (Elt Ideal) (arg10.view.writes (Elt Ideal) (harg10.unread x8) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 1 d k) = x8 (ix3 1 d k) + dkB x0 x1 x3 x4 x5 x6 1 d k := by
  unfold runD; dsimp only
  refine (View.read_writes_cons_unit_of_mem _ _ _ _ _ _ (ix3 0 d k) rfl (at_zero 1 d k)).trans ?_
  frame_out
  pointwise [dkB, dkH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the keys' gradient. -/
theorem read8D (g : Fin 2) (d : Fin 64) (k : Fin 1024) :
    arg10.view.read (Elt Ideal) (arg10.view.writes (Elt Ideal) (harg10.unread x8) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.1) (ix3 g d k) = x8 (ix3 g d k) + dkB x0 x1 x3 x4 x5 x6 g d k := by
  fin_cases g
  · exact read8D_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read8D_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

set_option maxHeartbeats 1000000 in
theorem read9D_0 (d : Fin 64) (k : Fin 1024) :
    arg11.view.read (Elt Ideal) (arg11.view.writes (Elt Ideal) (harg11.unread x9) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 0 d k) = x9 (ix3 0 d k) + dvB x0 x1 x4 x6 0 d k := by
  unfold runD; dsimp only
  refine (View.read_writes_cons_unit_of_not_mem _ _ _ _ _ _ rfl 0 (Or.inl (show 0 < 1 by decide))).trans ?_
  refine (View.read_writes_cons_unit_of_mem _ _ _ _ _ _ (ix3 0 d k) rfl (at_zero 0 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

set_option maxHeartbeats 1000000 in
theorem read9D_1 (d : Fin 64) (k : Fin 1024) :
    arg11.view.read (Elt Ideal) (arg11.view.writes (Elt Ideal) (harg11.unread x9) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 1 d k) = x9 (ix3 1 d k) + dvB x0 x1 x4 x6 1 d k := by
  unfold runD; dsimp only
  refine (View.read_writes_cons_unit_of_mem _ _ _ _ _ _ (ix3 0 d k) rfl (at_zero 1 d k)).trans ?_
  frame_out
  pointwise [dvB, dvH, dsB, ptB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  rfl

/-- The block of the values' gradient. -/
theorem read9D (g : Fin 2) (d : Fin 64) (k : Fin 1024) :
    arg11.view.read (Elt Ideal) (arg11.view.writes (Elt Ideal) (harg11.unread x9) (runD (F := Ideal) c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9).2.2.val) (ix3 g d k) = x9 (ix3 g d k) + dvB x0 x1 x4 x6 g d k := by
  fin_cases g
  · exact read9D_0 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k
  · exact read9D_1 c i arg2 harg2 arg3 harg3 arg4 harg4 arg5 harg5 arg6 harg6 arg7 harg7 arg8 harg8 arg9 harg9 arg10 harg10 arg11 harg11 hc0 hc1 hc2 hc3 x0 x1 x2 x3 x4 x5 x6 x7 x8 x9 d k

end CaseD

end Cert.AttnBwd

end
-- ==== Proof.Body.lean ====
/- The attention backward kernel's body obligation: after grid point `t` each gradient's staging memref holds the sum of
   what the points so far added to it, and the launch over that proof data. -/
module

public import proofs.«01_k».proof.Proof.CellsA
public import proofs.«01_k».proof.Proof.CellsB
public import proofs.«01_k».proof.Proof.CellsC
public import proofs.«01_k».proof.Proof.CellsD
public import proofs.«01_k».proof.Proof.Step

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## What a point adds -/

/-- Grid point `n` (blocks of keys outside, blocks of queries inside). -/
def pt (n : ℕ) : Fin cfg0.N := ⟨n % 16, by rw [show cfg0.N = 16 from N_0]; omega⟩

theorem pt_val (t : Fin cfg0.N) : pt t.val = t :=
  Fin.ext (Nat.mod_eq_of_lt (lt_of_lt_of_eq t.isLt (show cfg0.N = 16 from N_0)))

/-- What point `n` adds to the queries' gradient, -/
def T7 (c : Dev nD) (n : ℕ) (h : Fin 8) (d : Fin 64) (q : Fin 1024) : EReal :=
  dqB (iblk m c 0 (pt n)) (iblk m c 1 (pt n)) (iblk m c 2 (pt n)) (iblk m c 3 (pt n)) (iblk m c 4 (pt n)) (iblk m c 5 (pt n)) (iblk m c 6 (pt n)) h d q
/-- to the keys', -/
def T8 (c : Dev nD) (n : ℕ) (g : Fin 2) (d : Fin 64) (k : Fin 1024) : EReal :=
  dkB (iblk m c 0 (pt n)) (iblk m c 1 (pt n)) (iblk m c 3 (pt n)) (iblk m c 4 (pt n)) (iblk m c 5 (pt n)) (iblk m c 6 (pt n)) g d k
/-- and to the values'. -/
def T9 (c : Dev nD) (n : ℕ) (g : Fin 2) (d : Fin 64) (k : Fin 1024) : EReal :=
  dvB (iblk m c 0 (pt n)) (iblk m c 1 (pt n)) (iblk m c 4 (pt n)) (iblk m c 6 (pt n)) g d k

/-- Column `q` of query block `b`. -/
abbrev col4 (b : Fin 4) (q : Fin 1024) : Fin 4096 := ⟨1024 * b.val + q.val, by omega⟩

/-- How many blocks of keys have been added to query block `b` after point `n`. -/
def seen (n : ℕ) (b : Fin 4) : ℕ := n / 4 + if b.val ≤ n % 4 then 1 else 0

/-- After point `t` every query block begun holds the sum over the key blocks so far; -/
def R7 (c : Dev nD) (n : ℕ) (X : FVec Ideal S8x64x4096 .f32) : Prop :=
  ∀ (h : Fin 8) (d : Fin 64) (b : Fin 4) (q : Fin 1024), 0 < seen n b →
    X (ix3 h d (col4 b q)) = ∑ j ∈ Finset.range (seen n b), T7 m c (4 * j + b.val) h d q
/-- the key block's gradients hold the sum over the query blocks so far. -/
def R8 (c : Dev nD) (n : ℕ) (X : FVec Ideal S2x64x1024 .f32) : Prop :=
  ∀ (g : Fin 2) (d : Fin 64) (k : Fin 1024), X (ix3 g d k) = ∑ i ∈ Finset.range (n % 4 + 1), T8 m c (4 * (n / 4) + i) g d k
def R9 (c : Dev nD) (n : ℕ) (X : FVec Ideal S2x64x1024 .f32) : Prop :=
  ∀ (g : Fin 2) (d : Fin 64) (k : Fin 1024), X (ix3 g d k) = ∑ i ∈ Finset.range (n % 4 + 1), T9 m c (4 * (n / 4) + i) g d k

/-- One point's step on the queries' gradient. -/
theorem step7 (c : Dev nD) (n : ℕ) (Y X : FVec Ideal S8x64x4096 .f32) (hprev : n ≠ 0 → R7 m c (n - 1) Y)
    (hmiss : ∀ (h : Fin 8) (d : Fin 64) (b : Fin 4) (q : Fin 1024), b.val ≠ n % 4 → X (ix3 h d (col4 b q)) = Y (ix3 h d (col4 b q)))
    (hhit : ∀ (h : Fin 8) (d : Fin 64) (b : Fin 4) (q : Fin 1024), b.val = n % 4 →
      X (ix3 h d (col4 b q)) = if n < 4 then T7 m c n h d q else Y (ix3 h d (col4 b q)) + T7 m c n h d q) : R7 m c n X := by
  intro h d b q hn
  by_cases hb : b.val = n % 4
  · rw [hhit h d b q hb]
    by_cases h4 : n < 4
    · have e : seen n b = 1 := by unfold seen; rw [if_pos (by omega)]; omega
      rw [if_pos h4, e, Finset.sum_range_one, show 4 * 0 + b.val = n by omega]
    · have e : seen n b = n / 4 + 1 := by unfold seen; rw [if_pos (by omega)]
      have e' : seen (n - 1) b = n / 4 := by unfold seen; split <;> omega
      rw [if_neg h4, e, Finset.sum_range_succ, show 4 * (n / 4) + b.val = n by omega,
        hprev (by omega) h d b q (by omega), e']
  · rw [hmiss h d b q hb]
    have e : seen (n - 1) b = seen n b := by
      unfold seen at hn ⊢
      split_ifs at hn ⊢ <;> omega
    have hne : n ≠ 0 := by
      rintro rfl
      unfold seen at hn
      rw [if_neg (by omega)] at hn
      omega
    rw [hprev hne h d b q (by omega), e]

/-- One point's step on the keys' gradient. -/
theorem step8 (c : Dev nD) (n : ℕ) (Y X : FVec Ideal S2x64x1024 .f32) (hprev : n % 4 ≠ 0 → R8 m c (n - 1) Y)
    (hX : ∀ (g : Fin 2) (d : Fin 64) (k : Fin 1024),
      X (ix3 g d k) = if n % 4 = 0 then T8 m c n g d k else Y (ix3 g d k) + T8 m c n g d k) : R8 m c n X := by
  intro g d k
  rw [hX g d k]
  by_cases h : n % 4 = 0
  · rw [if_pos h, h, Finset.sum_range_one, show 4 * (n / 4) + 0 = n by omega]
  · rw [if_neg h, Finset.sum_range_succ, show 4 * (n / 4) + n % 4 = n by omega, hprev h g d k,
      show (n - 1) % 4 + 1 = n % 4 by omega, show (n - 1) / 4 = n / 4 by omega]

/-- One point's step on the values' gradient. -/
theorem step9 (c : Dev nD) (n : ℕ) (Y X : FVec Ideal S2x64x1024 .f32) (hprev : n % 4 ≠ 0 → R9 m c (n - 1) Y)
    (hX : ∀ (g : Fin 2) (d : Fin 64) (k : Fin 1024),
      X (ix3 g d k) = if n % 4 = 0 then T9 m c n g d k else Y (ix3 g d k) + T9 m c n g d k) : R9 m c n X := by
  intro g d k
  rw [hX g d k]
  by_cases h : n % 4 = 0
  · rw [if_pos h, h, Finset.sum_range_one, show 4 * (n / 4) + 0 = n by omega]
  · rw [if_neg h, Finset.sum_range_succ, show 4 * (n / 4) + n % 4 = n by omega, hprev h g d k,
      show (n - 1) % 4 + 1 = n % 4 by omega, show (n - 1) / 4 = n / 4 by omega]

/-! ## The proof data -/

/-- What the marked windows are held to. -/
def Rl (c : Dev nD) : Holds (F := Ideal)
  | ⟨7, _⟩, t, X => R7 m c t.val X
  | ⟨8, _⟩, t, X => R8 m c t.val X
  | ⟨9, _⟩, t, X => R9 m c t.val X
  | _, _, _ => True

/-- The proof data, the outputs held to their sums so far. -/
abbrev rdat := rdatOf m (Rl m)

theorem coord1 : ∀ t : Fin cfg0.N, (grid0.coords t 1).val = t.val % 4 :=
  (by decide +kernel : ∀ t : Fin grid0.N, (grid0.coords t 1).val = t.val % 4)

theorem found7 (c : Dev nD) (t : Fin cfg0.N) (Y : FVec Ideal S8x64x4096 .f32) (h : (rdat m c).Finds 7 t Y) (ht : t.val ≠ 0) :
    R7 m c (t.val - 1) Y := by
  have hN : t.val < 16 := lt_of_lt_of_eq t.isLt (show cfg0.N = 16 from N_0)
  rcases ((rdat m c).finds_of_pos (w := 7) (t := t) rfl ht Y).mp h with hf | hl
  · have := (flush0_7 _).mp hf; simp only at this; omega
  · exact (dats m 0 c).toRRel_leaves rfl hl

theorem found8 (c : Dev nD) (t : Fin cfg0.N) (Y : FVec Ideal S2x64x1024 .f32) (h : (rdat m c).Finds 8 t Y) (ht : t.val % 4 ≠ 0) :
    R8 m c (t.val - 1) Y := by
  rcases ((rdat m c).finds_of_pos (w := 8) (t := t) rfl (fun h0 => ht (by omega)) Y).mp h with hf | hl
  · have := (flush0_8 _).mp hf; simp only at this; omega
  · exact (dats m 0 c).toRRel_leaves rfl hl

theorem found9 (c : Dev nD) (t : Fin cfg0.N) (Y : FVec Ideal S2x64x1024 .f32) (h : (rdat m c).Finds 9 t Y) (ht : t.val % 4 ≠ 0) :
    R9 m c (t.val - 1) Y := by
  rcases ((rdat m c).finds_of_pos (w := 9) (t := t) rfl (fun h0 => ht (by omega)) Y).mp h with hf | hl
  · have := (flush0_9 _).mp hf; simp only at this; omega
  · exact (dats m 0 c).toRRel_leaves rfl hl

/-! ## What each case leaves -/

section
variable (c : Dev nD) (t : Fin cfg0.N) (h0 : t.val % 4 = 0) (h1 : ¬ 1 ≤ t.val % 4) (h2 : t.val < 4) (h3 : ¬ 4 ≤ t.val)
  (Y7 : Vec Ideal S8x64x4096 .f32) (Y8 Y9 : Vec Ideal S2x64x1024 .f32)

theorem keeps7A (hf : (rdat m c).Finds 7 t Y7) :
    Rl m c 7 t ((ms0_7 t).view.read (Elt Ideal) ((ms0_7 t).view.writes (Elt Ideal) ((hs0_7 t).unread Y7) (atA m c t Y7 Y8 Y9 h0 h1 h2 h3).1)) := by
  refine step7 m c t.val Y7 _ (found7 m c t Y7 hf) (fun h d b q hb => ?_) (fun h d b q hb => ?_)
  · exact read7A_miss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 h d (col4 b q) (by rw [coord1]; show (1024 * b.val + q.val) / 1024 ≠ _; omega)
  · have e : col4 b q = colOf (grid0.coords t) q := Fin.ext (by show 1024 * b.val + q.val = 1024 * (grid0.coords t 1).val + q.val; rw [coord1, hb])
    rw [if_pos h2, e]
    refine (read7A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 h d q).trans ?_
    unfold T7; rw [pt_val]

theorem keeps8A (hf : (rdat m c).Finds 8 t Y8) :
    Rl m c 8 t ((ms0_8 t).view.read (Elt Ideal) ((ms0_8 t).view.writes (Elt Ideal) ((hs0_8 t).unread Y8) (atA m c t Y7 Y8 Y9 h0 h1 h2 h3).2.1)) := by
  refine step8 m c t.val Y8 _ (found8 m c t Y8 hf) (fun g d k => ?_)
  rw [if_pos h0]
  refine (read8A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 g d k).trans ?_
  unfold T8; rw [pt_val]

theorem keeps9A (hf : (rdat m c).Finds 9 t Y9) :
    Rl m c 9 t ((ms0_9 t).view.read (Elt Ideal) ((ms0_9 t).view.writes (Elt Ideal) ((hs0_9 t).unread Y9) (atA m c t Y7 Y8 Y9 h0 h1 h2 h3).2.2.val)) := by
  refine step9 m c t.val Y9 _ (found9 m c t Y9 hf) (fun g d k => ?_)
  rw [if_pos h0]
  refine (read9A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 g d k).trans ?_
  unfold T9; rw [pt_val]

end

section
variable (c : Dev nD) (t : Fin cfg0.N) (h0 : ¬ t.val % 4 = 0) (h1 : 1 ≤ t.val % 4) (h2 : t.val < 4) (h3 : ¬ 4 ≤ t.val)
  (Y7 : Vec Ideal S8x64x4096 .f32) (Y8 Y9 : Vec Ideal S2x64x1024 .f32)

theorem keeps7B (hf : (rdat m c).Finds 7 t Y7) :
    Rl m c 7 t ((ms0_7 t).view.read (Elt Ideal) ((ms0_7 t).view.writes (Elt Ideal) ((hs0_7 t).unread Y7) (atB m c t Y7 Y8 Y9 h0 h1 h2 h3).1)) := by
  refine step7 m c t.val Y7 _ (found7 m c t Y7 hf) (fun h d b q hb => ?_) (fun h d b q hb => ?_)
  · exact read7B_miss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 h d (col4 b q) (by rw [coord1]; show (1024 * b.val + q.val) / 1024 ≠ _; omega)
  · have e : col4 b q = colOf (grid0.coords t) q := Fin.ext (by show 1024 * b.val + q.val = 1024 * (grid0.coords t 1).val + q.val; rw [coord1, hb])
    rw [if_pos h2, e]
    refine (read7B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 h d q).trans ?_
    unfold T7; rw [pt_val]

theorem keeps8B (hf : (rdat m c).Finds 8 t Y8) :
    Rl m c 8 t ((ms0_8 t).view.read (Elt Ideal) ((ms0_8 t).view.writes (Elt Ideal) ((hs0_8 t).unread Y8) (atB m c t Y7 Y8 Y9 h0 h1 h2 h3).2.1)) := by
  refine step8 m c t.val Y8 _ (found8 m c t Y8 hf) (fun g d k => ?_)
  rw [if_neg h0]
  refine (read8B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 g d k).trans ?_
  unfold T8; rw [pt_val]

theorem keeps9B (hf : (rdat m c).Finds 9 t Y9) :
    Rl m c 9 t ((ms0_9 t).view.read (Elt Ideal) ((ms0_9 t).view.writes (Elt Ideal) ((hs0_9 t).unread Y9) (atB m c t Y7 Y8 Y9 h0 h1 h2 h3).2.2.val)) := by
  refine step9 m c t.val Y9 _ (found9 m c t Y9 hf) (fun g d k => ?_)
  rw [if_neg h0]
  refine (read9B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) Y7 Y8 Y9 g d k).trans ?_
  unfold T9; rw [pt_val]

end

section
variable (c : Dev nD) (t : Fin cfg0.N) (h0 : t.val % 4 = 0) (h1 : ¬ 1 ≤ t.val % 4) (h2 : ¬ t.val < 4) (h3 : 4 ≤ t.val)
  (Y7 : Vec Ideal S8x64x4096 .f32) (Y8 Y9 : Vec Ideal S2x64x1024 .f32)

theorem keeps7C (hf : (rdat m c).Finds 7 t Y7) :
    Rl m c 7 t ((ms0_7 t).view.read (Elt Ideal) ((ms0_7 t).view.writes (Elt Ideal) ((hs0_7 t).unread Y7) (atC m c t Y7 Y8 Y9 h0 h1 h2 h3).1)) := by
  refine step7 m c t.val Y7 _ (found7 m c t Y7 hf) (fun h d b q hb => ?_) (fun h d b q hb => ?_)
  · exact read7C_miss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 h d (col4 b q) (by rw [coord1]; show (1024 * b.val + q.val) / 1024 ≠ _; omega)
  · have e : col4 b q = colOf (grid0.coords t) q := Fin.ext (by show 1024 * b.val + q.val = 1024 * (grid0.coords t 1).val + q.val; rw [coord1, hb])
    rw [if_neg h2, e]
    refine (read7C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 h d q).trans ?_
    unfold T7; rw [pt_val]

theorem keeps8C (hf : (rdat m c).Finds 8 t Y8) :
    Rl m c 8 t ((ms0_8 t).view.read (Elt Ideal) ((ms0_8 t).view.writes (Elt Ideal) ((hs0_8 t).unread Y8) (atC m c t Y7 Y8 Y9 h0 h1 h2 h3).2.1)) := by
  refine step8 m c t.val Y8 _ (found8 m c t Y8 hf) (fun g d k => ?_)
  rw [if_pos h0]
  refine (read8C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 g d k).trans ?_
  unfold T8; rw [pt_val]

theorem keeps9C (hf : (rdat m c).Finds 9 t Y9) :
    Rl m c 9 t ((ms0_9 t).view.read (Elt Ideal) ((ms0_9 t).view.writes (Elt Ideal) ((hs0_9 t).unread Y9) (atC m c t Y7 Y8 Y9 h0 h1 h2 h3).2.2.val)) := by
  refine step9 m c t.val Y9 _ (found9 m c t Y9 hf) (fun g d k => ?_)
  rw [if_pos h0]
  refine (read9C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 g d k).trans ?_
  unfold T9; rw [pt_val]

end

section
variable (c : Dev nD) (t : Fin cfg0.N) (h0 : ¬ t.val % 4 = 0) (h1 : 1 ≤ t.val % 4) (h2 : ¬ t.val < 4) (h3 : 4 ≤ t.val)
  (Y7 : Vec Ideal S8x64x4096 .f32) (Y8 Y9 : Vec Ideal S2x64x1024 .f32)

theorem keeps7D (hf : (rdat m c).Finds 7 t Y7) :
    Rl m c 7 t ((ms0_7 t).view.read (Elt Ideal) ((ms0_7 t).view.writes (Elt Ideal) ((hs0_7 t).unread Y7) (atD m c t Y7 Y8 Y9 h0 h1 h2 h3).1)) := by
  refine step7 m c t.val Y7 _ (found7 m c t Y7 hf) (fun h d b q hb => ?_) (fun h d b q hb => ?_)
  · exact read7D_miss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 h d (col4 b q) (by rw [coord1]; show (1024 * b.val + q.val) / 1024 ≠ _; omega)
  · have e : col4 b q = colOf (grid0.coords t) q := Fin.ext (by show 1024 * b.val + q.val = 1024 * (grid0.coords t 1).val + q.val; rw [coord1, hb])
    rw [if_neg h2, e]
    refine (read7D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 h d q).trans ?_
    unfold T7; rw [pt_val]

theorem keeps8D (hf : (rdat m c).Finds 8 t Y8) :
    Rl m c 8 t ((ms0_8 t).view.read (Elt Ideal) ((ms0_8 t).view.writes (Elt Ideal) ((hs0_8 t).unread Y8) (atD m c t Y7 Y8 Y9 h0 h1 h2 h3).2.1)) := by
  refine step8 m c t.val Y8 _ (found8 m c t Y8 hf) (fun g d k => ?_)
  rw [if_neg h0]
  refine (read8D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 g d k).trans ?_
  unfold T8; rw [pt_val]

theorem keeps9D (hf : (rdat m c).Finds 9 t Y9) :
    Rl m c 9 t ((ms0_9 t).view.read (Elt Ideal) ((ms0_9 t).view.writes (Elt Ideal) ((hs0_9 t).unread Y9) (atD m c t Y7 Y8 Y9 h0 h1 h2 h3).2.2.val)) := by
  refine step9 m c t.val Y9 _ (found9 m c t Y9 hf) (fun g d k => ?_)
  rw [if_neg h0]
  refine (read9D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) Y7 Y8 Y9 g d k).trans ?_
  unfold T9; rw [pt_val]

end

theorem keeps (c : Dev nD) (t : Fin cfg0.N) : Keeps m (Rl m) c t := by
  intro Y7 Y8 Y9 hf7 hf8 hf9
  have hN : t.val < 16 := lt_of_lt_of_eq t.isLt (show cfg0.N = 16 from N_0)
  by_cases h0 : t.val % 4 = 0 <;> by_cases h2 : t.val < 4
  · have h1 : ¬ 1 ≤ t.val % 4 := by omega
    have h3 : ¬ 4 ≤ t.val := by omega
    exact ⟨_, _, _, (atA m c t Y7 Y8 Y9 h0 h1 h2 h3).2.2.property, keeps7A m c t h0 h1 h2 h3 Y7 Y8 Y9 hf7, keeps8A m c t h0 h1 h2 h3 Y7 Y8 Y9 hf8,
      keeps9A m c t h0 h1 h2 h3 Y7 Y8 Y9 hf9⟩
  · have h1 : ¬ 1 ≤ t.val % 4 := by omega
    have h3 : 4 ≤ t.val := by omega
    exact ⟨_, _, _, (atC m c t Y7 Y8 Y9 h0 h1 h2 h3).2.2.property, keeps7C m c t h0 h1 h2 h3 Y7 Y8 Y9 hf7, keeps8C m c t h0 h1 h2 h3 Y7 Y8 Y9 hf8,
      keeps9C m c t h0 h1 h2 h3 Y7 Y8 Y9 hf9⟩
  · have h1 : 1 ≤ t.val % 4 := by omega
    have h3 : ¬ 4 ≤ t.val := by omega
    exact ⟨_, _, _, (atB m c t Y7 Y8 Y9 h0 h1 h2 h3).2.2.property, keeps7B m c t h0 h1 h2 h3 Y7 Y8 Y9 hf7, keeps8B m c t h0 h1 h2 h3 Y7 Y8 Y9 hf8,
      keeps9B m c t h0 h1 h2 h3 Y7 Y8 Y9 hf9⟩
  · have h1 : 1 ≤ t.val % 4 := by omega
    have h3 : 4 ≤ t.val := by omega
    exact ⟨_, _, _, (atD m c t Y7 Y8 Y9 h0 h1 h2 h3).2.2.property, keeps7D m c t h0 h1 h2 h3 Y7 Y8 Y9 hf7, keeps8D m c t h0 h1 h2 h3 Y7 Y8 Y9 hf8,
      keeps9D m c t h0 h1 h2 h3 Y7 Y8 Y9 hf9⟩

/-- The launch: every final state has the arrays at contents that relational proof data allow, and every counter at zero. -/
theorem launch : θ_run defs (onTc (τ := τ) (main (F := Ideal))) (s₀ m ρ)
    (fun r => Pipeline.RDat.FramePost (cfgs 0) (rdat m) (V m) r ∧ r.2.sem = fun _ => 0) :=
  launchOf m ρ (keeps m)

end Cert.AttnBwd

end
-- ==== Proof.Arrays.lean ====
/- The three gradients' arrays after the launch, element by element, as sums over the grid points of what each point adds,
   and each point's blocks as parts of the arrays the region starts from. -/
module

public import proofs.«01_k».proof.Proof.Body

@[expose] public section

set_option maxRecDepth 16384

noncomputable section

namespace Cert.AttnBwd

open Cert.Kernel Cert.Kernel.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (ρ : Dev nD → PrngReg)

theorem idx : ∀ t : Fin cfg0.N, win0_0.index t = ![0, 0, t.val % 4] ∧ win0_1.index t = ![0, t.val / 4, 0]
    ∧ win0_2.index t = ![0, 0, t.val / 4] ∧ win0_3.index t = ![0, t.val / 4, 0] ∧ win0_4.index t = ![0, 0, t.val % 4]
    ∧ win0_5.index t = ![0, 0, t.val % 4] ∧ win0_6.index t = ![0, 0, t.val % 4] ∧ win0_7.index t = ![0, 0, 0]
    ∧ win0_8.index t = ![0, 0, t.val / 4] ∧ win0_9.index t = ![0, 0, t.val / 4] ∧ t.val / 4 < 4 :=
  (by decide +kernel : ∀ t : Fin grid0.N, win0_0.index t = ![0, 0, t.val % 4] ∧ win0_1.index t = ![0, t.val / 4, 0]
    ∧ win0_2.index t = ![0, 0, t.val / 4] ∧ win0_3.index t = ![0, t.val / 4, 0] ∧ win0_4.index t = ![0, 0, t.val % 4]
    ∧ win0_5.index t = ![0, 0, t.val % 4] ∧ win0_6.index t = ![0, 0, t.val % 4] ∧ win0_7.index t = ![0, 0, 0]
    ∧ win0_8.index t = ![0, 0, t.val / 4] ∧ win0_9.index t = ![0, 0, t.val / 4] ∧ t.val / 4 < 4)

/-! ## The blocks a point reads -/

section
variable (c : Dev nD) (j i : Fin 4)

theorem pt_at : (pt (4 * j.val + i.val)).val = 4 * j.val + i.val := Nat.mod_eq_of_lt (by omega)

theorem blk_q (h : Fin 8) (d : Fin 64) (q : Fin 1024) :
    iblk m c 0 (pt (4 * j.val + i.val)) (ix3 h d q) = V m c main_v18 (ix3 h d (col4 i q)) := by
  have e := pt_at j i
  have e1 : (4 * j.val + i.val) % 4 = i.val := by omega
  blk_ext [iblk, idx (pt (4 * j.val + i.val)), e, e1]
theorem blk_k (g : Fin 2) (k : Fin 1024) (d : Fin 64) :
    iblk m c 1 (pt (4 * j.val + i.val)) (ix3 g k d) = V m c main_v20 (ix3 g (col4 j k) d) := by
  have e := pt_at j i
  have e1 : (4 * j.val + i.val) / 4 = j.val := by omega
  blk_ext [iblk, idx (pt (4 * j.val + i.val)), e, e1]
theorem blk_kt (g : Fin 2) (d : Fin 64) (k : Fin 1024) :
    iblk m c 2 (pt (4 * j.val + i.val)) (ix3 g d k) = V m c main_v22 (ix3 g d (col4 j k)) := by
  have e := pt_at j i
  have e1 : (4 * j.val + i.val) / 4 = j.val := by omega
  blk_ext [iblk, idx (pt (4 * j.val + i.val)), e, e1]
theorem blk_v (g : Fin 2) (k : Fin 1024) (d : Fin 64) :
    iblk m c 3 (pt (4 * j.val + i.val)) (ix3 g k d) = V m c main_v24 (ix3 g (col4 j k) d) := by
  have e := pt_at j i
  have e1 : (4 * j.val + i.val) / 4 = j.val := by omega
  blk_ext [iblk, idx (pt (4 * j.val + i.val)), e, e1]
theorem blk_do (h : Fin 8) (d : Fin 64) (q : Fin 1024) :
    iblk m c 4 (pt (4 * j.val + i.val)) (ix3 h d q) = V m c main_v27 (ix3 h d (col4 i q)) := by
  have e := pt_at j i
  have e1 : (4 * j.val + i.val) % 4 = i.val := by omega
  blk_ext [iblk, idx (pt (4 * j.val + i.val)), e, e1]
theorem blk_o (h : Fin 8) (d : Fin 64) (q : Fin 1024) :
    iblk m c 5 (pt (4 * j.val + i.val)) (ix3 h d q) = V m c main_v44 (ix3 h d (col4 i q)) := by
  have e := pt_at j i
  have e1 : (4 * j.val + i.val) % 4 = i.val := by omega
  blk_ext [iblk, idx (pt (4 * j.val + i.val)), e, e1]
theorem blk_lse (g : Fin 2) (r : Fin 4) (q : Fin 1024) :
    iblk m c 6 (pt (4 * j.val + i.val)) (ix3 g r q) = V m c main_v12 (ix3 g r (col4 i q)) := by
  have e := pt_at j i
  have e1 : (4 * j.val + i.val) % 4 = i.val := by omega
  blk_ext [iblk, idx (pt (4 * j.val + i.val)), e, e1]

end

/-! ## The arrays after the launch -/

/-- The queries' gradient, -/
def G7 (c : Dev nD) (i : S8x64x4096.Idx) : EReal :=
  ∑ j ∈ Finset.range 4, T7 m c (4 * j + (i 2).val / 1024) (i 0) (i 1) ⟨(i 2).val % 1024, by omega⟩
/-- the keys', -/
def G8 (c : Dev nD) (i : S2x64x4096.Idx) : EReal :=
  ∑ j ∈ Finset.range 4, T8 m c (4 * ((i 2).val / 1024) + j) (i 0) (i 1) ⟨(i 2).val % 1024, by omega⟩
/-- and the values'. -/
def G9 (c : Dev nD) (i : S2x64x4096.Idx) : EReal :=
  ∑ j ∈ Finset.range 4, T9 m c (4 * ((i 2).val / 1024) + j) (i 0) (i 1) ⟨(i 2).val % 1024, by omega⟩

theorem final7 (r) (h : Pipeline.RDat.FramePost (cfgs 0) (rdat m) (V m) r) (c : Dev nD) :
    r.2.mem ((c : Thread nD τ).loc main_v45_0) = G7 m c := by
  obtain ⟨after, hL, hA⟩ := h.exists_exact c
  rw [show r.2.mem ((c : Thread nD τ).loc main_v45_0) = _ from hA 7]
  refine Pipeline.Dat.arrAt_eq_of_covers ((rdat m c).withAfter after) 7 (G7 m c) (by decide +kernel) (fun t hf y => ?_)
  have hl : R7 m c t.val (after 7 t) := (dats m 0 c).toRRel_leaves (w := 7) rfl (hL 7 t hf)
  have ht : t.val % 16 = 15 := (flush0_7 t).mp hf
  have hN : t.val < 16 := lt_of_lt_of_eq t.isLt (show cfg0.N = 16 from N_0)
  have hy : (y 2).val < 4096 := (y 2).isLt
  have hs : seen t.val ⟨(y 2).val / 1024, by omega⟩ = 4 := by unfold seen; split <;> omega
  have e := hl (y 0) (y 1) ⟨(y 2).val / 1024, by omega⟩ ⟨(y 2).val % 1024, by omega⟩ (by rw [hs]; omega)
  rw [hs] at e
  have ey : (y : S8x64x4096.Idx) = ix3 (y 0) (y 1) (col4 ⟨(y 2).val / 1024, by omega⟩ ⟨(y 2).val % 1024, by omega⟩) := by
    blk_ext []
  have ee : ((cfg0.win 7).blk t).view.emb y = (y : S8x64x4096.Idx) := by blk_ext [idx t]
  rw [ee]
  blk_simp
  refine Eq.trans ?_ e
  exact congrArg (after 7 t) ey

theorem final8 (r) (h : Pipeline.RDat.FramePost (cfgs 0) (rdat m) (V m) r) (c : Dev nD) :
    r.2.mem ((c : Thread nD τ).loc main_v45_1) = G8 m c := by
  obtain ⟨after, hL, hA⟩ := h.exists_exact c
  rw [show r.2.mem ((c : Thread nD τ).loc main_v45_1) = _ from hA 8]
  refine Pipeline.Dat.arrAt_eq_of_covers ((rdat m c).withAfter after) 8 (G8 m c) (by decide +kernel) (fun t hf y => ?_)
  have hl : R8 m c t.val (after 8 t) := (dats m 0 c).toRRel_leaves (w := 8) rfl (hL 8 t hf)
  have ht : t.val % 4 = 3 := (flush0_8 t).mp hf
  have hN : t.val < 16 := lt_of_lt_of_eq t.isLt (show cfg0.N = 16 from N_0)
  have hy : (y 2).val < 1024 := (y 2).isLt
  have e := hl (y 0) (y 1) (y 2)
  rw [ht] at e
  have ey : (y : S2x64x1024.Idx) = ix3 (y 0) (y 1) (y 2) := by blk_ext []
  have ee : ((cfg0.win 8).blk t).view.emb y = (ix3 (y 0) (y 1) (col4 ⟨t.val / 4, by omega⟩ (y 2)) : S2x64x4096.Idx) := by blk_ext [idx t]
  rw [ee]
  blk_simp
  refine (congrArg (after 8 t) ey).trans (e.trans ?_)
  unfold G8
  have e1 : (1024 * (t.val / 4) + (y 2).val) / 1024 = t.val / 4 := by omega
  have e2 : (1024 * (t.val / 4) + (y 2).val) % 1024 = (y 2).val := by omega
  refine Finset.sum_congr rfl fun j _ => ?_
  show _ = T8 m c (4 * ((1024 * (t.val / 4) + (y 2).val) / 1024) + j) (y 0) (y 1) ⟨(1024 * (t.val / 4) + (y 2).val) % 1024, _⟩
  congr 1
  · rw [e1]
  · exact Fin.ext e2.symm

theorem final9 (r) (h : Pipeline.RDat.FramePost (cfgs 0) (rdat m) (V m) r) (c : Dev nD) :
    r.2.mem ((c : Thread nD τ).loc main_v45_2) = G9 m c := by
  obtain ⟨after, hL, hA⟩ := h.exists_exact c
  rw [show r.2.mem ((c : Thread nD τ).loc main_v45_2) = _ from hA 9]
  refine Pipeline.Dat.arrAt_eq_of_covers ((rdat m c).withAfter after) 9 (G9 m c) (by decide +kernel) (fun t hf y => ?_)
  have hl : R9 m c t.val (after 9 t) := (dats m 0 c).toRRel_leaves (w := 9) rfl (hL 9 t hf)
  have ht : t.val % 4 = 3 := (flush0_9 t).mp hf
  have hN : t.val < 16 := lt_of_lt_of_eq t.isLt (show cfg0.N = 16 from N_0)
  have hy : (y 2).val < 1024 := (y 2).isLt
  have e := hl (y 0) (y 1) (y 2)
  rw [ht] at e
  have ey : (y : S2x64x1024.Idx) = ix3 (y 0) (y 1) (y 2) := by blk_ext []
  have ee : ((cfg0.win 9).blk t).view.emb y = (ix3 (y 0) (y 1) (col4 ⟨t.val / 4, by omega⟩ (y 2)) : S2x64x4096.Idx) := by blk_ext [idx t]
  rw [ee]
  blk_simp
  refine (congrArg (after 9 t) ey).trans (e.trans ?_)
  unfold G9
  have e1 : (1024 * (t.val / 4) + (y 2).val) / 1024 = t.val / 4 := by omega
  have e2 : (1024 * (t.val / 4) + (y 2).val) % 1024 = (y 2).val := by omega
  refine Finset.sum_congr rfl fun j _ => ?_
  show _ = T9 m c (4 * ((1024 * (t.val / 4) + (y 2).val) / 1024) + j) (y 0) (y 1) ⟨(1024 * (t.val / 4) + (y 2).val) % 1024, _⟩
  congr 1
  · rw [e1]
  · exact Fin.ext e2.symm

end Cert.AttnBwd

end
-- ==== Proof.Host.lean ====
/- The arrays the attention backward region starts from, element by element, where the arguments are real: the base-two
   queries, keys, values and output gradients laid out by heads, the attention's output, and the saved log-sum. -/
module

public import proofs.«01_k».proof.Proof.Soft
public import proofs.«01_k».proof.Proof.Gen.Kernel.Skeleton
public import proofs.«01_k».proof.Proof.Arrays

@[expose] public section

set_option maxRecDepth 16384

noncomputable section

namespace Cert.AttnBwd

open Cert.Kernel Cert.Kernel.Gen
open Idealize.ShloMosaic Idealize.ShloMosaic.TcCoe Idealize.SL.Sem

theorem ofBits_neg_inf : Ideal.ofBits .f32 4286578688#32 = ⊥ := by simp [Ideal.ofBits, Ideal.ieee]
theorem ofBits_inf : Ideal.ofBits .f32 2139095040#32 = ⊤ := by simp [Ideal.ofBits, Ideal.ieee]
theorem ofBits_two : Ideal.ofBits .f32 1073741824#32 = ((2 : ℝ) : EReal) := by
  simp [Ideal.ofBits, Ideal.ieee, -EReal.coe_mul]; norm_num

/-! ## The layers of the attention -/

/-- The scores, -/
def scoreT (q : FVec Ideal S4096x2x4x64 .f32) (k : FVec Ideal S4096x2x64 .f32) : FVec Ideal S2x4x4096x4096 .f32 :=
  transpose S2x4x4096x4096 [0, 3, 2, 1] (Host.dotGeneral dot_S4096x2x64_S4096x2x4x64_S2x4096x4096x4_2_3_0_02_1_1 none k q)
    transposes_S2x4096x4096x4_S2x4x4096x4096_0_3_2_1
/-- their largest for a query, -/
def maxT (s : FVec Ideal S2x4x4096x4096 .f32) : FVec Ideal S2x4x4096 .f32 :=
  Host.reduce FloatOps.maximumf s (constant S_ FTy.f32 4286578688#32) reducesTo_S2x4x4096x4096_S2x4x4096_d3 h_S_
/-- the same, once more at least minus infinity, -/
def maxT' (mx : FVec Ideal S2x4x4096 .f32) : FVec Ideal S2x4x4096 .f32 :=
  maximumf (broadcastInDim S2x4x4096 ![] bcast_S_S2x4x4096 (constant (F := Ideal) S_ FTy.f32 4286578688#32)) mx
/-- a number for every query as one for every query and key, -/
def toKeys (x : FVec Ideal S2x4x4096 .f32) : FVec Ideal S2x4x4096x4096 .f32 :=
  broadcastInDim S2x4x4096x4096 ![0, 1, 2, 3] bcast_S2x4x4096x1_S2x4x4096x4096_0_1_2_3
    (broadcastInDim S2x4x4096x1 ![0, 1, 2] bcast_S2x4x4096_S2x4x4096x1_0_1_2 x)
/-- the exponentials of the shifted scores, -/
def expT (s : FVec Ideal S2x4x4096x4096 .f32) (mx : FVec Ideal S2x4x4096 .f32) : FVec Ideal S2x4x4096x4096 .f32 :=
  Host.exp (subf s (toKeys mx))
/-- their sums, -/
def sumT (e : FVec Ideal S2x4x4096x4096 .f32) : FVec Ideal S2x4x4096 .f32 :=
  Host.reduceAdd e (constant S_ FTy.f32 0#32) reducesTo_S2x4x4096x4096_S2x4x4096_d3 h_S_
/-- the probabilities, -/
def probT (e : FVec Ideal S2x4x4096x4096 .f32) (z : FVec Ideal S2x4x4096 .f32) : FVec Ideal S2x4x4096x4096 .f32 :=
  Host.divf e (toKeys z)
/-- the log-sum in base two, -/
def lseT (mx z : FVec Ideal S2x4x4096 .f32) : FVec Ideal S2x4x4096 .f32 :=
  Host.divf (addf mx (Host.log z)) (broadcastInDim S2x4x4096 ![] bcast_S_S2x4x4096 (Host.log (constant S_ FTy.f32 1073741824#32)))
/-- an array of queries by heads, -/
def headsT (x : FVec Ideal S4096x2x4x64 .f32) : FVec Ideal S8x64x4096 .f32 :=
  shapeCast S8x64x4096 (transpose S2x4x64x4096 [1, 2, 3, 0] x transposes_S4096x2x4x64_S2x4x64x4096_1_2_3_0) shapeCasts_S2x4x64x4096_S8x64x4096
/-- and the attention's output. -/
def outT (v : FVec Ideal S4096x2x64 .f32) (p : FVec Ideal S2x4x4096x4096 .f32) : FVec Ideal S4096x2x4x64 .f32 :=
  transpose S4096x2x4x64 [3, 0, 2, 1] (Host.dotGeneral dot_S4096x2x64_S2x4x4096x4096_S2x64x4x4096_0_3_2_12_1_0 none v p)
    transposes_S2x64x4x4096_S4096x2x4x64_3_0_2_1

theorem scoreT_at (q : FVec Ideal S4096x2x4x64 .f32) (k : FVec Ideal S4096x2x64 .f32) (g : Fin 2) (r : Fin 4) (a s : Fin 4096) :
    scoreT q k (ix4 g r a s) = ∑ d : Fin 64, k (ix3 s g d) * q (ix4 a g r d) := by
  pointwise [scoreT]

theorem maxT_at (S : FVec Ideal S2x4x4096x4096 .f32) (g : Fin 2) (r : Fin 4) (a : Fin 4096) :
    maxT S (ix3 g r a) = (Finset.univ : Finset (Fin 4096)).fold max (⊥ : EReal) (fun s => S (ix4 g r a s)) := by
  pointwise [maxT]
  rw [ofBits_neg_inf]

theorem maxT'_at (mx : FVec Ideal S2x4x4096 .f32) (g : Fin 2) (r : Fin 4) (a : Fin 4096) :
    maxT' mx (ix3 g r a) = max (⊥ : EReal) (mx (ix3 g r a)) := by
  pointwise [maxT']
  rw [ofBits_neg_inf]

theorem expT_at (S : FVec Ideal S2x4x4096x4096 .f32) (mx : FVec Ideal S2x4x4096 .f32) (g : Fin 2) (r : Fin 4) (a s : Fin 4096) :
    expT S mx (ix4 g r a s) = Ideal.exp (S (ix4 g r a s) - mx (ix3 g r a)) := by
  pointwise [expT, toKeys]

theorem sumT_at (e : FVec Ideal S2x4x4096x4096 .f32) (g : Fin 2) (r : Fin 4) (a : Fin 4096) :
    sumT e (ix3 g r a) = ∑ s : Fin 4096, e (ix4 g r a s) := by
  pointwise [sumT]

theorem probT_at (e : FVec Ideal S2x4x4096x4096 .f32) (z : FVec Ideal S2x4x4096 .f32) (g : Fin 2) (r : Fin 4) (a s : Fin 4096) :
    probT e z (ix4 g r a s) = Ideal.div (e (ix4 g r a s)) (z (ix3 g r a)) := by
  pointwise [probT, toKeys]

theorem lseT_at (mx z : FVec Ideal S2x4x4096 .f32) (g : Fin 2) (r : Fin 4) (a : Fin 4096) :
    lseT mx z (ix3 g r a) = Ideal.div (mx (ix3 g r a) + Ideal.log (z (ix3 g r a))) (Ideal.log (Ideal.ofBits .f32 1073741824#32)) := by
  pointwise [lseT]

theorem headsT_at (x : FVec Ideal S4096x2x4x64 .f32) (h : Fin 8) (d : Fin 64) (a : Fin 4096) :
    headsT x (ix3 h d a) = x (ix4 a (grp h) (sub4 h) d) := by
  pointwise [headsT]

theorem outT_at (v : FVec Ideal S4096x2x64 .f32) (p : FVec Ideal S2x4x4096x4096 .f32) (a : Fin 4096) (g : Fin 2) (r : Fin 4) (d : Fin 64) :
    outT v p (ix4 a g r d) = ∑ s : Fin 4096, v (ix3 s g d) * p (ix4 g r a s) := by
  pointwise [outT]

/-! ## Where the arguments are real -/

section Lift

variable {q : FVec Ideal S4096x2x4x64 .f32} {k v : FVec Ideal S4096x2x64 .f32}
  {rq : Fin 4096 → Fin 2 → Fin 4 → Fin 64 → ℝ} {rk rv : Fin 4096 → Fin 2 → Fin 64 → ℝ}
  (hq : ∀ a g r d, q (ix4 a g r d) = ((rq a g r d : ℝ) : EReal)) (hk : ∀ s g d, k (ix3 s g d) = ((rk s g d : ℝ) : EReal))
  (hv : ∀ s g d, v (ix3 s g d) = ((rv s g d : ℝ) : EReal))

include hq hk in
theorem score_real (g : Fin 2) (r : Fin 4) (a s : Fin 4096) : scoreT q k (ix4 g r a s) = ((rs rq rk g r a s : ℝ) : EReal) := by
  rw [scoreT_at, rs, ← sum_coe]
  exact Finset.sum_congr rfl fun d _ => by rw [hq, hk, EReal.coe_mul]

include hq hk in
/-- The largest score is some real. -/
theorem max_real : ∃ M : Fin 2 → Fin 4 → Fin 4096 → ℝ, ∀ g r a, maxT (scoreT q k) (ix3 g r a) = ((M g r a : ℝ) : EReal) := by
  have h : ∀ g r a, ∃ M : ℝ, maxT (scoreT q k) (ix3 g r a) = ((M : ℝ) : EReal) := fun g r a => by
    rw [maxT_at]
    simp only [score_real hq hk]
    exact fold_max_real _
  exact ⟨fun g r a => (h g r a).choose, fun g r a => (h g r a).choose_spec⟩

theorem maxT'_eq (mx : FVec Ideal S2x4x4096 .f32) : maxT' mx = mx := by
  funext i
  rw [eq_ix3 i]
  exact (maxT'_at mx _ _ _).trans (max_eq_right bot_le)

variable {mx : FVec Ideal S2x4x4096 .f32} {M : Fin 2 → Fin 4 → Fin 4096 → ℝ} (hM : ∀ g r a, mx (ix3 g r a) = ((M g r a : ℝ) : EReal))

include hq hk hM in
theorem exp_real (g : Fin 2) (r : Fin 4) (a s : Fin 4096) :
    expT (scoreT q k) mx (ix4 g r a s) = ((Real.exp (rs rq rk g r a s - M g r a) : ℝ) : EReal) := by
  rw [expT_at, score_real hq hk, hM, ← EReal.coe_sub, Ideal.exp_coe]

include hq hk hM in
theorem sum_real (g : Fin 2) (r : Fin 4) (a : Fin 4096) :
    sumT (expT (scoreT q k) mx) (ix3 g r a) = ((∑ s : Fin 4096, Real.exp (rs rq rk g r a s - M g r a) : ℝ) : EReal) := by
  rw [sumT_at, ← sum_coe]
  exact Finset.sum_congr rfl fun s _ => exp_real hq hk hM g r a s

include hq hk hM in
theorem prob_real (g : Fin 2) (r : Fin 4) (a s : Fin 4096) :
    probT (expT (scoreT q k) mx) (sumT (expT (scoreT q k) mx)) (ix4 g r a s) = ((rp rq rk g r a s : ℝ) : EReal) := by
  rw [probT_at, exp_real hq hk hM, sum_real hq hk hM, div_real _ _ (shifted_pos rq rk (M g r a) g r a).ne', shifted_prob]

include hq hk hv hM in
theorem out_real (a : Fin 4096) (g : Fin 2) (r : Fin 4) (d : Fin 64) :
    outT v (probT (expT (scoreT q k) mx) (sumT (expT (scoreT q k) mx))) (ix4 a g r d) = ((ro rq rk rv g r a d : ℝ) : EReal) := by
  rw [outT_at, ro, ← sum_coe]
  exact Finset.sum_congr rfl fun s _ => by rw [prob_real hq hk hM, hv, EReal.coe_mul]

theorem log_two : Ideal.log (Ideal.ofBits .f32 1073741824#32) = ((Real.log 2 : ℝ) : EReal) := by
  rw [ofBits_two, log_real _ two_pos]

theorem log_two_ne : Real.log 2 ≠ 0 := (Real.log_pos one_lt_two).ne'

include hq hk hM in
theorem lse_real (g : Fin 2) (r : Fin 4) (a : Fin 4096) :
    lseT mx (sumT (expT (scoreT q k) mx)) (ix3 g r a)
      = (((M g r a + Real.log (∑ s : Fin 4096, Real.exp (rs rq rk g r a s - M g r a))) / Real.log 2 : ℝ) : EReal) := by
  rw [lseT_at, hM, sum_real hq hk hM, log_real _ (shifted_pos rq rk (M g r a) g r a), log_two, ← EReal.coe_add, div_real _ _ log_two_ne]

end Lift

/-! ## What the region starts from -/

section Start

variable (m : (ℓ : Loc nD τ sig) → Buf (Elt Ideal) ℓ) (c : Dev nD)

/-- The arguments: queries, keys, values and the output's gradient. -/
abbrev argQ : FVec Ideal S4096x2x4x64 .f32 := m ((c : Thread nD τ).loc main_arg0)
abbrev argK : FVec Ideal S4096x2x64 .f32 := m ((c : Thread nD τ).loc main_arg1)
abbrev argV : FVec Ideal S4096x2x64 .f32 := m ((c : Thread nD τ).loc main_arg2)
abbrev argC : FVec Ideal S4096x2x4x64 .f32 := m ((c : Thread nD τ).loc main_arg3)

/-- The largest scores and the exponentials. -/
abbrev mxOf (q : FVec Ideal S4096x2x4x64 .f32) (k : FVec Ideal S4096x2x64 .f32) : FVec Ideal S2x4x4096 .f32 := maxT (scoreT q k)

/-- Base-two queries. -/
def qT (q : FVec Ideal S4096x2x4x64 .f32) : FVec Ideal S8x64x4096 .bf16 :=
  truncf FTy.bf16 (headsT (Host.divf q (broadcastInDim S4096x2x4x64 ![] bcast_S_S4096x2x4x64 (Host.log (constant S_ FTy.f32 1073741824#32)))))
def rowsT (k : FVec Ideal S4096x2x64 .f32) : FVec Ideal S2x4096x64 .bf16 :=
  truncf FTy.bf16 (transpose S2x4096x64 [1, 0, 2] k transposes_S4096x2x64_S2x4096x64_1_0_2)
def colsT (k : FVec Ideal S4096x2x64 .f32) : FVec Ideal S2x64x4096 .bf16 :=
  truncf FTy.bf16 (transpose S2x64x4096 [1, 2, 0] k transposes_S4096x2x64_S2x64x4096_1_2_0)

theorem qT_at (q : FVec Ideal S4096x2x4x64 .f32) (h : Fin 8) (d : Fin 64) (a : Fin 4096) :
    qT q (ix3 h d a) = Ideal.div (q (ix4 a (grp h) (sub4 h) d)) (Ideal.log (Ideal.ofBits .f32 1073741824#32)) := by
  pointwise [qT, headsT]
theorem rowsT_at (k : FVec Ideal S4096x2x64 .f32) (g : Fin 2) (s : Fin 4096) (d : Fin 64) : rowsT k (ix3 g s d) = k (ix3 s g d) := by
  pointwise [rowsT]
theorem colsT_at (k : FVec Ideal S4096x2x64 .f32) (g : Fin 2) (d : Fin 64) (s : Fin 4096) : colsT k (ix3 g d s) = k (ix3 s g d) := by
  pointwise [colsT]

theorem v18_eq : V m c main_v18 = qT (argQ m c) := by entry_read; rfl
theorem v20_eq : V m c main_v20 = rowsT (argK m c) := by entry_read; rfl
theorem v22_eq : V m c main_v22 = colsT (argK m c) := by entry_read; rfl
theorem v24_eq : V m c main_v24 = rowsT (argV m c) := by entry_read; rfl
theorem v27_eq : V m c main_v27 = truncf (F := Ideal) (φ := .f32) FTy.bf16 (headsT (argC m c)) := by entry_read; rfl
theorem v44_eq : V m c main_v44 = headsT (outT (argV m c) (probT (expT (scoreT (argQ m c) (argK m c)) (maxT' (mxOf (argQ m c) (argK m c))))
    (sumT (expT (scoreT (argQ m c) (argK m c)) (maxT' (mxOf (argQ m c) (argK m c))))))) := by entry_read; rfl
theorem v12_eq : V m c main_v12 = lseT (mxOf (argQ m c) (argK m c)) (sumT (expT (scoreT (argQ m c) (argK m c)) (mxOf (argQ m c) (argK m c)))) := by
  entry_read; rfl

end Start

end Cert.AttnBwd

end
-- ==== Proof.Ref.lean ====
/- The reference's gradients, element by element, where the arguments are real: what differentiating the attention's softmax
   leaves, layer by layer. -/
module

public import proofs.«01_k».proof.Proof.Host
public import proofs.«01_k».proof.Proof.Gen.ReferenceIdeal

@[expose] public section

set_option maxRecDepth 16384

noncomputable section

namespace Cert.AttnBwd.Ref

open Cert.ReferenceIdeal Cert.ReferenceIdeal.Gen
open Idealize.ShloMosaic Idealize.ShloMosaic.TcCoe Idealize.SL.Sem

/-- A number for every query, with a unit axis for the keys. -/
def keepT (x : FVec Ideal S2x4x4096 .f32) : FVec Ideal S2x4x4096x1 .f32 :=
  broadcastInDim S2x4x4096x1 ![0, 1, 2] bcast_S2x4x4096_S2x4x4096x1_0_1_2 x
def spreadT (x : FVec Ideal S2x4x4096x1 .f32) : FVec Ideal S2x4x4096x4096 .f32 :=
  broadcastInDim S2x4x4096x4096 ![0, 1, 2, 3] bcast_S2x4x4096x1_S2x4x4096x4096_0_1_2_3 x
/-- The output's gradient by groups, -/
def ctT (ct : FVec Ideal S4096x2x4x64 .f32) : FVec Ideal S2x64x4x4096 .f32 :=
  transpose S2x64x4x4096 [1, 3, 2, 0] ct transposes_S4096x2x4x64_S2x64x4x4096_1_3_2_0
/-- the probabilities' gradient, -/
def dpT (ct : FVec Ideal S4096x2x4x64 .f32) (v : FVec Ideal S4096x2x64 .f32) : FVec Ideal S2x4x4096x4096 .f32 :=
  Host.dotGeneral dot_S2x64x4x4096_S4096x2x64_S2x4x4096x4096_1_2_23_0_0_1 none (ctT ct) v
/-- one over the square of the exponentials' sum, -/
def invT (z : FVec Ideal S2x4x4096 .f32) : FVec Ideal S2x4x4096x1 .f32 :=
  Host.divf (broadcastInDim S2x4x4096x1 ![] bcast_S_S2x4x4096x1 (constant S_ FTy.f32 0x3F800000#32)) (mulf (keepT z) (keepT z))
/-- the mean's part of the scores' gradient, -/
def meanT (dp e : FVec Ideal S2x4x4096x4096 .f32) (z : FVec Ideal S2x4x4096 .f32) : FVec Ideal S2x4x4096 .f32 :=
  Host.reduceAdd (mulf (mulf dp (spreadT (invT z))) e) (constant S_ FTy.f32 0#32) reducesTo_S2x4x4096x4096_S2x4x4096_d3 h_S_
/-- its negative, -/
def negT (x : FVec Ideal S2x4x4096 .f32) : FVec Ideal S2x4x4096 .f32 :=
  Host.reduceAdd (Host.negf (shapeCast S2x4x4096x1 x shapeCasts_S2x4x4096_S2x4x4096x1)) (constant S_ FTy.f32 0#32)
    reducesTo_S2x4x4096x1_S2x4x4096_d3 h_S_
/-- and the scores' gradient. -/
def dsT (dp e : FVec Ideal S2x4x4096x4096 .f32) (z : FVec Ideal S2x4x4096 .f32) : FVec Ideal S2x4x4096x4096 .f32 :=
  mulf (addf (Host.divf dp (spreadT (keepT z)))
    (broadcastInDim S2x4x4096x4096 ![0, 1, 2] bcast_S2x4x4096_S2x4x4096x4096_0_1_2 (negT (meanT dp e z)))) e
/-- The same with the keys before the queries. -/
def flipT (ds : FVec Ideal S2x4x4096x4096 .f32) : FVec Ideal S2x4096x4096x4 .f32 :=
  transpose S2x4096x4096x4 [0, 3, 2, 1] ds transposes_S2x4x4096x4096_S2x4096x4096x4_0_3_2_1
/-- The gradients of the queries, -/
def dqT (ds : FVec Ideal S2x4x4096x4096 .f32) (k : FVec Ideal S4096x2x64 .f32) : FVec Ideal S8x64x4096 .f32 :=
  shapeCast S8x64x4096 (transpose S2x4x64x4096 [1, 2, 3, 0] (transpose S4096x2x4x64 [1, 0, 2, 3]
    (Host.dotGeneral dot_S2x4096x4096x4_S4096x2x64_S2x4096x4x64_1_0_23_2_0_1 none (flipT ds) k)
    transposes_S2x4096x4x64_S4096x2x4x64_1_0_2_3) transposes_S4096x2x4x64_S2x4x64x4096_1_2_3_0) shapeCasts_S2x4x64x4096_S8x64x4096
/-- of the keys, -/
def dkT (ds : FVec Ideal S2x4x4096x4096 .f32) (q : FVec Ideal S4096x2x4x64 .f32) : FVec Ideal S2x64x4096 .f32 :=
  transpose S2x64x4096 [1, 2, 0] (Host.divf (transpose S4096x2x64 [1, 0, 2]
    (Host.dotGeneral dot_S2x4096x4096x4_S4096x2x4x64_S2x4096x64_23_02_1_3_0_1 none (flipT ds) q) transposes_S2x4096x64_S4096x2x64_1_0_2)
    (broadcastInDim S4096x2x64 ![] bcast_S_S4096x2x64 (Host.log (constant S_ FTy.f32 1073741824#32)))) transposes_S4096x2x64_S2x64x4096_1_2_0
/-- and of the values. -/
def dvT (ct : FVec Ideal S4096x2x4x64 .f32) (p : FVec Ideal S2x4x4096x4096 .f32) : FVec Ideal S2x64x4096 .f32 :=
  transpose S2x64x4096 [1, 2, 0] (transpose S4096x2x64 [2, 0, 1]
    (Host.dotGeneral dot_S2x64x4x4096_S2x4x4096x4096_S2x64x4096_23_12_1_3_0_0 none (ctT ct) p) transposes_S2x64x4096_S4096x2x64_2_0_1)
    transposes_S4096x2x64_S2x64x4096_1_2_0

theorem dpT_at (ct : FVec Ideal S4096x2x4x64 .f32) (v : FVec Ideal S4096x2x64 .f32) (g : Fin 2) (r : Fin 4) (a s : Fin 4096) :
    dpT ct v (ix4 g r a s) = ∑ d : Fin 64, ct (ix4 a g r d) * v (ix3 s g d) := by
  pointwise [dpT, ctT]
theorem invT_at (z : FVec Ideal S2x4x4096 .f32) (g : Fin 2) (r : Fin 4) (a : Fin 4096) (b : Fin 1) :
    invT z (ix4 g r a b) = Ideal.div 1 (z (ix3 g r a) * z (ix3 g r a)) := by
  pointwise [invT, keepT]
theorem meanT_at (dp e : FVec Ideal S2x4x4096x4096 .f32) (z : FVec Ideal S2x4x4096 .f32) (g : Fin 2) (r : Fin 4) (a : Fin 4096) :
    meanT dp e z (ix3 g r a) = ∑ s : Fin 4096, dp (ix4 g r a s) * Ideal.div 1 (z (ix3 g r a) * z (ix3 g r a)) * e (ix4 g r a s) := by
  pointwise [meanT, spreadT, invT, keepT]
theorem negT_at (x : FVec Ideal S2x4x4096 .f32) (g : Fin 2) (r : Fin 4) (a : Fin 4096) : negT x (ix3 g r a) = -x (ix3 g r a) := by
  pointwise [negT]
  exact Fin.sum_univ_one _
theorem dsT_at (dp e : FVec Ideal S2x4x4096x4096 .f32) (z : FVec Ideal S2x4x4096 .f32) (g : Fin 2) (r : Fin 4) (a s : Fin 4096) :
    dsT dp e z (ix4 g r a s) = (Ideal.div (dp (ix4 g r a s)) (z (ix3 g r a)) + negT (meanT dp e z) (ix3 g r a)) * e (ix4 g r a s) := by
  pointwise [dsT, spreadT, keepT]
theorem dqT_at (ds : FVec Ideal S2x4x4096x4096 .f32) (k : FVec Ideal S4096x2x64 .f32) (h : Fin 8) (d : Fin 64) (a : Fin 4096) :
    dqT ds k (ix3 h d a) = ∑ s : Fin 4096, ds (ix4 (grp h) (sub4 h) a s) * k (ix3 s (grp h) d) := by
  pointwise [dqT, flipT]
theorem dkT_at (ds : FVec Ideal S2x4x4096x4096 .f32) (q : FVec Ideal S4096x2x4x64 .f32) (g : Fin 2) (d : Fin 64) (s : Fin 4096) :
    dkT ds q (ix3 g d s) = Ideal.div (∑ a : Fin 4096, ∑ r : Fin 4, ds (ix4 g r a s) * q (ix4 a g r d)) (Ideal.log (Ideal.ofBits .f32 1073741824#32)) := by
  pointwise [dkT, flipT]
theorem dvT_at (ct : FVec Ideal S4096x2x4x64 .f32) (p : FVec Ideal S2x4x4096x4096 .f32) (g : Fin 2) (d : Fin 64) (s : Fin 4096) :
    dvT ct p (ix3 g d s) = ∑ r : Fin 4, ∑ a : Fin 4096, ct (ix4 a g r d) * p (ix4 g r a s) := by
  pointwise [dvT, ctT]

section Lift

variable {q ct : FVec Ideal S4096x2x4x64 .f32} {k v : FVec Ideal S4096x2x64 .f32}
  {rq rct : Fin 4096 → Fin 2 → Fin 4 → Fin 64 → ℝ} {rk rv : Fin 4096 → Fin 2 → Fin 64 → ℝ}
  (hq : ∀ a g r d, q (ix4 a g r d) = ((rq a g r d : ℝ) : EReal)) (hk : ∀ s g d, k (ix3 s g d) = ((rk s g d : ℝ) : EReal))
  (hv : ∀ s g d, v (ix3 s g d) = ((rv s g d : ℝ) : EReal)) (hct : ∀ a g r d, ct (ix4 a g r d) = ((rct a g r d : ℝ) : EReal))
  {mx : FVec Ideal S2x4x4096 .f32} {M : Fin 2 → Fin 4 → Fin 4096 → ℝ} (hM : ∀ g r a, mx (ix3 g r a) = ((M g r a : ℝ) : EReal))

include hv hct in
theorem dp_real (g : Fin 2) (r : Fin 4) (a s : Fin 4096) : dpT ct v (ix4 g r a s) = ((rdp rct rv g r a s : ℝ) : EReal) := by
  rw [dpT_at, rdp, ← sum_coe]
  exact Finset.sum_congr rfl fun d _ => by rw [hct, hv, EReal.coe_mul]

include hq hk hv hct hM in
theorem ds_real (g : Fin 2) (r : Fin 4) (a s : Fin 4096) :
    dsT (dpT ct v) (expT (scoreT q k) mx) (sumT (expT (scoreT q k) mx)) (ix4 g r a s) = ((rds rq rct rk rv g r a s : ℝ) : EReal) := by
  have hz : ∀ g r a, sumT (expT (scoreT q k) mx) (ix3 g r a) = _ := sum_real hq hk hM
  have he : ∀ g r a s, expT (scoreT q k) mx (ix4 g r a s) = _ := exp_real hq hk hM
  have hp := (shifted_pos rq rk (M g r a) g r a)
  rw [dsT_at, negT_at, meanT_at, hz, he, dp_real hv hct, div_real _ _ hp.ne', ← EReal.coe_mul, ← EReal.coe_one, div_real _ _ (mul_pos hp hp).ne',
    ← quotient_ds rq rct rk rv (M g r a) g r a s, EReal.coe_mul, EReal.coe_add, EReal.coe_neg, ← sum_coe]
  simp only [he, dp_real hv hct, EReal.coe_mul]

include hq hk hv hct hM in
theorem dq_real (h : Fin 8) (d : Fin 64) (a : Fin 4096) :
    dqT (dsT (dpT ct v) (expT (scoreT q k) mx) (sumT (expT (scoreT q k) mx))) k (ix3 h d a)
      = ((∑ s : Fin 4096, rds rq rct rk rv (grp h) (sub4 h) a s * rk s (grp h) d : ℝ) : EReal) := by
  rw [dqT_at, ← sum_coe]
  exact Finset.sum_congr rfl fun s _ => by rw [ds_real hq hk hv hct hM, hk, EReal.coe_mul]

include hq hk hv hct hM in
theorem dk_real (g : Fin 2) (d : Fin 64) (s : Fin 4096) :
    dkT (dsT (dpT ct v) (expT (scoreT q k) mx) (sumT (expT (scoreT q k) mx))) q (ix3 g d s)
      = (((∑ a : Fin 4096, ∑ r : Fin 4, rds rq rct rk rv g r a s * rq a g r d) / Real.log 2 : ℝ) : EReal) := by
  rw [dkT_at, log_two, ← div_real _ _ log_two_ne, ← sum_coe]
  refine congrArg (Ideal.div · _) (Finset.sum_congr rfl fun a _ => ?_)
  rw [← sum_coe]
  exact Finset.sum_congr rfl fun r _ => by rw [ds_real hq hk hv hct hM, hq, EReal.coe_mul]

include hq hk hct hM in
theorem dv_real (g : Fin 2) (d : Fin 64) (s : Fin 4096) :
    dvT ct (probT (expT (scoreT q k) mx) (sumT (expT (scoreT q k) mx))) (ix3 g d s)
      = ((∑ r : Fin 4, ∑ a : Fin 4096, rct a g r d * rp rq rk g r a s : ℝ) : EReal) := by
  rw [dvT_at, ← sum_coe]
  refine Finset.sum_congr rfl fun r _ => ?_
  rw [← sum_coe]
  refine Finset.sum_congr rfl fun a _ => ?_
  have e : probT (expT (scoreT q k) mx) (sumT (expT (scoreT q k) mx)) (ix4 g r a s) = _ := prob_real hq hk hM g r a s
  rw [hct, e, EReal.coe_mul]

end Lift

end Cert.AttnBwd.Ref

end
-- ==== Proof.RefRun.lean ====
/- The reference's run: what its three results hold, as the layers of the attention's gradient. -/
module

public import proofs.«01_k».proof.Proof.Ref
public import Idealize.ShloMosaic.Lib.Claim

@[expose] public section

set_option maxRecDepth 16384

noncomputable section

namespace Cert.AttnBwd.Ref

open Cert.ReferenceIdeal Cert.ReferenceIdeal.Gen
open Idealize.ShloMosaic Idealize.ShloMosaic.TcCoe Idealize.SL.Sem

/-- The exponentials of the scores less their largest, -/
def eOf (q : FVec Ideal S4096x2x4x64 .f32) (k : FVec Ideal S4096x2x64 .f32) : FVec Ideal S2x4x4096x4096 .f32 :=
  expT (scoreT q k) (maxT' (maxT (scoreT q k)))
/-- and the scores' gradient. -/
def dsOf (q : FVec Ideal S4096x2x4x64 .f32) (k v : FVec Ideal S4096x2x64 .f32) (ct : FVec Ideal S4096x2x4x64 .f32) :
    FVec Ideal S2x4x4096x4096 .f32 :=
  dsT (dpT ct v) (eOf q k) (sumT (eOf q k))

set_option maxHeartbeats 3200000 in
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v54)
          = dqT (dsOf (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1))
      ∧ r.2.mem ((c.tc : Thread nD τ).loc main_v58)
          = dkT (dsOf (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0))
      ∧ r.2.mem ((c.tc : Thread nD τ).loc main_v59)
          = dvT (m ((c.tc : Thread nD τ).loc main_arg3)) (probT (eOf (m ((c.tc : Thread nD τ).loc main_arg0)) (m ((c.tc : Thread nD τ).loc main_arg1))) (sumT (eOf (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  · rfl
  · rfl
  · rfl

end Cert.AttnBwd.Ref

end
-- ==== Proof.Frames.lean ====
/- The programs' frames: both kernel programs are one text, so the run at any element type serves both. -/
module

public import proofs.«01_k».proof.Defs
public import proofs.«01_k».proof.Proof.Step
public import proofs.«01_k».proof.Proof.RefRun
public import proofs.«01_k».proof.Proof.Gen.KernelIdeal
public import proofs.«01_k».proof.Proof.Gen.ReferenceIdeal
public import proofs.«01_k».proof.Proof.Gen.Pre_finite
public import Idealize.ShloMosaic.Lib.Claim

@[expose] public section

set_option maxRecDepth 16384

noncomputable section

namespace Cert.AttnBwd

open Idealize.ShloMosaic Idealize.SL.Sem

theorem frame_kernel : Cert.quiescent_Kernel := fun m g _ => frame (F := Bits) m g
set_option maxHeartbeats 3200000 in
set_option smartUnfolding false in
theorem frame_ideal : Cert.quiescent_KernelIdeal := fun m g _ => frame (F := Ideal) m g
theorem frame_ideal_pre : Cert.quiescent_KernelIdeal_pre_finite := fun m g _ => frame_ideal m g trivial

/-- The reference's frame: it declares no semaphore. -/
theorem frame_reference : Cert.quiescent_ReferenceIdeal := fun m g _ =>
  (θ_run Cert.ReferenceIdeal.defs _ _).mono (fun r h => ⟨fun c => (h c).2.2.2, sem_eq_zero_of_no_sems (by decide) r.2⟩) (Ref.run m g)

theorem frame_reference_pre : Cert.quiescent_ReferenceIdeal_pre_finite := fun m g _ => frame_reference m g trivial

end Cert.AttnBwd

end
-- ==== Proof.Value.lean ====
/- The kernel's three gradients, element by element, where the arguments are real: they are the real gradients of softmax
   attention. -/
module

public import proofs.«01_k».proof.Proof.Host

@[expose] public section

set_option maxRecDepth 16384

noncomputable section

namespace Cert.AttnBwd

open Cert.Kernel Cert.Kernel.Gen
open Idealize.ShloMosaic Idealize.ShloMosaic.TcCoe Idealize.SL.Sem

variable (m : (ℓ : Loc nD τ sig) → Buf (Elt Ideal) ℓ) (c : Dev nD)
  {rq rct : Fin 4096 → Fin 2 → Fin 4 → Fin 64 → ℝ} {rk rv : Fin 4096 → Fin 2 → Fin 64 → ℝ}
  (hq : ∀ a g r d, argQ m c (ix4 a g r d) = ((rq a g r d : ℝ) : EReal)) (hk : ∀ s g d, argK m c (ix3 s g d) = ((rk s g d : ℝ) : EReal))
  (hv : ∀ s g d, argV m c (ix3 s g d) = ((rv s g d : ℝ) : EReal)) (hct : ∀ a g r d, argC m c (ix4 a g r d) = ((rct a g r d : ℝ) : EReal))

/-! ## The arrays the region starts from -/

include hq in
theorem v18_real (h : Fin 8) (d : Fin 64) (a : Fin 4096) :
    V m c main_v18 (ix3 h d a) = ((rq a (grp h) (sub4 h) d / Real.log 2 : ℝ) : EReal) := by
  rw [v18_eq, qT_at, hq, log_two, div_real _ _ log_two_ne]
include hk in
theorem v20_real (g : Fin 2) (s : Fin 4096) (d : Fin 64) : V m c main_v20 (ix3 g s d) = ((rk s g d : ℝ) : EReal) := by
  rw [v20_eq, rowsT_at, hk]
include hk in
theorem v22_real (g : Fin 2) (d : Fin 64) (s : Fin 4096) : V m c main_v22 (ix3 g d s) = ((rk s g d : ℝ) : EReal) := by
  rw [v22_eq, colsT_at, hk]
include hv in
theorem v24_real (g : Fin 2) (s : Fin 4096) (d : Fin 64) : V m c main_v24 (ix3 g s d) = ((rv s g d : ℝ) : EReal) := by
  rw [v24_eq, rowsT_at, hv]
include hct in
theorem v27_real (h : Fin 8) (d : Fin 64) (a : Fin 4096) : V m c main_v27 (ix3 h d a) = ((rct a (grp h) (sub4 h) d : ℝ) : EReal) := by
  rw [v27_eq]
  exact (headsT_at _ h d a).trans (hct _ _ _ _)
include hq hk hv in
theorem v44_real (h : Fin 8) (d : Fin 64) (a : Fin 4096) :
    V m c main_v44 (ix3 h d a) = ((ro rq rk rv (grp h) (sub4 h) a d : ℝ) : EReal) := by
  obtain ⟨M, hM⟩ := max_real hq hk
  rw [v44_eq, headsT_at, maxT'_eq, out_real hq hk hv hM]
include hq hk in
theorem v12_real : ∃ M : Fin 2 → Fin 4 → Fin 4096 → ℝ, ∀ g r a, V m c main_v12 (ix3 g r a)
    = (((M g r a + Real.log (∑ s : Fin 4096, Real.exp (rs rq rk g r a s - M g r a))) / Real.log 2 : ℝ) : EReal) := by
  obtain ⟨M, hM⟩ := max_real hq hk
  exact ⟨M, fun g r a => by rw [v12_eq, lse_real hq hk hM]⟩

/-! ## One grid point -/

section Point

variable (j i : Fin 4)

include hq hk in
theorem pt_real (h : Fin 8) (k q : Fin 1024) :
    ptB (iblk m c 0 (pt (4 * j.val + i.val))) (iblk m c 1 (pt (4 * j.val + i.val))) (iblk m c 6 (pt (4 * j.val + i.val))) h k q
      = ((rp rq rk (grp h) (sub4 h) (col4 i q) (col4 j k) : ℝ) : EReal) := by
  obtain ⟨M, hM⟩ := v12_real m c hq hk
  unfold ptB
  simp only [blk_q m c j i, blk_k m c j i, blk_lse m c j i, v18_real m c hq, v20_real m c hk, hM, ← EReal.coe_mul]
  rw [sum_coe, ← EReal.coe_sub, show FloatOps.exp2 (F := Ideal) (φ := .f32) _ = Ideal.exp2 _ from rfl, Ideal.exp2_coe]
  exact congrArg _ (saved_prob rq rk (M (grp h) (sub4 h) (col4 i q)) (grp h) (sub4 h) (col4 i q) (col4 j k))

include hq hk hv hct in
theorem ds_real (h : Fin 8) (k q : Fin 1024) :
    dsB (iblk m c 0 (pt (4 * j.val + i.val))) (iblk m c 1 (pt (4 * j.val + i.val))) (iblk m c 3 (pt (4 * j.val + i.val)))
        (iblk m c 4 (pt (4 * j.val + i.val))) (iblk m c 5 (pt (4 * j.val + i.val))) (iblk m c 6 (pt (4 * j.val + i.val))) h k q
      = ((rds rq rct rk rv (grp h) (sub4 h) (col4 i q) (col4 j k) : ℝ) : EReal) := by
  unfold dsB
  rw [pt_real m c hq hk j i]
  simp only [blk_v m c j i, blk_do m c j i, blk_o m c j i, v24_real m c hv, v27_real m c hct, v44_real m c hq hk hv, ← EReal.coe_mul]
  rw [sum_coe, sum_coe, ← EReal.coe_sub, ← EReal.coe_mul]
  refine congrArg _ ?_
  unfold rds
  rw [out_mean rq rct rk rv]
  refine congrArg (rp rq rk (grp h) (sub4 h) (col4 i q) (col4 j k) * ·) (congrArg (· - _) ?_)
  exact Finset.sum_congr rfl fun d _ => mul_comm _ _

include hq hk hv hct in
theorem dq_pt (h : Fin 8) (d : Fin 64) (q : Fin 1024) :
    T7 m c (4 * j.val + i.val) h d q
      = ((∑ k : Fin 1024, rk (col4 j k) (grp h) d * rds rq rct rk rv (grp h) (sub4 h) (col4 i q) (col4 j k) : ℝ) : EReal) := by
  unfold T7 dqB
  rw [← sum_coe]
  exact Finset.sum_congr rfl fun k _ => by
    rw [ds_real m c hq hk hv hct j i, blk_kt m c j i, v22_real m c hk, EReal.coe_mul]

include hq hk hv hct in
theorem dk_head (h : Fin 8) (d : Fin 64) (k : Fin 1024) :
    dkH (iblk m c 0 (pt (4 * j.val + i.val))) (iblk m c 1 (pt (4 * j.val + i.val))) (iblk m c 3 (pt (4 * j.val + i.val)))
        (iblk m c 4 (pt (4 * j.val + i.val))) (iblk m c 5 (pt (4 * j.val + i.val))) (iblk m c 6 (pt (4 * j.val + i.val))) h d k
      = ((∑ q : Fin 1024, rq (col4 i q) (grp h) (sub4 h) d / Real.log 2 * rds rq rct rk rv (grp h) (sub4 h) (col4 i q) (col4 j k) : ℝ) : EReal) := by
  unfold dkH
  rw [← sum_coe]
  exact Finset.sum_congr rfl fun q _ => by
    rw [ds_real m c hq hk hv hct j i, blk_q m c j i, v18_real m c hq, EReal.coe_mul]

include hq hk hct in
theorem dv_head (h : Fin 8) (d : Fin 64) (k : Fin 1024) :
    dvH (iblk m c 0 (pt (4 * j.val + i.val))) (iblk m c 1 (pt (4 * j.val + i.val)))
        (iblk m c 4 (pt (4 * j.val + i.val))) (iblk m c 6 (pt (4 * j.val + i.val))) h d k
      = ((∑ q : Fin 1024, rct (col4 i q) (grp h) (sub4 h) d * rp rq rk (grp h) (sub4 h) (col4 i q) (col4 j k) : ℝ) : EReal) := by
  unfold dvH
  rw [← sum_coe]
  exact Finset.sum_congr rfl fun q _ => by
    rw [pt_real m c hq hk j i, blk_do m c j i, v27_real m c hct, EReal.coe_mul]

theorem grp_hd (g : Fin 2) (r : Fin 4) : grp (hd g r) = g := Fin.ext (by show (4 * g.val + r.val) / 4 = g.val; omega)
theorem sub4_hd (g : Fin 2) (r : Fin 4) : sub4 (hd g r) = r := Fin.ext (by show (4 * g.val + r.val) % 4 = r.val; omega)

include hq hk hv hct in
theorem dk_pt (g : Fin 2) (d : Fin 64) (k : Fin 1024) :
    T8 m c (4 * j.val + i.val) g d k
      = ((∑ r : Fin 4, ∑ q : Fin 1024, rq (col4 i q) g r d / Real.log 2 * rds rq rct rk rv g r (col4 i q) (col4 j k) : ℝ) : EReal) := by
  unfold T8 dkB
  rw [dk_head m c hq hk hv hct j i, dk_head m c hq hk hv hct j i, dk_head m c hq hk hv hct j i, dk_head m c hq hk hv hct j i]
  simp only [grp_hd, sub4_hd, ← EReal.coe_add]
  rw [Fin.sum_univ_four]

include hq hk hct in
theorem dv_pt (g : Fin 2) (d : Fin 64) (k : Fin 1024) :
    T9 m c (4 * j.val + i.val) g d k
      = ((∑ r : Fin 4, ∑ q : Fin 1024, rct (col4 i q) g r d * rp rq rk g r (col4 i q) (col4 j k) : ℝ) : EReal) := by
  unfold T9 dvB
  rw [dv_head m c hq hk hct j i, dv_head m c hq hk hct j i, dv_head m c hq hk hct j i, dv_head m c hq hk hct j i]
  simp only [grp_hd, sub4_hd, ← EReal.coe_add]
  rw [Fin.sum_univ_four]

end Point

/-! ## The arrays -/

theorem col4_div (a : Fin 4096) : col4 ⟨a.val / 1024, by omega⟩ ⟨a.val % 1024, by omega⟩ = a :=
  Fin.ext (by show 1024 * (a.val / 1024) + a.val % 1024 = a.val; omega)

include hq hk hv hct in
theorem G7_real (h : Fin 8) (d : Fin 64) (a : Fin 4096) :
    G7 m c (ix3 h d a) = ((∑ s : Fin 4096, rds rq rct rk rv (grp h) (sub4 h) a s * rk s (grp h) d : ℝ) : EReal) := by
  show ∑ j ∈ Finset.range 4, T7 m c (4 * j + a.val / 1024) h d ⟨a.val % 1024, _⟩ = _
  rw [← sum_blocks, Finset.sum_range, ← sum_coe]
  refine Finset.sum_congr rfl fun j _ => ?_
  refine (dq_pt m c hq hk hv hct j ⟨a.val / 1024, by omega⟩ h d ⟨a.val % 1024, by omega⟩).trans ?_
  rw [col4_div]
  exact congrArg _ (Finset.sum_congr rfl fun k _ => mul_comm _ _)

/-- A double sum over the queries' blocks and the heads is one over the queries and the heads. -/
theorem sum_heads (f : Fin 4 → Fin 4096 → ℝ) :
    ∑ i : Fin 4, ∑ r : Fin 4, ∑ q : Fin 1024, f r (col4 i q) = ∑ r : Fin 4, ∑ a : Fin 4096, f r a := by
  rw [Finset.sum_comm]
  exact Finset.sum_congr rfl fun r _ => sum_blocks (f r)

include hq hk hv hct in
theorem G8_real (g : Fin 2) (d : Fin 64) (s : Fin 4096) :
    G8 m c (ix3 g d s) = (((∑ a : Fin 4096, ∑ r : Fin 4, rds rq rct rk rv g r a s * rq a g r d) / Real.log 2 : ℝ) : EReal) := by
  show ∑ i ∈ Finset.range 4, T8 m c (4 * (s.val / 1024) + i) g d ⟨s.val % 1024, _⟩ = _
  rw [Finset.sum_range]
  refine (Finset.sum_congr rfl fun i _ => dk_pt m c hq hk hv hct ⟨s.val / 1024, by omega⟩ i g d ⟨s.val % 1024, by omega⟩).trans ?_
  rw [col4_div, sum_coe, sum_heads (fun r a => rq a g r d / Real.log 2 * rds rq rct rk rv g r a s), Finset.sum_comm, Finset.sum_div]
  refine congrArg _ (Finset.sum_congr rfl fun a _ => ?_)
  rw [Finset.sum_div]
  exact Finset.sum_congr rfl fun r _ => by ring

include hq hk hct in
theorem G9_real (g : Fin 2) (d : Fin 64) (s : Fin 4096) :
    G9 m c (ix3 g d s) = ((∑ r : Fin 4, ∑ a : Fin 4096, rct a g r d * rp rq rk g r a s : ℝ) : EReal) := by
  show ∑ i ∈ Finset.range 4, T9 m c (4 * (s.val / 1024) + i) g d ⟨s.val % 1024, _⟩ = _
  rw [Finset.sum_range]
  refine (Finset.sum_congr rfl fun i _ => dv_pt m c hq hk hct ⟨s.val / 1024, by omega⟩ i g d ⟨s.val % 1024, by omega⟩).trans ?_
  rw [col4_div, sum_coe, sum_heads (fun r a => rct a g r d * rp rq rk g r a s)]

end Cert.AttnBwd

end
-- ==== Proof.Pre.lean ====
/- The precondition read back: every element of the arguments is a real. -/
module

public import proofs.«01_k».proof.Proof.Gen.Pre_finite
public import proofs.«01_k».proof.Proof.Host
public import Idealize.ShloMosaic.Lib.ReduceAll
public import Idealize.ShloMosaic.Lib.Pointwise

@[expose] public section

set_option maxRecDepth 16384

noncomputable section

namespace Cert.AttnBwd.Pre

open Cert.Pre_finite Cert.Pre_finite.Gen
open Idealize.ShloMosaic

/-- An extended real whose absolute value is less than infinity is a real. -/
theorem real_of_abs {x : EReal} (h : FloatOps.cmpf (F := Ideal) (φ := .f32) .olt (FloatOps.hostAbsf (F := Ideal) (φ := .f32) x) (Ideal.ofBits .f32 0x7F800000#32) = 1#1) :
    ∃ r : ℝ, x = (r : EReal) := by
  rw [show (0x7F800000#32 : BitVec 32) = 2139095040#32 from rfl, ofBits_inf] at h
  have h' : max x (-x) < ⊤ := by
    by_contra hn
    have : FloatOps.cmpf (F := Ideal) (φ := .f32) .olt (FloatOps.hostAbsf (F := Ideal) (φ := .f32) x) (⊤ : EReal) = BitVec.ofBool (decide (max x (-x) < ⊤)) := rfl
    rw [this, decide_eq_false hn] at h
    exact absurd h (by decide)
  refine ⟨x.toReal, (EReal.coe_toReal ?_ ?_).symm⟩
  · rintro rfl; exact absurd h' (by simp)
  · rintro rfl; exact absurd h' (by simp)

theorem reals (x0 x3 : FVec Ideal S4096x2x4x64 .f32) (x1 x2 : FVec Ideal S4096x2x64 .f32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have hs : Subsingleton S_.Idx := ⟨fun a b => funext fun i => i.elim0⟩
  have h0 := congrFun h (fun i => i.elim0)
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs (Host.reduce_andi_all _ _ _ _ _ h0 i), fun i => real_of_abs (Host.reduce_andi_all _ _ _ _ _ h1 i),
    fun i => real_of_abs (Host.reduce_andi_all _ _ _ _ _ h2 i), fun i => real_of_abs (Host.reduce_andi_all _ _ _ _ _ h3 i)⟩

end Cert.AttnBwd.Pre

end
-- ==== Proof.Grad.lean ====
/- The kernel's gradients are the reference's: both run, and end with equal results. -/
module

public import proofs.«01_k».proof.Proof.Frames
public import proofs.«01_k».proof.Proof.Value
public import proofs.«01_k».proof.Proof.Pre

@[expose] public section

set_option maxRecDepth 16384

noncomputable section

namespace Cert.AttnBwd

open Idealize.ShloMosaic Idealize.ShloMosaic.TcCoe Idealize.SL.Sem

section Kernel

open Cert.Kernel Cert.Kernel.Gen

/-- The kernel's run: its results and its arguments. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v45_0) = G7 m c
      ∧ r.2.mem ((c.tc : Thread nD τ).loc main_v45_1) = G8 m c
      ∧ r.2.mem ((c.tc : Thread nD τ).loc main_v45_2) = G9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨final7 m r h.1.1 c, final8 m r h.1.1 c, final9 m r h.1.1 c, h.2.1 c⟩)
    (θ_run_and (launch m g) (frame (F := Ideal) m g))

variable (m : (ℓ : Loc nD τ sig) → Buf (Elt Ideal) ℓ) (c : Dev nD)
  (h0 : ∀ i, ∃ r : ℝ, argQ m c i = (r : EReal)) (h1 : ∀ i, ∃ r : ℝ, argK m c i = (r : EReal))
  (h2 : ∀ i, ∃ r : ℝ, argV m c i = (r : EReal)) (h3 : ∀ i, ∃ r : ℝ, argC m c i = (r : EReal))

include h0 h1 h2 h3 in
/-- Where the arguments are real, the three results are the reference's. -/
theorem grads :
    Ref.dqT (Ref.dsOf (argQ m c) (argK m c) (argV m c) (argC m c)) (argK m c) = G7 m c
    ∧ Ref.dkT (Ref.dsOf (argQ m c) (argK m c) (argV m c) (argC m c)) (argQ m c) = G8 m c
    ∧ Ref.dvT (argC m c) (probT (Ref.eOf (argQ m c) (argK m c)) (sumT (Ref.eOf (argQ m c) (argK m c)))) = G9 m c := by
  have hq : ∀ a g r d, argQ m c (ix4 a g r d) = (((h0 (ix4 a g r d)).choose : ℝ) : EReal) := fun a g r d => (h0 (ix4 a g r d)).choose_spec
  have hk : ∀ s g d, argK m c (ix3 s g d) = (((h1 (ix3 s g d)).choose : ℝ) : EReal) := fun s g d => (h1 (ix3 s g d)).choose_spec
  have hv : ∀ s g d, argV m c (ix3 s g d) = (((h2 (ix3 s g d)).choose : ℝ) : EReal) := fun s g d => (h2 (ix3 s g d)).choose_spec
  have hct : ∀ a g r d, argC m c (ix4 a g r d) = (((h3 (ix4 a g r d)).choose : ℝ) : EReal) := fun a g r d => (h3 (ix4 a g r d)).choose_spec
  obtain ⟨M, hM⟩ := max_real hq hk
  have hM' : ∀ g r a, maxT' (maxT (scoreT (argQ m c) (argK m c))) (ix3 g r a) = ((M g r a : ℝ) : EReal) := by rw [maxT'_eq]; exact hM
  refine ⟨?_, ?_, ?_⟩
  · funext i
    rw [eq_ix3 i]
    exact (Ref.dq_real hq hk hv hct hM' (i 0) (i 1) (i 2)).trans (G7_real m c hq hk hv hct (i 0) (i 1) (i 2)).symm
  · funext i
    rw [eq_ix3 i]
    exact (Ref.dk_real hq hk hv hct hM' (i 0) (i 1) (i 2)).trans (G8_real m c hq hk hv hct (i 0) (i 1) (i 2)).symm
  · funext i
    rw [eq_ix3 i]
    exact (Ref.dv_real hq hk hct hM' (i 0) (i 1) (i 2)).trans (G9_real m c hq hk hct (i 0) (i 1) (i 2)).symm

end Kernel

/-- What the program over the extended reals ends with: its text is the kernel's own. -/
abbrev Ends (m : (ℓ : Loc Cert.KernelIdeal.nD Cert.KernelIdeal.τ Cert.KernelIdeal.sig) → Buf (Elt Ideal) ℓ) : Prop :=
  ∀ g, θ_run (Cert.KernelIdeal.defs (F := Ideal)) (onTc (τ := Cert.KernelIdeal.τ) (Cert.KernelIdeal.main (F := Ideal))) ⟨m, fun _ => 0, g⟩
    (fun r => ∀ c : Dev Cert.KernelIdeal.nD,
      r.2.mem ((c.tc : Thread Cert.KernelIdeal.nD Cert.KernelIdeal.τ).loc Cert.KernelIdeal.main_v45_0) = G7 m c
      ∧ r.2.mem ((c.tc : Thread Cert.KernelIdeal.nD Cert.KernelIdeal.τ).loc Cert.KernelIdeal.main_v45_1) = G8 m c
      ∧ r.2.mem ((c.tc : Thread Cert.KernelIdeal.nD Cert.KernelIdeal.τ).loc Cert.KernelIdeal.main_v45_2) = G9 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

set_option maxHeartbeats 3200000 in
set_option smartUnfolding false in
theorem run_ideal (m : (ℓ : Loc Cert.KernelIdeal.nD Cert.KernelIdeal.τ Cert.KernelIdeal.sig) → Buf (Elt Ideal) ℓ) : Ends m :=
  fun g => run m g

theorem algebraic : Cert.algebraic_KernelIdeal_ReferenceIdeal_pre_finite := by
  intro m g m' g' hpre hagree
  refine ⟨fun c => G7 m c, fun c => G8 m c, fun c => G9 m c, run_ideal m g, ?_⟩
  refine (θ_run Cert.ReferenceIdeal.defs _ _).mono (fun r h c => ?_) (Ref.run m' g')
  obtain ⟨e0, e1, e2, e3⟩ := hagree c
  obtain ⟨f0, f1, f2, f3⟩ := Pre.reals _ _ _ _ (hpre c)
  obtain ⟨g7, g8, g9⟩ := grads m c f0 f1 f2 f3
  obtain ⟨a, b, d, args⟩ := h c
  rw [e0, e1, e2, e3] at a
  rw [e0, e1, e2, e3] at b
  rw [e0, e1, e3] at d
  exact ⟨a.trans g7, b.trans g8, d.trans g9, args⟩

end Cert.AttnBwd

end
-- ==== Proof.MatMid.lean ====
/- The weights' gradient, 2560 columns: every point multiplies the whole rows, transposed, with its own columns. -/
module

public import proofs.«01_k».proof.Defs
public import proofs.«01_k».proof.Proof.Gen.Kernel3.Frame
public import proofs.«01_k».proof.Proof.Gen.Kernel3Ideal.Value
public import proofs.«01_k».proof.Proof.Gen.Reference3Ideal
public import Idealize.ShloMosaic.Lib.Pipeline.ValueKit
public import Idealize.ShloMosaic.Lib.Claim

@[expose] public section

set_option maxRecDepth 16384

noncomputable section

namespace Cert.MatMid

open Idealize.ShloMosaic Idealize.ShloMosaic.TcCoe Idealize.SL.Sem
open Idealize.ShloMosaic.Pipeline (Dat)

section Reference
open Cert.Reference3Ideal Cert.Reference3Ideal.Gen

/-- The columns' gradients times the rows, turned round. -/
def gradT (h : FVec Ideal S4096x1024 .f32) (ct : FVec Ideal S4096x2560 .f32) : FVec Ideal S1024x2560 .bf16 :=
  truncf .bf16 (transpose S1024x2560 [1, 0]
    (Host.dotGeneral dot_S4096x2560_S4096x1024_S2560x1024_0_0_1_1_n_n none ct h) transposes_S2560x1024_S1024x2560_1_0) bitsLt_bf16_f32

theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = gradT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl
end Reference

open Cert.Kernel3Ideal Cert.Kernel3Ideal.Gen

theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

theorem entry0 (c : Dev nD) : V m c main_v0 = (m ((c : Thread nD τ).loc main_arg0) : FVec Ideal S4096x1024 .f32) := by
  entry_read; rfl
theorem entry1 (c : Dev nD) : V m c main_v1 = (m ((c : Thread nD τ).loc main_arg1) : FVec Ideal S4096x2560 .f32) := by
  entry_read; rfl

theorem point (c : Dev nD) (t : Fin cfg0.N) (y) : k0_pay3 (F := Ideal) (k0_pay1 (F := Ideal) (iblk m c 0 t) (iblk m c 1 t)) y
    = gradT (m ((c : Thread nD τ).loc main_arg0)) (m ((c : Thread nD τ).loc main_arg1)) (((cfg0.win 2).blk t).view.emb y) := by
  pointwise [k0_pay3, k0_pay1, gradT]
  show (_ : EReal) = _
  refine (Finset.sum_congr rfl fun k _ => mul_comm _ _).trans ?_
  blk_point [iblk, entry0 m c, entry1 m c, idx t]

theorem final (c : Dev nD) : (dats m 0 c).arrAt 2 (cfgs 0).N
    = gradT (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

theorem algebraic : Cert.algebraic_Kernel3Ideal_Reference3Ideal := by
  intro m g m' g' _ hagree
  refine ⟨fun c => gradT (m ((c : Thread nD τ).loc main_arg0)) (m ((c : Thread nD τ).loc main_arg1)),
    (θ_run _ _ _).mono (fun r h c => ?_) (Cert.Kernel3Ideal.Value.run_blocks m g), (θ_run _ _ _).mono (fun r h c => ?_) (run_ref m' g')⟩
  · exact ⟨(h c).1.trans (final m c), (h c).2⟩
  · obtain ⟨e0, e1⟩ := hagree c
    obtain ⟨a, args⟩ := h c
    rw [e0, e1] at a
    exact ⟨a, args⟩

theorem frame_kernel : Cert.quiescent_Kernel3 := fun m g _ => Cert.Kernel3.Gen.frame m g
theorem frame_ideal : Cert.quiescent_Kernel3Ideal := fun m g _ => Cert.Kernel3Ideal.Gen.frame m g
theorem frame_reference : Cert.quiescent_Reference3Ideal := fun m g _ =>
  (θ_run Cert.Reference3Ideal.defs _ _).mono (fun r h => ⟨fun c => (h c).2, sem_eq_zero_of_no_sems (by decide) r.2⟩) (run_ref m g)

end Cert.MatMid

end
-- ==== Proof.MatAtt.lean ====
/- The weights' gradient, 768 columns: two points, each the product of its own half of the rows, added up. -/
module

public import proofs.«01_k».proof.Defs
public import proofs.«01_k».proof.Proof.Gen.Kernel4.Frame
public import proofs.«01_k».proof.Proof.Gen.Kernel4Ideal.Value
public import proofs.«01_k».proof.Proof.Gen.Reference4Ideal
public import Idealize.ShloMosaic.Lib.Pipeline.ValueKit
public import Idealize.ShloMosaic.Lib.Claim

@[expose] public section

set_option maxRecDepth 16384

noncomputable section

namespace Cert.MatAtt

open Idealize.ShloMosaic Idealize.ShloMosaic.TcCoe Idealize.SL.Sem
open Idealize.ShloMosaic.Pipeline (Dat)

section Reference
open Cert.Reference4Ideal Cert.Reference4Ideal.Gen

/-- The columns' gradients times the rows, turned round. -/
def gradT (h : FVec Ideal S4096x1024 .f32) (ct : FVec Ideal S4096x768 .f32) : FVec Ideal S1024x768 .bf16 :=
  truncf .bf16 (transpose S1024x768 [1, 0]
    (Host.dotGeneral dot_S4096x768_S4096x1024_S768x1024_0_0_1_1_n_n none ct h) transposes_S768x1024_S1024x768_1_0) bitsLt_bf16_f32

theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = gradT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl
end Reference

open Cert.Kernel4Ideal Cert.Kernel4Ideal.Gen

theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ)

theorem entry0 (c : Dev nD) : V m c main_v0 = (m ((c : Thread nD τ).loc main_arg0) : FVec Ideal S4096x1024 .f32) := by
  entry_read; rfl
theorem entry1 (c : Dev nD) : V m c main_v1 = (m ((c : Thread nD τ).loc main_arg1) : FVec Ideal S4096x768 .f32) := by
  entry_read; rfl

/-- A sum over the rows is the sum over its two halves. -/
theorem halves (f : Fin 4096 → EReal) : ∑ k, f k = (∑ k : Fin 2048, f ⟨k.val, by omega⟩) + ∑ k : Fin 2048, f ⟨2048 + k.val, by omega⟩ :=
  Fin.sum_univ_add (a := 2048) (b := 2048) f

/-- What the last point stores: its own half added to what the point before left. -/
theorem point (c : Dev nD) (s t : Fin cfg0.N) (hs : s.val = 0) (ht : t.val = 1) (y) :
    k0_pay3 (F := Ideal) (k0_pay2 (F := Ideal) (k0_pay1 (F := Ideal) (iblk m c 0 s) (iblk m c 1 s)) (iblk m c 0 t) (iblk m c 1 t)) y
    = gradT (m ((c : Thread nD τ).loc main_arg0)) (m ((c : Thread nD τ).loc main_arg1)) (((cfg0.win 2).blk t).view.emb y) := by
  pointwise [k0_pay3, k0_pay2, k0_pay1, gradT]
  show (_ : EReal) = _
  refine Eq.trans ?_ (halves _).symm
  refine Eq.trans (congrArg₂ _ (Finset.sum_congr rfl fun k _ => mul_comm _ _) (Finset.sum_congr rfl fun k _ => mul_comm _ _)) ?_
  blk_point [iblk, entry0 m c, entry1 m c, idx t, idx s]

theorem final (c : Dev nD) : (dats m 0 c).arrAt 2 (cfgs 0).N
    = gradT (m ((c : Thread nD τ).loc main_arg0)) (m ((c : Thread nD τ).loc main_arg1)) := by
  refine (dats m 0 c).arrAt_eq_of_covers 2 _ (by decide +kernel) fun t hf y => ?_
  blk_simp
  have hm : t.val % 2 = 1 := (flush0_2 t).mp hf
  have hN : t.val < 2 := lt_of_lt_of_eq t.isLt N_0
  have ht : t.val = 1 := by omega
  have hs : t.val - 1 < cfg0.N := Nat.lt_of_le_of_lt (Nat.sub_le _ _) t.isLt
  have h0 : (t.val - 1) % 2 = 0 := by omega
  rw [after0_2, outsAt0_B m c t (by omega) hm hm, outsAt0_A m c ⟨t.val - 1, hs⟩ h0 (by show ¬ (t.val - 1) % 2 = 1; omega) (by show ¬ (t.val - 1) % 2 = 1; omega)]
  frame_out
  rw [(Memref.isWhole_whole _).read_unread]
  exact point m c ⟨t.val - 1, hs⟩ t (by show t.val - 1 = 0; omega) ht y

theorem algebraic : Cert.algebraic_Kernel4Ideal_Reference4Ideal := by
  intro m g m' g' _ hagree
  refine ⟨fun c => gradT (m ((c : Thread nD τ).loc main_arg0)) (m ((c : Thread nD τ).loc main_arg1)),
    (θ_run _ _ _).mono (fun r h c => ?_) (Cert.Kernel4Ideal.Value.run_blocks m g), (θ_run _ _ _).mono (fun r h c => ?_) (run_ref m' g')⟩
  · exact ⟨(h c).1.trans (final m c), (h c).2⟩
  · obtain ⟨e0, e1⟩ := hagree c
    obtain ⟨a, args⟩ := h c
    rw [e0, e1] at a
    exact ⟨a, args⟩

theorem frame_kernel : Cert.quiescent_Kernel4 := fun m g _ => Cert.Kernel4.Gen.frame m g
theorem frame_ideal : Cert.quiescent_Kernel4Ideal := fun m g _ => Cert.Kernel4Ideal.Gen.frame m g
theorem frame_reference : Cert.quiescent_Reference4Ideal := fun m g _ =>
  (θ_run Cert.Reference4Ideal.defs _ _).mono (fun r h => ⟨fun c => (h c).2, sem_eq_zero_of_no_sems (by decide) r.2⟩) (run_ref m g)

end Cert.MatAtt

end
-- ==== Proof.MatOut.lean ====
/- The gradient of the output projection's weight: every point multiplies the whole rows, transposed, with its own columns. -/
module

public import proofs.«01_k».proof.Defs
public import proofs.«01_k».proof.Proof.Gen.Kernel7.Frame
public import proofs.«01_k».proof.Proof.Gen.Kernel7Ideal.Value
public import proofs.«01_k».proof.Proof.Gen.Reference7Ideal
public import Idealize.ShloMosaic.Lib.Pipeline.ValueKit
public import Idealize.ShloMosaic.Lib.Claim

@[expose] public section

set_option maxRecDepth 16384

noncomputable section

namespace Cert.MatOut

open Idealize.ShloMosaic Idealize.ShloMosaic.TcCoe Idealize.SL.Sem
open Idealize.ShloMosaic.Pipeline (Dat)

section Reference
open Cert.Reference7Ideal Cert.Reference7Ideal.Gen

/-- The gradients of the rows' product times the merged rows, turned round. -/
def gradT (h : FVec Ideal S4096x1024 .f32) (ct : FVec Ideal S4096x1024 .f32) : FVec Ideal S1024x1024 .bf16 :=
  truncf .bf16 (transpose S1024x1024 [1, 0]
    (Host.dotGeneral dot_S4096x1024_S4096x1024_S1024x1024_0_0_1_1_n_n none ct h) transposes_S1024x1024_S1024x1024_1_0) bitsLt_bf16_f32

theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = gradT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl
end Reference

open Cert.Kernel7Ideal Cert.Kernel7Ideal.Gen

theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

theorem entry0 (c : Dev nD) : V m c main_v0 = (m ((c : Thread nD τ).loc main_arg0) : FVec Ideal S4096x1024 .f32) := by
  entry_read; rfl
theorem entry1 (c : Dev nD) : V m c main_v1 = (m ((c : Thread nD τ).loc main_arg1) : FVec Ideal S4096x1024 .f32) := by
  entry_read; rfl

theorem point (c : Dev nD) (t : Fin cfg0.N) (y) : k0_pay3 (F := Ideal) (k0_pay1 (F := Ideal) (iblk m c 0 t) (iblk m c 1 t)) y
    = gradT (m ((c : Thread nD τ).loc main_arg0)) (m ((c : Thread nD τ).loc main_arg1)) (((cfg0.win 2).blk t).view.emb y) := by
  pointwise [k0_pay3, k0_pay1, gradT]
  show (_ : EReal) = _
  refine (Finset.sum_congr rfl fun k _ => mul_comm _ _).trans ?_
  blk_point [iblk, entry0 m c, entry1 m c, idx t]

theorem final (c : Dev nD) : (dats m 0 c).arrAt 2 (cfgs 0).N
    = gradT (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

theorem algebraic : Cert.algebraic_Kernel7Ideal_Reference7Ideal := by
  intro m g m' g' _ hagree
  refine ⟨fun c => gradT (m ((c : Thread nD τ).loc main_arg0)) (m ((c : Thread nD τ).loc main_arg1)),
    (θ_run _ _ _).mono (fun r h c => ?_) (Cert.Kernel7Ideal.Value.run_blocks m g), (θ_run _ _ _).mono (fun r h c => ?_) (run_ref m' g')⟩
  · exact ⟨(h c).1.trans (final m c), (h c).2⟩
  · obtain ⟨e0, e1⟩ := hagree c
    obtain ⟨a, args⟩ := h c
    rw [e0, e1] at a
    exact ⟨a, args⟩

theorem frame_kernel : Cert.quiescent_Kernel7 := fun m g _ => Cert.Kernel7.Gen.frame m g
theorem frame_ideal : Cert.quiescent_Kernel7Ideal := fun m g _ => Cert.Kernel7Ideal.Gen.frame m g
theorem frame_reference : Cert.quiescent_Reference7Ideal := fun m g _ =>
  (θ_run Cert.Reference7Ideal.defs _ _).mono (fun r h => ⟨fun c => (h c).2, sem_eq_zero_of_no_sems (by decide) r.2⟩) (run_ref m g)

end Cert.MatOut

end
-- ==== Proof.MatBranch.lean ====
/- The gradient of the weight of a branch's product: every point multiplies the whole rows, transposed, with its own columns. -/
module

public import proofs.«01_k».proof.Defs
public import proofs.«01_k».proof.Proof.Gen.Kernel8.Frame
public import proofs.«01_k».proof.Proof.Gen.Kernel8Ideal.Value
public import proofs.«01_k».proof.Proof.Gen.Reference8Ideal
public import Idealize.ShloMosaic.Lib.Pipeline.ValueKit
public import Idealize.ShloMosaic.Lib.Claim

@[expose] public section

set_option maxRecDepth 16384

noncomputable section

namespace Cert.MatBranch

open Idealize.ShloMosaic Idealize.ShloMosaic.TcCoe Idealize.SL.Sem
open Idealize.ShloMosaic.Pipeline (Dat)

section Reference
open Cert.Reference8Ideal Cert.Reference8Ideal.Gen

/-- The gradients of a branch's product times the branch's rows, turned round. -/
def gradT (h : FVec Ideal S4096x512 .f32) (ct : FVec Ideal S4096x1024 .f32) : FVec Ideal S512x1024 .bf16 :=
  truncf .bf16 (transpose S512x1024 [1, 0]
    (Host.dotGeneral dot_S4096x1024_S4096x512_S1024x512_0_0_1_1_n_n none ct h) transposes_S1024x512_S512x1024_1_0) bitsLt_bf16_f32

theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = gradT (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl
end Reference

open Cert.Kernel8Ideal Cert.Kernel8Ideal.Gen

theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

theorem entry0 (c : Dev nD) : V m c main_v0 = (m ((c : Thread nD τ).loc main_arg0) : FVec Ideal S4096x512 .f32) := by
  entry_read; rfl
theorem entry1 (c : Dev nD) : V m c main_v1 = (m ((c : Thread nD τ).loc main_arg1) : FVec Ideal S4096x1024 .f32) := by
  entry_read; rfl

theorem point (c : Dev nD) (t : Fin cfg0.N) (y) : k0_pay3 (F := Ideal) (k0_pay1 (F := Ideal) (iblk m c 0 t) (iblk m c 1 t)) y
    = gradT (m ((c : Thread nD τ).loc main_arg0)) (m ((c : Thread nD τ).loc main_arg1)) (((cfg0.win 2).blk t).view.emb y) := by
  pointwise [k0_pay3, k0_pay1, gradT]
  show (_ : EReal) = _
  refine (Finset.sum_congr rfl fun k _ => mul_comm _ _).trans ?_
  blk_point [iblk, entry0 m c, entry1 m c, idx t]

theorem final (c : Dev nD) : (dats m 0 c).arrAt 2 (cfgs 0).N
    = gradT (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

theorem algebraic : Cert.algebraic_Kernel8Ideal_Reference8Ideal := by
  intro m g m' g' _ hagree
  refine ⟨fun c => gradT (m ((c : Thread nD τ).loc main_arg0)) (m ((c : Thread nD τ).loc main_arg1)),
    (θ_run _ _ _).mono (fun r h c => ?_) (Cert.Kernel8Ideal.Value.run_blocks m g), (θ_run _ _ _).mono (fun r h c => ?_) (run_ref m' g')⟩
  · exact ⟨(h c).1.trans (final m c), (h c).2⟩
  · obtain ⟨e0, e1⟩ := hagree c
    obtain ⟨a, args⟩ := h c
    rw [e0, e1] at a
    exact ⟨a, args⟩

theorem frame_kernel : Cert.quiescent_Kernel8 := fun m g _ => Cert.Kernel8.Gen.frame m g
theorem frame_ideal : Cert.quiescent_Kernel8Ideal := fun m g _ => Cert.Kernel8Ideal.Gen.frame m g
theorem frame_reference : Cert.quiescent_Reference8Ideal := fun m g _ =>
  (θ_run Cert.Reference8Ideal.defs _ _).mono (fun r h => ⟨fun c => (h c).2, sem_eq_zero_of_no_sems (by decide) r.2⟩) (run_ref m g)

end Cert.MatBranch

end
-- ==== Proof.FwdRef.lean ====
/- The first block's products: the columns of the weights put in the kernel's order give the columns of the product in that order. -/
module

public import proofs.«01_k».proof.Proof.Gen.Reference5Ideal
public import Idealize.ShloMosaic.PureOps.Ideal
public import Idealize.ShloMosaic.Lib.Pointwise
public import Idealize.ShloMosaic.Lib.Claim

@[expose] public section

set_option maxRecDepth 16384

noncomputable section

namespace Cert.FwdIn

open Idealize.ShloMosaic Idealize.ShloMosaic.TcCoe Idealize.SL.Sem
open Idealize.ShloMosaic.Pipeline (Dat)

section Reference
open Cert.Reference5Ideal Cert.Reference5Ideal.Gen

/-- One over the root of each row's mean square, -/
def rootT (x : FVec Ideal S4096x1024 .f32) : FVec Ideal S4096x1 .f32 :=
  Host.rsqrt (addf (Host.divf (broadcastInDim S4096x1 ![0] bcast_S4096_S4096x1_0
      (Host.reduceAdd (mulf x x) (constant S_ FTy.f32 0#32) reducesTo_S4096x1024_S4096_d1 h_S_))
    (broadcastInDim S4096x1 ![] bcast_S_S4096x1 (constant S_ FTy.f32 0x44800000#32)))
    (broadcastInDim S4096x1 ![] bcast_S_S4096x1 (constant S_ FTy.f32 0x358637BD#32)))
/-- the rows scaled by it, by the gain and by the modulation, and shifted, -/
def modT (x : FVec Ideal S4096x1024 .f32) (md : FVec Ideal S3x1024 .f32) (g : FVec Ideal S1x1024 .f32) : FVec Ideal S4096x1024 .f32 :=
  addf (mulf (mulf (mulf x (broadcastInDim S4096x1024 ![0, 1] bcast_S4096x1_S4096x1024_0_1 (rootT x)))
      (broadcastInDim S4096x1024 ![0, 1] bcast_S1x1024_S4096x1024_0_1 g))
      (broadcastInDim S4096x1024 ![0, 1] bcast_S1x1024_S4096x1024_0_1
        (addf (broadcastInDim S1x1024 ![] bcast_S_S1x1024 (constant S_ FTy.f32 0x3F800000#32)) (extractStridedSlice S1x1024 ![1, 0] md slices_S3x1024_S1x1024_1_0))))
    (broadcastInDim S4096x1024 ![0, 1] bcast_S1x1024_S4096x1024_0_1 (extractStridedSlice S1x1024 ![0, 0] md slices_S3x1024_S1x1024_0_0))
/-- A product's columns, put in the kernel's order, -/
def orderT (p : FVec Ideal S4096x4864 .f32) : FVec Ideal S4096x4864 .f32 :=
  concatenate S4096x4864 1 [⟨S4096x2048, extractStridedSlice S4096x2048 ![0, 2816] p slices_S4096x4864_S4096x2048_0_2816⟩, ⟨S4096x512, extractStridedSlice S4096x512 ![0, 768] p slices_S4096x4864_S4096x512_0_768⟩, ⟨S4096x512, extractStridedSlice S4096x512 ![0, 0] p slices_S4096x4864_S4096x512_0_0⟩, ⟨S4096x128, extractStridedSlice S4096x128 ![0, 512] p slices_S4096x4864_S4096x128_0_512⟩, ⟨S4096x128, extractStridedSlice S4096x128 ![0, 640] p slices_S4096x4864_S4096x128_0_640⟩, ⟨S4096x256, extractStridedSlice S4096x256 ![0, 1280] p slices_S4096x4864_S4096x256_0_1280⟩, ⟨S4096x512, extractStridedSlice S4096x512 ![0, 2304] p slices_S4096x4864_S4096x512_0_2304⟩, ⟨S4096x512, extractStridedSlice S4096x512 ![0, 1792] p slices_S4096x4864_S4096x512_0_1792⟩, ⟨S4096x256, extractStridedSlice S4096x256 ![0, 1536] p slices_S4096x4864_S4096x256_0_1536⟩] concatenates_S4096x2048_S4096x512_S4096x512_S4096x128_S4096x128_S4096x256_S4096x512_S4096x512_S4096x256_S4096x4864_d1
/-- the product's columns in that order, -/
def prodT (h : FVec Ideal S4096x1024 .f32) (w : FVec Ideal S1024x4864 .f32) : FVec Ideal S4096x4864 .bf16 :=
  truncf .bf16 (orderT (Host.dotGeneral dot_S4096x1024_S1024x4864_S4096x4864_1_0_0_1_n_n none h w)) bitsLt_bf16_f32
/-- and the rows themselves. -/
def rowsT (h : FVec Ideal S4096x1024 .f32) : FVec Ideal S4096x1024 .bf16 := truncf .bf16 h bitsLt_bf16_f32

set_option maxHeartbeats 3200000 in
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v31) = prodT (modT (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_v32) = rowsT (modT (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have base := StableHlo.run_hlo (defs (F := Ideal)) (main (F := Ideal)) (by hlo_seq) (by decide) (by decide) (by simp)
    (by intro _ h; (repeat (cases h with | head => rfl | tail _ h => ?_)); exact nomatch h) m g
  exact (θ_run _ _ _).mono (fun r h c => ⟨(h c main_v31).trans rfl, (h c main_v32).trans rfl, (h c main_arg0).trans rfl,
    (h c main_arg1).trans rfl, (h c main_arg2).trans rfl, (h c main_arg3).trans rfl⟩) base

end Reference

end Cert.FwdIn

end
-- ==== Proof.FwdIn.lean ====
/- The first block's products: the columns of the weights put in the kernel's order give the columns of the product in that order. -/
module

public import proofs.«01_k».proof.Defs
public import proofs.«01_k».proof.Proof.Gen.Kernel5.Frame
public import proofs.«01_k».proof.Proof.Gen.Kernel5Ideal.Value
public import proofs.«01_k».proof.Proof.FwdRef
public import Idealize.ShloMosaic.Lib.Pipeline.ValueKit
public import Idealize.ShloMosaic.Lib.Claim

@[expose] public section

set_option maxRecDepth 16384

noncomputable section

namespace Cert.FwdIn

open Idealize.ShloMosaic Idealize.ShloMosaic.TcCoe Idealize.SL.Sem
open Idealize.ShloMosaic.Pipeline (Dat)

/-- Which of the weights' columns stands at a place of the kernel's order. -/
def col (n : ℕ) : ℕ :=
  if n < 2048 then 2816 + n else if n < 2560 then n - 1280 else if n < 3328 then n - 2560 else if n < 3584 then n - 2048
  else if n < 4096 then n - 1280 else if n < 4608 then n - 2304 else n - 3072
theorem col_lt (n : Fin 4864) : col n < 4864 := by unfold col; split_ifs <;> omega

theorem order_at (p : FVec Ideal Cert.Reference5Ideal.S4096x4864 .f32) (s : Fin 4096) (n : Fin 4864) :
    orderT p (ix2 s n) = p (ix2 s ⟨col n, col_lt n⟩) := by
  pointwise [orderT]
  blk_point []
  all_goals (unfold col; split_ifs <;> omega)

open Cert.Kernel5Ideal Cert.Kernel5Ideal.Gen

/-- The weights' columns in the kernel's order. -/
def weights (w : FVec Ideal S1024x4864 .f32) : FVec Ideal S1024x4864 .bf16 :=
  truncf .bf16 (concatenate S1024x4864 1 [⟨S1024x2048, extractStridedSlice S1024x2048 ![0, 2816] w slices_S1024x4864_S1024x2048_0_2816⟩, ⟨S1024x512, extractStridedSlice S1024x512 ![0, 768] w slices_S1024x4864_S1024x512_0_768⟩, ⟨S1024x512, extractStridedSlice S1024x512 ![0, 0] w slices_S1024x4864_S1024x512_0_0⟩, ⟨S1024x128, extractStridedSlice S1024x128 ![0, 512] w slices_S1024x4864_S1024x128_0_512⟩, ⟨S1024x128, extractStridedSlice S1024x128 ![0, 640] w slices_S1024x4864_S1024x128_0_640⟩, ⟨S1024x256, extractStridedSlice S1024x256 ![0, 1280] w slices_S1024x4864_S1024x256_0_1280⟩, ⟨S1024x512, extractStridedSlice S1024x512 ![0, 2304] w slices_S1024x4864_S1024x512_0_2304⟩, ⟨S1024x512, extractStridedSlice S1024x512 ![0, 1792] w slices_S1024x4864_S1024x512_0_1792⟩, ⟨S1024x256, extractStridedSlice S1024x256 ![0, 1536] w slices_S1024x4864_S1024x256_0_1536⟩] concatenates_S1024x2048_S1024x512_S1024x512_S1024x128_S1024x128_S1024x256_S1024x512_S1024x512_S1024x256_S1024x4864_d1) bitsLt_bf16_f32
theorem weights_at (w : FVec Ideal S1024x4864 .f32) (k : Fin 1024) (n : Fin 4864) :
    weights w (ix2 k n) = w (ix2 k ⟨col n, col_lt n⟩) := by
  pointwise [weights]
  blk_point []
  all_goals (unfold col; split_ifs <;> omega)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

variable (m : (ℓ : Loc nD τ sig) → Buf (Elt Ideal) ℓ)

set_option maxHeartbeats 1000000 in
theorem entry (c : Dev nD) : V m c main_v10 = weights (m ((c : Thread nD τ).loc main_arg3)) := by
  rfl

/-- What a point stores of the rows, at variable indices. -/
theorem core (c : Dev nD) (t : Fin cfg0.N) (y : Fin 512) (k : Fin 1024) (s : Fin 4096) (hs : s.val = t.val * 512 + y.val) :
    k0_pay1 (F := Ideal) (iblk m c 0 t) (iblk m c 2 t) (View.ld (iblk m c 1 t) r0_2) (View.ld (iblk m c 1 t) r0_3) (ix2 y k)
    = modT (m ((c : Thread nD τ).loc main_arg0)) (m ((c : Thread nD τ).loc main_arg1)) (m ((c : Thread nD τ).loc main_arg2)) (ix2 s k) := by
  pointwise [k0_pay1, modT, rootT]
  blk_point [iblk, V, idx t]

/-- The columns of the product, element by element, -/
theorem prod_at (h : FVec Ideal Cert.Reference5Ideal.S4096x1024 .f32) (w : FVec Ideal S1024x4864 .f32) (s : Fin 4096) (n : Fin 4864) :
    prodT h w (ix2 s n) = ∑ k : Fin 1024, h (ix2 s k) * w (ix2 k ⟨col n, col_lt n⟩) := by
  refine (order_at _ s n).trans ?_
  pointwise
/-- and the weights a point reads. -/
theorem block_at (c : Dev nD) (t : Fin cfg0.N) (k : Fin 1024) (n : Fin 4864) :
    (show FVec Ideal S1024x4864 .bf16 from iblk m c 3 t) (ix2 k n) = (m ((c : Thread nD τ).loc main_arg3) : FVec Ideal S1024x4864 .f32) (ix2 k ⟨col n, col_lt n⟩) := by
  refine Eq.trans ?_ (weights_at _ k n)
  rw [← entry m c]
  blk_ext [iblk, idx t]

/-- What a point stores of the product, at variable indices. -/
theorem core' (c : Dev nD) (t : Fin cfg0.N) (y : Fin 512) (n : Fin 4864) (s : Fin 4096) (hs : s.val = t.val * 512 + y.val) :
    k0_pay2 (F := Ideal) (iblk m c 0 t) (iblk m c 2 t) (View.ld (iblk m c 1 t) r0_2) (View.ld (iblk m c 1 t) r0_3)
      (iblk m c 3 t) (ix2 y n)
    = prodT (modT (m ((c : Thread nD τ).loc main_arg0)) (m ((c : Thread nD τ).loc main_arg1)) (m ((c : Thread nD τ).loc main_arg2)))
      (m ((c : Thread nD τ).loc main_arg3)) (ix2 s n) := by
  refine Eq.trans ?_ (prod_at _ _ s n).symm
  pointwise [k0_pay2]
  exact Finset.sum_congr rfl fun k _ => congrArg₂ _ (core m c t y k s hs) (block_at m c t k n)

theorem final5 (c : Dev nD) : (dats m 0 c).arrAt 5 (cfgs 0).N
    = rowsT (modT (m ((c : Thread nD τ).loc main_arg0)) (m ((c : Thread nD τ).loc main_arg1)) (m ((c : Thread nD τ).loc main_arg2))) := by
  refine (dats m 0 c).arrAt_eq_of_covers 5 _ (by decide +kernel) fun t _ y => ?_
  blk_simp
  rw [after0_5]
  frame_out
  have ht : t.val < 8 := lt_of_lt_of_eq t.isLt N_0
  obtain ⟨y0, y1, rfl⟩ : ∃ (y0 : Fin 512) (y1 : Fin 1024), y = ix2 y0 y1 := ⟨y 0, y 1, eq_ix2 y⟩
  refine (core m c t y0 y1 ⟨t.val * 512 + y0.val, by omega⟩ rfl).trans ?_
  show modT _ _ _ _ = modT _ _ _ _
  blk_ext [idx t]

theorem final4 (c : Dev nD) : (dats m 0 c).arrAt 4 (cfgs 0).N
    = prodT (modT (m ((c : Thread nD τ).loc main_arg0)) (m ((c : Thread nD τ).loc main_arg1)) (m ((c : Thread nD τ).loc main_arg2)))
      (m ((c : Thread nD τ).loc main_arg3)) := by
  refine (dats m 0 c).arrAt_eq_of_covers 4 _ (by decide +kernel) fun t _ y => ?_
  blk_simp
  rw [after0_4]
  frame_out
  have ht : t.val < 8 := lt_of_lt_of_eq t.isLt N_0
  obtain ⟨y0, y1, rfl⟩ : ∃ (y0 : Fin 512) (y1 : Fin 4864), y = ix2 y0 y1 := ⟨y 0, y 1, eq_ix2 y⟩
  refine (core' m c t y0 y1 ⟨t.val * 512 + y0.val, by omega⟩ rfl).trans ?_
  blk_ext [idx t]

theorem algebraic : Cert.algebraic_Kernel5Ideal_Reference5Ideal := by
  intro m g m' g' _ hagree
  refine ⟨fun c => prodT (modT (m ((c : Thread nD τ).loc main_arg0)) (m ((c : Thread nD τ).loc main_arg1)) (m ((c : Thread nD τ).loc main_arg2)))
      (m ((c : Thread nD τ).loc main_arg3)),
    fun c => rowsT (modT (m ((c : Thread nD τ).loc main_arg0)) (m ((c : Thread nD τ).loc main_arg1)) (m ((c : Thread nD τ).loc main_arg2))),
    (θ_run _ _ _).mono (fun r h c => ?_) (Cert.Kernel5Ideal.Value.run_blocks m g), (θ_run _ _ _).mono (fun r h c => ?_) (run_ref m' g')⟩
  · exact ⟨(h c).1.trans (final4 m c), (h c).2.1.trans (final5 m c), (h c).2.2⟩
  · obtain ⟨e0, e1, e2, e3⟩ := hagree c
    obtain ⟨a, b, args⟩ := h c
    rw [e0, e1, e2, e3] at a
    rw [e0, e1, e2] at b
    exact ⟨a, b, args⟩

theorem frame_kernel : Cert.quiescent_Kernel5 := fun m g _ => Cert.Kernel5.Gen.frame m g
theorem frame_ideal : Cert.quiescent_Kernel5Ideal := fun m g _ => Cert.Kernel5Ideal.Gen.frame m g
theorem frame_reference : Cert.quiescent_Reference5Ideal := fun m g _ =>
  (θ_run Cert.Reference5Ideal.defs _ _).mono (fun r h => ⟨fun c => (h c).2.2, sem_eq_zero_of_no_sems (by decide) r.2⟩) (run_ref m g)

end Cert.FwdIn

end
-- ==== Proof.BwdRef.lean ====
/- The gradient of the first block's product by its input, as the reference computes it, and that run's results. -/
module

public import proofs.«01_k».proof.Proof.Gen.Reference2Ideal
public import Idealize.ShloMosaic.PureOps.Ideal
public import Idealize.ShloMosaic.Lib.Pointwise
public import Idealize.ShloMosaic.Lib.Claim

@[expose] public section

set_option maxRecDepth 16384

noncomputable section

namespace Cert.BwdIn

open Idealize.ShloMosaic Idealize.ShloMosaic.TcCoe Idealize.SL.Sem
open Cert.Reference2Ideal Cert.Reference2Ideal.Gen

/-- Each row's mean square, a little more, -/
def meanT (x : FVec Ideal S4096x1024 .f32) : FVec Ideal S4096x1 .f32 :=
  addf (Host.divf (broadcastInDim S4096x1 ![0] bcast_S4096_S4096x1_0
      (Host.reduceAdd (mulf x x) (constant S_ FTy.f32 0#32) reducesTo_S4096x1024_S4096_d1 h_S_))
    (broadcastInDim S4096x1 ![] bcast_S_S4096x1 (constant S_ FTy.f32 0x44800000#32)))
    (broadcastInDim S4096x1 ![] bcast_S_S4096x1 (constant S_ FTy.f32 0x358637BD#32))
/-- one over its root, -/
def rootT (v : FVec Ideal S4096x1 .f32) : FVec Ideal S4096x1 .f32 := Host.rsqrt v
/-- that root's derivative by the mean, -/
def slopeT (v r : FVec Ideal S4096x1 .f32) : FVec Ideal S4096x1 .f32 :=
  mulf (broadcastInDim S4096x1 ![] bcast_S_S4096x1 (constant S_ FTy.f32 0xBF000000#32)) (Host.divf r v)
/-- the rows scaled by the root. -/
def normT (x : FVec Ideal S4096x1024 .f32) (r : FVec Ideal S4096x1 .f32) : FVec Ideal S4096x1024 .f32 :=
  mulf x (broadcastInDim S4096x1024 ![0, 1] bcast_S4096x1_S4096x1024_0_1 r)
/-- One more than the modulation's scale, -/
def scaleT (md : FVec Ideal S3x1024 .f32) : FVec Ideal S1x1024 .f32 :=
  addf (broadcastInDim S1x1024 ![] bcast_S_S1x1024 (constant S_ FTy.f32 0x3F800000#32)) (extractStridedSlice S1x1024 ![1, 0] md slices_S3x1024_S1x1024_1_0)
/-- a row for every token, -/
def rowsT (g : FVec Ideal S1x1024 .f32) : FVec Ideal S4096x1024 .f32 := broadcastInDim S4096x1024 ![0, 1] bcast_S1x1024_S4096x1024_0_1 g
/-- the sum of a column, -/
def colsumT (x : FVec Ideal S4096x1024 .f32) : FVec Ideal S1x1024 .f32 :=
  shapeCast S1x1024 (Host.reduceAdd x (constant S_ FTy.f32 0#32) reducesTo_S4096x1024_S1024_d0 h_S_) shapeCasts_S1024_S1x1024
/-- the gradient of the modulated rows, -/
def dhT (w : FVec Ideal S1024x4864 .f32) (ct : FVec Ideal S4096x4864 .f32) : FVec Ideal S4096x1024 .f32 :=
  Host.dotGeneral dot_S4096x4864_S1024x4864_S4096x1024_1_1_0_0_n_n none ct w
/-- the gradient of the normalised rows, -/
def dnT (dh : FVec Ideal S4096x1024 .f32) (md : FVec Ideal S3x1024 .f32) (g : FVec Ideal S1x1024 .f32) : FVec Ideal S4096x1024 .f32 :=
  mulf (mulf dh (rowsT (scaleT md))) (rowsT g)
/-- what reaches a row through its mean square, -/
def pullT (x dn : FVec Ideal S4096x1024 .f32) (sl : FVec Ideal S4096x1 .f32) : FVec Ideal S4096x1024 .f32 :=
  broadcastInDim S4096x1024 ![0] bcast_S4096_S4096x1024_0 (Host.reduceAdd (Host.divf
    (mulf (shapeCast S4096x1 (Host.reduceAdd (mulf x dn) (constant S_ FTy.f32 0#32) reducesTo_S4096x1024_S4096_d1 h_S_) shapeCasts_S4096_S4096x1) sl)
    (broadcastInDim S4096x1 ![] bcast_S_S4096x1 (constant S_ FTy.f32 0x44800000#32))) (constant S_ FTy.f32 0#32) reducesTo_S4096x1_S4096_d1 h_S_)
/-- the gradient of the rows, -/
def dxT (x dout dn : FVec Ideal S4096x1024 .f32) (r sl : FVec Ideal S4096x1 .f32) : FVec Ideal S4096x1024 .f32 :=
  addf (addf (addf dout (normT dn r)) (mulf x (pullT x dn sl))) (mulf (pullT x dn sl) x)
/-- and the gradients of the shift, of the scale and of the gain, with five rows of zeros. -/
def sumsT (xn dh : FVec Ideal S4096x1024 .f32) (md : FVec Ideal S3x1024 .f32) (g : FVec Ideal S1x1024 .f32) : FVec Ideal S8x1024 .f32 :=
  concatenate S8x1024 0 [⟨S1x1024, colsumT dh⟩, ⟨S1x1024, colsumT (mulf (mulf xn (rowsT g)) dh)⟩,
    ⟨S1x1024, colsumT (mulf xn (mulf dh (rowsT (scaleT md))))⟩, ⟨S5x1024, broadcastInDim S5x1024 ![] bcast_S_S5x1024 (constant S_ FTy.f32 0#32)⟩]
    concatenates_S1x1024_S1x1024_S1x1024_S5x1024_S8x1024_d0

/-- The two results from the arguments. -/
def gradT (x : FVec Ideal S4096x1024 .f32) (md : FVec Ideal S3x1024 .f32) (g : FVec Ideal S1x1024 .f32) (w : FVec Ideal S1024x4864 .f32)
    (ct : FVec Ideal S4096x4864 .f32) (dout : FVec Ideal S4096x1024 .f32) : FVec Ideal S4096x1024 .f32 :=
  dxT x dout (dnT (dhT w ct) md g) (rootT (meanT x)) (slopeT (meanT x) (rootT (meanT x)))
def gradsT (x : FVec Ideal S4096x1024 .f32) (md : FVec Ideal S3x1024 .f32) (g : FVec Ideal S1x1024 .f32) (w : FVec Ideal S1024x4864 .f32)
    (ct : FVec Ideal S4096x4864 .f32) : FVec Ideal S8x1024 .f32 :=
  sumsT (normT x (rootT (meanT x))) (dhT w ct) md g

set_option maxHeartbeats 3200000 in
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51) = gradT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v53) = gradsT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have base := StableHlo.run_hlo (defs (F := Ideal)) (main (F := Ideal)) (by hlo_seq) (by decide) (by decide) (by simp)
    (by intro _ h; (repeat (cases h with | head => rfl | tail _ h => ?_)); exact nomatch h) m ρ
  exact (θ_run _ _ _).mono (fun r h c => ⟨(h c main_v51).trans rfl, (h c main_v53).trans rfl, (h c main_arg0).trans rfl,
    (h c main_arg1).trans rfl, (h c main_arg2).trans rfl, (h c main_arg3).trans rfl, (h c main_arg4).trans rfl, (h c main_arg5).trans rfl⟩) base

end Cert.BwdIn

end
-- ==== Proof.BwdBlk.lean ====
/- What a point of the input gradient's call reads: the gradient's columns and the weights' in the kernel's order, so that its four
   products add to the whole product, and the rows' root and their normalised values. -/
module

public import proofs.«01_k».proof.Defs
public import proofs.«01_k».proof.Proof.Gen.Kernel2Ideal.Value
public import proofs.«01_k».proof.Proof.BwdRef
public import proofs.«01_k».proof.Proof.FwdIn
public import Idealize.ShloMosaic.Lib.Pipeline.ValueKit

@[expose] public section

set_option maxRecDepth 16384

noncomputable section

namespace Cert.BwdIn

open Idealize.ShloMosaic Idealize.ShloMosaic.TcCoe Idealize.SL.Sem
open Idealize.ShloMosaic.Pipeline (Dat)
open Cert.Kernel2Ideal Cert.Kernel2Ideal.Gen
open Cert.FwdIn (col col_lt)

/-- The kernel's order is a permutation of the columns, -/
theorem col_inj : Function.Injective (fun n : Fin 4864 => (⟨col n, col_lt n⟩ : Fin 4864)) := fun a b h => by
  have h := Fin.mk.inj_iff.mp h
  unfold col at h
  split_ifs at h <;> omega
/-- so that a sum over all columns may be taken in that order. -/
theorem sum_col (f : Fin 4864 → EReal) : ∑ n : Fin 4864, f ⟨col n, col_lt n⟩ = ∑ n : Fin 4864, f n :=
  (Function.Injective.bijective_of_finite col_inj).sum_comp f

/-- The gradient's columns of the four groups. -/
def midT (ct : FVec Ideal S4096x4864 .f32) : FVec Ideal S4096x2560 .bf16 :=
  truncf .bf16 (concatenate S4096x2560 1 [⟨S4096x2048, extractStridedSlice S4096x2048 ![0, 2816] ct slices_S4096x4864_S4096x2048_0_2816⟩, ⟨S4096x512, extractStridedSlice S4096x512 ![0, 768] ct slices_S4096x4864_S4096x512_0_768⟩] concatenates_S4096x2048_S4096x512_S4096x2560_d1) bitsLt_bf16_f32
def attT (ct : FVec Ideal S4096x4864 .f32) : FVec Ideal S4096x768 .bf16 :=
  truncf .bf16 (concatenate S4096x768 1 [⟨S4096x512, extractStridedSlice S4096x512 ![0, 0] ct slices_S4096x4864_S4096x512_0_0⟩, ⟨S4096x128, extractStridedSlice S4096x128 ![0, 512] ct slices_S4096x4864_S4096x128_0_512⟩, ⟨S4096x128, extractStridedSlice S4096x128 ![0, 640] ct slices_S4096x4864_S4096x128_0_640⟩] concatenates_S4096x512_S4096x128_S4096x128_S4096x768_d1) bitsLt_bf16_f32
def retAT (ct : FVec Ideal S4096x4864 .f32) : FVec Ideal S4096x768 .bf16 :=
  truncf .bf16 (concatenate S4096x768 1 [⟨S4096x256, extractStridedSlice S4096x256 ![0, 1280] ct slices_S4096x4864_S4096x256_0_1280⟩, ⟨S4096x512, extractStridedSlice S4096x512 ![0, 2304] ct slices_S4096x4864_S4096x512_0_2304⟩] concatenates_S4096x256_S4096x512_S4096x768_d1) bitsLt_bf16_f32
def retBT (ct : FVec Ideal S4096x4864 .f32) : FVec Ideal S4096x768 .bf16 :=
  truncf .bf16 (concatenate S4096x768 1 [⟨S4096x512, extractStridedSlice S4096x512 ![0, 1792] ct slices_S4096x4864_S4096x512_0_1792⟩, ⟨S4096x256, extractStridedSlice S4096x256 ![0, 1536] ct slices_S4096x4864_S4096x256_0_1536⟩] concatenates_S4096x512_S4096x256_S4096x768_d1) bitsLt_bf16_f32

section Columns
variable (ct : FVec Ideal S4096x4864 .f32) (s : Fin 4096)
theorem midT_at (n : Fin 2560) : midT ct (ix2 s n) = ct (ix2 s ⟨col n.val, col_lt ⟨n.val, by omega⟩⟩) := by
  pointwise [midT]
  blk_point []
  all_goals (unfold col; split_ifs <;> omega)
theorem attT_at (n : Fin 768) : attT ct (ix2 s n) = ct (ix2 s ⟨col (2560 + n.val), col_lt ⟨2560 + n.val, by omega⟩⟩) := by
  pointwise [attT]
  blk_point []
  all_goals (unfold col; split_ifs <;> omega)
theorem retAT_at (n : Fin 768) : retAT ct (ix2 s n) = ct (ix2 s ⟨col (3328 + n.val), col_lt ⟨3328 + n.val, by omega⟩⟩) := by
  pointwise [retAT]
  blk_point []
  all_goals (unfold col; split_ifs <;> omega)
theorem retBT_at (n : Fin 768) : retBT ct (ix2 s n) = ct (ix2 s ⟨col (4096 + n.val), col_lt ⟨4096 + n.val, by omega⟩⟩) := by
  pointwise [retBT]
  blk_point []
  all_goals (unfold col; split_ifs <;> omega)
end Columns

variable (m : (ℓ : Loc nD τ sig) → Buf (Elt Ideal) ℓ)

set_option maxHeartbeats 1000000 in
theorem entry0 (c : Dev nD) : V m c main_v3 = midT (m ((c : Thread nD τ).loc main_arg4)) := by rfl
set_option maxHeartbeats 1000000 in
theorem entry1 (c : Dev nD) : V m c main_v8 = attT (m ((c : Thread nD τ).loc main_arg4)) := by rfl
set_option maxHeartbeats 1000000 in
theorem entry2 (c : Dev nD) : V m c main_v12 = retAT (m ((c : Thread nD τ).loc main_arg4)) := by rfl
set_option maxHeartbeats 1000000 in
theorem entry3 (c : Dev nD) : V m c main_v16 = retBT (m ((c : Thread nD τ).loc main_arg4)) := by rfl
set_option maxHeartbeats 1000000 in
theorem entry4 (c : Dev nD) : V m c main_v27 = Cert.FwdIn.weights (m ((c : Thread nD τ).loc main_arg3)) := by rfl

theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] ∧ win0_8.index t = ![0, 0]
    ∧ win0_9.index t = ![t.val, 0] ∧ win0_10.index t = ![0, 0] :=
  (by decide +kernel : ∀ t : Fin grid0.N, _)

/-- The weights' column under a place of the kernel's order, at a point. -/
theorem block4_at (c : Dev nD) (t : Fin cfg0.N) (k : Fin 1024) (n : Fin 4864) :
    (show FVec Ideal S1024x4864 .bf16 from iblk m c 4 t) (ix2 k n) = (m ((c : Thread nD τ).loc main_arg3) : FVec Ideal S1024x4864 .f32) (ix2 k ⟨col n, col_lt n⟩) := by
  refine Eq.trans ?_ (Cert.FwdIn.weights_at _ k n)
  rw [← entry4 m c]
  blk_ext [iblk, idx t]

section Blocks
variable (c : Dev nD) (t : Fin cfg0.N) (y : Fin 256) (s : Fin 4096) (hs : s.val = t.val * 256 + y.val)

include hs in
theorem block0_at (n : Fin 2560) : (show FVec Ideal S256x2560 .bf16 from iblk m c 0 t) (ix2 y n)
    = (m ((c : Thread nD τ).loc main_arg4) : FVec Ideal S4096x4864 .f32) (ix2 s ⟨col n.val, col_lt ⟨n.val, by omega⟩⟩) := by
  refine Eq.trans ?_ (midT_at _ s n)
  rw [← entry0 m c]
  blk_ext [iblk, idx t]
include hs in
theorem block1_at (n : Fin 768) : (show FVec Ideal S256x768 .bf16 from iblk m c 1 t) (ix2 y n)
    = (m ((c : Thread nD τ).loc main_arg4) : FVec Ideal S4096x4864 .f32) (ix2 s ⟨col (2560 + n.val), col_lt ⟨2560 + n.val, by omega⟩⟩) := by
  refine Eq.trans ?_ (attT_at _ s n)
  rw [← entry1 m c]
  blk_ext [iblk, idx t]
include hs in
theorem block2_at (n : Fin 768) : (show FVec Ideal S256x768 .bf16 from iblk m c 2 t) (ix2 y n)
    = (m ((c : Thread nD τ).loc main_arg4) : FVec Ideal S4096x4864 .f32) (ix2 s ⟨col (3328 + n.val), col_lt ⟨3328 + n.val, by omega⟩⟩) := by
  refine Eq.trans ?_ (retAT_at _ s n)
  rw [← entry2 m c]
  blk_ext [iblk, idx t]
include hs in
theorem block3_at (n : Fin 768) : (show FVec Ideal S256x768 .bf16 from iblk m c 3 t) (ix2 y n)
    = (m ((c : Thread nD τ).loc main_arg4) : FVec Ideal S4096x4864 .f32) (ix2 s ⟨col (4096 + n.val), col_lt ⟨4096 + n.val, by omega⟩⟩) := by
  refine Eq.trans ?_ (retBT_at _ s n)
  rw [← entry3 m c]
  blk_ext [iblk, idx t]
end Blocks

/-- A sum over all columns, group by group. -/
theorem sum_groups (f : Fin 4864 → EReal) : ∑ n : Fin 4864, f n
    = (((∑ n : Fin 2560, f ⟨n.val, by omega⟩) + ∑ n : Fin 768, f ⟨2560 + n.val, by omega⟩) + ∑ n : Fin 768, f ⟨3328 + n.val, by omega⟩)
      + ∑ n : Fin 768, f ⟨4096 + n.val, by omega⟩ := by
  refine (Fin.sum_univ_add (a := 4096) (b := 768) f).trans (congrArg (· + _) ?_)
  refine (Fin.sum_univ_add (a := 3328) (b := 768) fun n : Fin 4096 => f ⟨n.val, by omega⟩).trans (congrArg (· + _) ?_)
  exact Fin.sum_univ_add (a := 2560) (b := 768) fun n : Fin 3328 => f ⟨n.val, by omega⟩

/-- A point's four products, as the skeleton names them, -/
def dhB (c : Dev nD) (t : Fin cfg0.N) : FVec Ideal S256x1024 .f32 :=
  k0_pay3 (F := Ideal) (iblk m c 0 t) (View.ld (iblk m c 4 t) (Rect.unit ![0, 0] ![1024, 2560] inb_S1024x4864_S1024x2560_0_0)) (iblk m c 1 t)
    (View.ld (iblk m c 4 t) (Rect.unit ![0, 2560] ![1024, 768] inb_S1024x4864_S1024x768_0_2560)) (iblk m c 2 t)
    (View.ld (iblk m c 4 t) (Rect.unit ![0, 3328] ![1024, 768] inb_S1024x4864_S1024x768_0_3328)) (iblk m c 3 t)
    (View.ld (iblk m c 4 t) (Rect.unit ![0, 4096] ![1024, 768] inb_S1024x4864_S1024x768_0_4096))

theorem dhT_at (w : FVec Ideal S1024x4864 .f32) (ct : FVec Ideal S4096x4864 .f32) (s : Fin 4096) (k : Fin 1024) :
    dhT w ct (ix2 s k) = ∑ n : Fin 4864, ct (ix2 s n) * w (ix2 k n) := by
  pointwise [dhT]

section Rows
variable (c : Dev nD) (t : Fin cfg0.N) (y : Fin 256) (s : Fin 4096) (hs : s.val = t.val * 256 + y.val)

include hs in
/-- are the rows of the whole product, -/
theorem dh_at (k : Fin 1024) : dhB m c t (ix2 y k)
    = dhT (m ((c : Thread nD τ).loc main_arg3)) (m ((c : Thread nD τ).loc main_arg4)) (ix2 s k) := by
  rw [dhT_at, ← sum_col, sum_groups]
  pointwise [dhB, k0_pay3]
  refine congrArg₂ (· + ·) (congrArg₂ (· + ·) (congrArg₂ (· + ·) ?_ ?_) ?_) ?_
  · exact Finset.sum_congr rfl fun n _ => congrArg₂ _ (block0_at m c t y s hs n) ((by blk_point [iblk, idx t] : _ = _).trans (block4_at m c t k ⟨n.val, by omega⟩))
  · exact Finset.sum_congr rfl fun n _ => congrArg₂ _ (block1_at m c t y s hs n) ((by blk_point [iblk, idx t] : _ = _).trans (block4_at m c t k ⟨2560 + n.val, by omega⟩))
  · exact Finset.sum_congr rfl fun n _ => congrArg₂ _ (block2_at m c t y s hs n) ((by blk_point [iblk, idx t] : _ = _).trans (block4_at m c t k ⟨3328 + n.val, by omega⟩))
  · exact Finset.sum_congr rfl fun n _ => congrArg₂ _ (block3_at m c t y s hs n) ((by blk_point [iblk, idx t] : _ = _).trans (block4_at m c t k ⟨4096 + n.val, by omega⟩))

include hs in
/-- and its root and normalised rows those of the whole array. -/
theorem root_at : k0_pay5 (F := Ideal) (k0_pay4 (iblk m c 5 t)) (ix2 y 0) = rootT (meanT (m ((c : Thread nD τ).loc main_arg0))) (ix2 s 0) := by
  pointwise [k0_pay5, k0_pay4, rootT, meanT]
  blk_point [iblk, V, idx t]

include hs in
theorem norm_at (k : Fin 1024) : k0_pay6 (F := Ideal) (iblk m c 5 t) (k0_pay4 (iblk m c 5 t)) (ix2 y k)
    = normT (m ((c : Thread nD τ).loc main_arg0)) (rootT (meanT (m ((c : Thread nD τ).loc main_arg0)))) (ix2 s k) := by
  pointwise [k0_pay6, normT]
  refine congrArg₂ _ ?_ (root_at m c t y s hs)
  blk_point [iblk, V, idx t]
end Rows

theorem scale_at (c : Dev nD) (t : Fin cfg0.N) (k : Fin 1024) :
    k0_pay7 (F := Ideal) (View.ld (iblk m c 7 t) (Rect.unit ![1, 0] ![1, 1024] inb_S3x1024_S1x1024_1_0)) (ix2 0 k)
    = scaleT (m ((c : Thread nD τ).loc main_arg1)) (ix2 0 k) := by
  pointwise [k0_pay7, scaleT]
  blk_point [iblk, V, idx t]

theorem gain_at (c : Dev nD) (t : Fin cfg0.N) (k : Fin 1024) :
    (show FVec Ideal S1x1024 .f32 from iblk m c 8 t) (ix2 0 k) = (m ((c : Thread nD τ).loc main_arg2) : FVec Ideal S1x1024 .f32) (ix2 0 k) := by
  blk_ext [iblk, V, idx t]

end Cert.BwdIn

end
-- ==== Proof.BwdSum.lean ====
/- The column sums of the input gradient's call, row by row of its second result: each point adds its own rows' part, and the parts of all points
   are the whole sums. -/
module

public import proofs.«01_k».proof.Proof.BwdBlk
public import Idealize.ShloMosaic.Lib.WritesUnit
public import Idealize.ShloMosaic.Lib.Pipeline.ReadBack

@[expose] public section

set_option maxRecDepth 16384

noncomputable section

namespace Cert.BwdIn

open Idealize.ShloMosaic Idealize.ShloMosaic.TcCoe Idealize.SL.Sem
open Idealize.ShloMosaic.Pipeline (Dat)
open Cert.Kernel2Ideal Cert.Kernel2Ideal.Gen

section Pieces
variable {σ : RefSig} {sp : Space} (v : View σ .tc sp S8x1024 .f32) (f : v.ty.Contents (Elt Ideal)) (p0 p1 p2 : FVec Ideal S1x1024 .f32)
  (L : List (View.Piece (Elt Ideal) S8x1024 .f32)) (k : Fin 1024)

/-- Three rows stored over some contents, read back at each of them, -/
theorem read_row0 : v.read (Elt Ideal) (v.writes (Elt Ideal) f (⟨Rect.unit ![2, 0] ![1, 1024] inb_S8x1024_S1x1024_2_0, p2⟩ :: ⟨Rect.unit ![1, 0] ![1, 1024] inb_S8x1024_S1x1024_1_0, p1⟩
    :: ⟨Rect.unit ![0, 0] ![1, 1024] inb_S8x1024_S1x1024_0_0, p0⟩ :: L)) (ix2 0 k) = p0 (ix2 0 k) := by
  refine (View.read_writes_cons_rows_of_not_mem v f _ _ _ _ rfl rfl (.inl (by decide : 0 < 2))).trans ?_
  refine (View.read_writes_cons_rows_of_not_mem v f _ _ _ _ rfl rfl (.inl (by decide : 0 < 1))).trans ?_
  exact View.read_writes_cons_rows_of_mem v f _ _ _ _ (ix2 0 k) rfl rfl rfl
theorem read_row1 : v.read (Elt Ideal) (v.writes (Elt Ideal) f (⟨Rect.unit ![2, 0] ![1, 1024] inb_S8x1024_S1x1024_2_0, p2⟩ :: ⟨Rect.unit ![1, 0] ![1, 1024] inb_S8x1024_S1x1024_1_0, p1⟩
    :: ⟨Rect.unit ![0, 0] ![1, 1024] inb_S8x1024_S1x1024_0_0, p0⟩ :: L)) (ix2 1 k) = p1 (ix2 0 k) := by
  refine (View.read_writes_cons_rows_of_not_mem v f _ _ _ _ rfl rfl (.inl (by decide : 1 < 2))).trans ?_
  exact View.read_writes_cons_rows_of_mem v f _ _ _ _ (ix2 0 k) rfl rfl rfl
theorem read_row2 : v.read (Elt Ideal) (v.writes (Elt Ideal) f (⟨Rect.unit ![2, 0] ![1, 1024] inb_S8x1024_S1x1024_2_0, p2⟩ :: ⟨Rect.unit ![1, 0] ![1, 1024] inb_S8x1024_S1x1024_1_0, p1⟩
    :: ⟨Rect.unit ![0, 0] ![1, 1024] inb_S8x1024_S1x1024_0_0, p0⟩ :: L)) (ix2 2 k) = p2 (ix2 0 k) :=
  View.read_writes_cons_rows_of_mem v f _ _ _ _ (ix2 0 k) rfl rfl rfl
/-- and at the other rows. -/
theorem read_rows (r : Fin 8) (hr : 3 ≤ r.val) : v.read (Elt Ideal) (v.writes (Elt Ideal) f (⟨Rect.unit ![2, 0] ![1, 1024] inb_S8x1024_S1x1024_2_0, p2⟩ :: ⟨Rect.unit ![1, 0] ![1, 1024] inb_S8x1024_S1x1024_1_0, p1⟩
    :: ⟨Rect.unit ![0, 0] ![1, 1024] inb_S8x1024_S1x1024_0_0, p0⟩ :: L)) (ix2 r k) = v.read (Elt Ideal) (v.writes (Elt Ideal) f L) (ix2 r k) := by
  refine (View.read_writes_cons_rows_of_not_mem v f _ _ _ _ rfl rfl (.inr (show 2 + 1 ≤ r.val by omega))).trans ?_
  refine (View.read_writes_cons_rows_of_not_mem v f _ _ _ _ rfl rfl (.inr (show 1 + 1 ≤ r.val by omega))).trans ?_
  exact View.read_writes_cons_rows_of_not_mem v f _ _ _ _ rfl rfl (.inr (show 0 + 1 ≤ r.val by omega))
end Pieces

/-- Reading one row out of the eight. -/
theorem ld_row0 (Z : S8x1024.Idx → Elt Ideal .f32) (k : Fin 1024) : View.ld (Val := Elt Ideal) Z (Rect.unit ![0, 0] ![1, 1024] inb_S8x1024_S1x1024_0_0) (ix2 0 k) = Z (ix2 0 k) :=
  View.ld_unit_apply_of (S := S8x1024) Z ![0, 0] ![1, 1024] inb_S8x1024_S1x1024_0_0 (ix2 0 k) (ix2 0 k) (Fin.forall_fin_two.mpr ⟨rfl, (Nat.zero_add _).symm⟩)
theorem ld_row1 (Z : S8x1024.Idx → Elt Ideal .f32) (k : Fin 1024) : View.ld (Val := Elt Ideal) Z (Rect.unit ![1, 0] ![1, 1024] inb_S8x1024_S1x1024_1_0) (ix2 0 k) = Z (ix2 1 k) :=
  View.ld_unit_apply_of (S := S8x1024) Z ![1, 0] ![1, 1024] inb_S8x1024_S1x1024_1_0 (ix2 0 k) (ix2 1 k) (Fin.forall_fin_two.mpr ⟨rfl, (Nat.zero_add _).symm⟩)
theorem ld_row2 (Z : S8x1024.Idx → Elt Ideal .f32) (k : Fin 1024) : View.ld (Val := Elt Ideal) Z (Rect.unit ![2, 0] ![1, 1024] inb_S8x1024_S1x1024_2_0) (ix2 0 k) = Z (ix2 2 k) :=
  View.ld_unit_apply_of (S := S8x1024) Z ![2, 0] ![1, 1024] inb_S8x1024_S1x1024_2_0 (ix2 0 k) (ix2 2 k) (Fin.forall_fin_two.mpr ⟨rfl, (Nat.zero_add _).symm⟩)

variable (m : (ℓ : Loc nD τ sig) → Buf (Elt Ideal) ℓ) (c : Dev nD)

/-- What a point adds to the three rows. -/
def add0 (t : Fin cfg0.N) (k : Fin 1024) : EReal := ∑ y : Fin 256, dhB m c t (ix2 y k)
def add1 (t : Fin cfg0.N) (k : Fin 1024) : EReal := ∑ y : Fin 256, dhB m c t (ix2 y k)
  * (k0_pay6 (F := Ideal) (iblk m c 5 t) (k0_pay4 (iblk m c 5 t)) (ix2 y k) * (show FVec Ideal S1x1024 .f32 from iblk m c 8 t) (ix2 0 k))
def add2 (t : Fin cfg0.N) (k : Fin 1024) : EReal := (∑ y : Fin 256, dhB m c t (ix2 y k)
  * k0_pay6 (F := Ideal) (iblk m c 5 t) (k0_pay4 (iblk m c 5 t)) (ix2 y k))
  * k0_pay7 (F := Ideal) (View.ld (iblk m c 7 t) (Rect.unit ![1, 0] ![1, 1024] inb_S3x1024_S1x1024_1_0)) (ix2 0 k)

theorem pay8_at (t : Fin cfg0.N) (p : FVec Ideal S1x1024 .f32) (k : Fin 1024) : k0_pay8 (F := Ideal) (dhB m c t) p (ix2 0 k) = p (ix2 0 k) + add0 m c t k := by
  pointwise [k0_pay8, add0]
theorem pay9_at (t : Fin cfg0.N) (p : FVec Ideal S1x1024 .f32) (k : Fin 1024) :
    k0_pay9 (F := Ideal) (dhB m c t) (iblk m c 5 t) (k0_pay4 (iblk m c 5 t)) (iblk m c 8 t) p (ix2 0 k) = p (ix2 0 k) + add1 m c t k := by
  pointwise [k0_pay9, add1]
theorem pay10_at (t : Fin cfg0.N) (p : FVec Ideal S1x1024 .f32) (k : Fin 1024) :
    k0_pay10 (F := Ideal) (dhB m c t) (iblk m c 5 t) (k0_pay4 (iblk m c 5 t)) (View.ld (iblk m c 7 t) (Rect.unit ![1, 0] ![1, 1024] inb_S3x1024_S1x1024_1_0)) p (ix2 0 k)
      = p (ix2 0 k) + add2 m c t k := by
  pointwise [k0_pay10, add2]

theorem zero_at (r : Fin 8) (k : Fin 1024) : k0_pay2 (F := Ideal) (ix2 r k) = 0 := by
  pointwise [k0_pay2]

section First
variable (t : Fin cfg0.N) (h : t.val % 16 = 0) (k : Fin 1024)
include h
theorem first0 : (outsAt0 m c t.val t.isLt).2 (ix2 0 k) = 0 + add0 m c t k := by
  rw [outsAt0_A m c t h]
  frame_out
  rw [← View.read_writes_junk_apply_eq_canon (ms0_10 t).view]
  refine (read_row0 _ _ _ _ _ _ k).trans ?_
  rw [View.readCov_fill _ _ _ _ _ (by decide)]
  refine (pay8_at m c t _ k).trans (congrArg (· + _) ?_)
  exact (ld_row0 _ k).trans (zero_at 0 k)
theorem first1 : (outsAt0 m c t.val t.isLt).2 (ix2 1 k) = 0 + add1 m c t k := by
  rw [outsAt0_A m c t h]
  frame_out
  rw [← View.read_writes_junk_apply_eq_canon (ms0_10 t).view]
  refine (read_row1 _ _ _ _ _ _ k).trans ?_
  rw [View.readCov_skip _ _ _ _ _ (by decide), View.readCov_fill _ _ _ _ _ (by decide)]
  refine (pay9_at m c t _ k).trans (congrArg (· + _) ?_)
  exact (ld_row1 _ k).trans (zero_at 1 k)
theorem first2 : (outsAt0 m c t.val t.isLt).2 (ix2 2 k) = 0 + add2 m c t k := by
  rw [outsAt0_A m c t h]
  frame_out
  rw [← View.read_writes_junk_apply_eq_canon (ms0_10 t).view]
  refine (read_row2 _ _ _ _ _ _ k).trans ?_
  rw [View.readCov_skip _ _ _ _ _ (by decide), View.readCov_skip _ _ _ _ _ (by decide), View.readCov_fill _ _ _ _ _ (by decide)]
  refine (pay10_at m c t _ k).trans (congrArg (· + _) ?_)
  exact (ld_row2 _ k).trans (zero_at 2 k)
theorem firsts (r : Fin 8) (hr : 3 ≤ r.val) : (outsAt0 m c t.val t.isLt).2 (ix2 r k) = 0 + 0 := by
  rw [outsAt0_A m c t h]
  frame_out
  rw [← View.read_writes_junk_apply_eq_canon (ms0_10 t).view]
  refine (read_rows _ _ _ _ _ _ k r hr).trans ?_
  refine (View.read_writes_cons_rows_of_mem _ _ _ _ _ _ (ix2 r k) rfl (Nat.zero_add _).symm rfl).trans ?_
  exact (zero_at r k).trans (add_zero _).symm
end First

section Next
variable (t : Fin cfg0.N) (h : ¬t.val % 16 = 0) (k : Fin 1024)
include h
theorem next0 : (outsAt0 m c t.val t.isLt).2 (ix2 0 k) = (outsAt0 m c (t.val - 1) (Nat.lt_of_le_of_lt (Nat.sub_le _ _) t.isLt)).2 (ix2 0 k) + add0 m c t k := by
  rw [outsAt0_B m c t h]
  frame_out
  refine (read_row0 _ _ _ _ _ _ k).trans ?_
  refine (pay8_at m c t _ k).trans (congrArg (· + _) ?_)
  exact ld_row0 _ k
theorem next1 : (outsAt0 m c t.val t.isLt).2 (ix2 1 k) = (outsAt0 m c (t.val - 1) (Nat.lt_of_le_of_lt (Nat.sub_le _ _) t.isLt)).2 (ix2 1 k) + add1 m c t k := by
  rw [outsAt0_B m c t h]
  frame_out
  refine (read_row1 _ _ _ _ _ _ k).trans ?_
  refine (pay9_at m c t _ k).trans (congrArg (· + _) ?_)
  exact ld_row1 _ k
theorem next2 : (outsAt0 m c t.val t.isLt).2 (ix2 2 k) = (outsAt0 m c (t.val - 1) (Nat.lt_of_le_of_lt (Nat.sub_le _ _) t.isLt)).2 (ix2 2 k) + add2 m c t k := by
  rw [outsAt0_B m c t h]
  frame_out
  refine (read_row2 _ _ _ _ _ _ k).trans ?_
  refine (pay10_at m c t _ k).trans (congrArg (· + _) ?_)
  exact ld_row2 _ k
theorem nexts (r : Fin 8) (hr : 3 ≤ r.val) : (outsAt0 m c t.val t.isLt).2 (ix2 r k)
    = (outsAt0 m c (t.val - 1) (Nat.lt_of_le_of_lt (Nat.sub_le _ _) t.isLt)).2 (ix2 r k) + 0 := by
  rw [outsAt0_B m c t h]
  frame_out
  refine (read_rows _ _ _ _ _ _ k r hr).trans ?_
  refine Eq.trans ?_ (add_zero _).symm
  exact congrFun (Memref.IsWhole.read_unread _ _) _
end Next

/-- The last point. -/
abbrev tl : Fin cfg0.N := ⟨15, by decide⟩

theorem last0 (k : Fin 1024) : (outsAt0 m c 15 tl.isLt).2 (ix2 0 k) = ∑ t : Fin cfg0.N, add0 m c t k :=
  (Pipeline.eq_sum_fin_of_reset_step_last (fun n h => (outsAt0 m c n h).2 (ix2 0 k)) 16 0 (fun t => add0 m c t k)
    (fun t h => first0 m c t h k) (fun t h => next0 m c t h k) (le_of_eq N_0) tl N_0.symm).trans (zero_add _)
theorem last1 (k : Fin 1024) : (outsAt0 m c 15 tl.isLt).2 (ix2 1 k) = ∑ t : Fin cfg0.N, add1 m c t k :=
  (Pipeline.eq_sum_fin_of_reset_step_last (fun n h => (outsAt0 m c n h).2 (ix2 1 k)) 16 0 (fun t => add1 m c t k)
    (fun t h => first1 m c t h k) (fun t h => next1 m c t h k) (le_of_eq N_0) tl N_0.symm).trans (zero_add _)
theorem last2 (k : Fin 1024) : (outsAt0 m c 15 tl.isLt).2 (ix2 2 k) = ∑ t : Fin cfg0.N, add2 m c t k :=
  (Pipeline.eq_sum_fin_of_reset_step_last (fun n h => (outsAt0 m c n h).2 (ix2 2 k)) 16 0 (fun t => add2 m c t k)
    (fun t h => first2 m c t h k) (fun t h => next2 m c t h k) (le_of_eq N_0) tl N_0.symm).trans (zero_add _)
theorem lasts (r : Fin 8) (hr : 3 ≤ r.val) (k : Fin 1024) : (outsAt0 m c 15 tl.isLt).2 (ix2 r k) = 0 :=
  (Pipeline.eq_sum_fin_of_reset_step_last (fun n h => (outsAt0 m c n h).2 (ix2 r k)) 16 0 (fun _ => 0)
    (fun t h => firsts m c t h k r hr) (fun t h => nexts m c t h k r hr) (le_of_eq N_0) tl N_0.symm).trans (by simp)

/-- A sum over the points and their rows is a sum over all rows. -/
theorem sum_rows (f : Fin 4096 → EReal) : ∑ t : Fin cfg0.N, ∑ y : Fin 256, f ⟨t.val * 256 + y.val, by have := lt_of_lt_of_eq t.isLt N_0; omega⟩ = ∑ s : Fin 4096, f s :=
  Fin.sum_mul_add_fin 16 256 f

end Cert.BwdIn

end
-- ==== Proof.BwdReal.lean ====
/- The gradient of a normalised row over the reals, and the precondition's reals: what makes the kernel's form of it the derivative's. -/
module

public import proofs.«01_k».proof.Proof.Gen.Pre_finite2
public import proofs.«01_k».proof.Proof.BwdRef
public import proofs.«01_k».proof.Proof.Pre

@[expose] public section

set_option maxRecDepth 16384

noncomputable section

namespace Cert.BwdIn

open Idealize.ShloMosaic
open Cert.AttnBwd (sum_coe div_real)

section Pre
open Cert.Pre_finite2 Cert.Pre_finite2.Gen
open Cert.AttnBwd.Pre (real_of_abs)

theorem reals (x dout : FVec Ideal S4096x1024 .f32) (md : FVec Ideal S3x1024 .f32) (g : FVec Ideal S1x1024 .f32) (w : FVec Ideal S1024x4864 .f32)
    (ct : FVec Ideal S4096x4864 .f32) (h : fn (F := Ideal) x md g w ct dout = fun _ => 1#1) :
    (∀ i, ∃ r : ℝ, x i = (r : EReal)) ∧ (∀ i, ∃ r : ℝ, md i = (r : EReal)) ∧ (∀ i, ∃ r : ℝ, g i = (r : EReal)) ∧ (∀ i, ∃ r : ℝ, w i = (r : EReal))
      ∧ (∀ i, ∃ r : ℝ, ct i = (r : EReal)) ∧ (∀ i, ∃ r : ℝ, dout i = (r : EReal)) := by
  have hs : Subsingleton S_.Idx := ⟨fun a b => funext fun i => i.elim0⟩
  have h0 := congrFun h (fun i => i.elim0)
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs (Host.reduce_andi_all _ _ _ _ _ h0 i), fun i => real_of_abs (Host.reduce_andi_all _ _ _ _ _ h1 i),
    fun i => real_of_abs (Host.reduce_andi_all _ _ _ _ _ h2 i), fun i => real_of_abs (Host.reduce_andi_all _ _ _ _ _ h3 i),
    fun i => real_of_abs (Host.reduce_andi_all _ _ _ _ _ h4 i), fun i => real_of_abs (Host.reduce_andi_all _ _ _ _ _ h5 i)⟩
end Pre

theorem ofBits_1024 : Ideal.ofBits .f32 0x44800000#32 = ((1024 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A row's mean square and a little more, and one over its root, are a positive real and a real. -/
def meanE (X : Fin 1024 → EReal) : EReal := Ideal.div (∑ j : Fin 1024, X j * X j) (Ideal.ofBits .f32 0x44800000#32) + Ideal.ofBits .f32 0x358637BD#32

theorem mean_real (x : Fin 1024 → ℝ) : ∃ v : ℝ, 0 < v ∧ meanE (fun j => (x j : EReal)) = (v : EReal) := by
  obtain ⟨e, he, hb⟩ := ofBits_eps
  refine ⟨(∑ j : Fin 1024, x j * x j) / 1024 + e, ?_, ?_⟩
  · have : 0 ≤ ∑ j : Fin 1024, x j * x j := Finset.sum_nonneg fun j _ => mul_self_nonneg _
    positivity
  · unfold meanE
    simp only [← EReal.coe_mul]
    rw [sum_coe, hb, ofBits_1024, div_real _ _ (by norm_num), EReal.coe_add]

theorem rsqrt_real {v : ℝ} (hv : 0 < v) : Ideal.rsqrt (v : EReal) = (((√v)⁻¹ : ℝ) : EReal) := by
  rw [Ideal.rsqrt_coe, if_neg (not_lt.mpr hv.le), if_neg hv.ne']

theorem root_real (X : Fin 1024 → EReal) (hX : ∀ j, ∃ r : ℝ, X j = (r : EReal)) : ∃ r : ℝ, Ideal.rsqrt (meanE X) = (r : EReal) := by
  choose x hx using hX
  obtain rfl : X = fun j => (x j : EReal) := funext hx
  obtain ⟨v, hv, e⟩ := mean_real x
  exact ⟨_, by rw [e, rsqrt_real hv]⟩

/-- The derivative of a row by its mean's root: the row's part along itself is taken out. -/
theorem row_real (x d : Fin 1024 → ℝ) (o v : ℝ) (hv : 0 < v) (k : Fin 1024) :
    o + (√v)⁻¹ * (d k - x k * (√v)⁻¹ * ((∑ j, d j * (x j * (√v)⁻¹)) / 1024))
      = o + d k * (√v)⁻¹ + x k * (((∑ j, x j * d j) * (-(1 / 2) * ((√v)⁻¹ / v))) / 1024)
        + ((∑ j, x j * d j) * (-(1 / 2) * ((√v)⁻¹ / v))) / 1024 * x k := by
  have hD : ∑ j, d j * (x j * (√v)⁻¹) = (∑ j, x j * d j) * (√v)⁻¹ := by
    rw [Finset.sum_mul]; exact Finset.sum_congr rfl fun j _ => by ring
  have hr : (√v)⁻¹ / v = (√v)⁻¹ * ((√v)⁻¹ * (√v)⁻¹) := by
    have h : v⁻¹ = (√v)⁻¹ * (√v)⁻¹ := by rw [← mul_inv, Real.mul_self_sqrt hv.le]
    rw [div_eq_mul_inv, h]
  rw [hD, hr]
  ring

theorem row (X D : Fin 1024 → EReal) (O : EReal) (hX : ∀ j, ∃ r : ℝ, X j = (r : EReal)) (hD : ∀ j, ∃ r : ℝ, D j = (r : EReal))
    (hO : ∃ r : ℝ, O = (r : EReal)) (k : Fin 1024) :
    O + Ideal.rsqrt (meanE X) * (D k - X k * Ideal.rsqrt (meanE X)
        * Ideal.div (∑ j, D j * (X j * Ideal.rsqrt (meanE X))) (Ideal.ofBits .f32 0x44800000#32))
      = O + D k * Ideal.rsqrt (meanE X)
        + X k * Ideal.div ((∑ j, X j * D j) * (Ideal.ofBits .f32 0xBF000000#32 * Ideal.div (Ideal.rsqrt (meanE X)) (meanE X))) (Ideal.ofBits .f32 0x44800000#32)
        + Ideal.div ((∑ j, X j * D j) * (Ideal.ofBits .f32 0xBF000000#32 * Ideal.div (Ideal.rsqrt (meanE X)) (meanE X))) (Ideal.ofBits .f32 0x44800000#32) * X k := by
  choose x hx using hX
  choose d hd using hD
  obtain ⟨o, rfl⟩ := hO
  obtain rfl : X = fun j => (x j : EReal) := funext hx
  obtain rfl : D = fun j => (d j : EReal) := funext hd
  obtain ⟨v, hv, e⟩ := mean_real x
  rw [e, rsqrt_real hv, ofBits_1024, ofBits_neg_half, div_real _ _ hv.ne']
  simp only [← EReal.coe_mul, sum_coe]
  rw [div_real _ _ (by norm_num), div_real _ _ (by norm_num)]
  simp only [← EReal.coe_mul, ← EReal.coe_sub, ← EReal.coe_add]
  exact congrArg _ (row_real x d o v hv k)

/-- A factor common to a sum of reals goes in. -/
theorem sum_factor (D N : Fin 256 → EReal) (S : EReal) (hD : ∀ j, ∃ r : ℝ, D j = (r : EReal)) (hN : ∀ j, ∃ r : ℝ, N j = (r : EReal))
    (hS : ∃ r : ℝ, S = (r : EReal)) : (∑ y, D y * N y) * S = ∑ y, N y * (D y * S) := by
  choose d hd using hD
  choose n hn using hN
  obtain ⟨s, rfl⟩ := hS
  simp only [hd, hn, ← EReal.coe_mul, sum_coe]
  rw [Finset.sum_mul]
  exact congrArg _ (Finset.sum_congr rfl fun y _ => by ring)

/-! ## The reference's arrays, read at an index -/

section At
open Cert.Reference2Ideal Cert.Reference2Ideal.Gen
variable (x dn dout dh : FVec Ideal S4096x1024 .f32) (v r sl : FVec Ideal S4096x1 .f32) (md : FVec Ideal S3x1024 .f32) (g : FVec Ideal S1x1024 .f32)
  (s : Fin 4096) (k : Fin 1024)

theorem meanT_at : meanT x (ix2 s 0) = meanE (fun j => x (ix2 s j)) := by
  pointwise [meanT, meanE]
theorem rootT_at : rootT v (ix2 s 0) = Ideal.rsqrt (v (ix2 s 0)) := rfl
theorem slopeT_at : slopeT v r (ix2 s 0) = Ideal.ofBits .f32 0xBF000000#32 * Ideal.div (r (ix2 s 0)) (v (ix2 s 0)) := by
  pointwise [slopeT]
theorem normT_at : normT x r (ix2 s k) = x (ix2 s k) * r (ix2 s 0) := by
  pointwise [normT]
theorem scaleT_at : scaleT md (ix2 0 k) = 1 + md (ix2 1 k) := by
  pointwise [scaleT]
theorem dnT_at : dnT dh md g (ix2 s k) = dh (ix2 s k) * scaleT md (ix2 0 k) * g (ix2 0 k) := by
  pointwise [dnT, rowsT]
theorem pullT_at : pullT x dn sl (ix2 s k) = Ideal.div ((∑ j : Fin 1024, x (ix2 s j) * dn (ix2 s j)) * sl (ix2 s 0)) (Ideal.ofBits .f32 0x44800000#32) := by
  pointwise [pullT]
  exact Fin.sum_univ_one _
theorem dxT_at : dxT x dout dn r sl (ix2 s k) = dout (ix2 s k) + dn (ix2 s k) * r (ix2 s 0) + x (ix2 s k) * pullT x dn sl (ix2 s k) + pullT x dn sl (ix2 s k) * x (ix2 s k) := by
  pointwise [dxT, normT]
theorem sumsT_at0 : sumsT x dh md g (ix2 0 k) = ∑ s : Fin 4096, dh (ix2 s k) := by
  pointwise [sumsT, colsumT]
theorem sumsT_at1 : sumsT x dh md g (ix2 1 k) = ∑ s : Fin 4096, x (ix2 s k) * g (ix2 0 k) * dh (ix2 s k) := by
  pointwise [sumsT, colsumT, rowsT]
theorem sumsT_at2 : sumsT x dh md g (ix2 2 k) = ∑ s : Fin 4096, x (ix2 s k) * (dh (ix2 s k) * scaleT md (ix2 0 k)) := by
  pointwise [sumsT, colsumT, rowsT]
theorem sumsT_ats (a : Fin 8) (ha : 3 ≤ a.val) : sumsT x dh md g (ix2 a k) = 0 := by
  pointwise [sumsT]
  rw [dif_neg (by omega), dif_neg (by omega), dif_neg (by omega)]
end At

end Cert.BwdIn

end
-- ==== Proof.BwdIn.lean ====
/- The input gradient's call: its two results are the reference's, and its frames. -/
module

public import proofs.«01_k».proof.Proof.Gen.Kernel2.Frame
public import proofs.«01_k».proof.Proof.BwdSum
public import proofs.«01_k».proof.Proof.BwdReal

@[expose] public section

set_option maxRecDepth 16384

noncomputable section

namespace Cert.BwdIn

open Idealize.ShloMosaic Idealize.ShloMosaic.TcCoe Idealize.SL.Sem
open Idealize.ShloMosaic.Pipeline (Dat)
open Cert.AttnBwd (sum_coe)
open Cert.Kernel2Ideal Cert.Kernel2Ideal.Gen

/-! ## Where the arguments are real, so is what is computed of them -/

section Reals
variable {x : FVec Ideal S4096x1024 .f32} {md : FVec Ideal S3x1024 .f32} {g : FVec Ideal S1x1024 .f32} {w : FVec Ideal S1024x4864 .f32} {ct : FVec Ideal S4096x4864 .f32}

theorem dh_real (hw : ∀ i, ∃ r : ℝ, w i = (r : EReal)) (hct : ∀ i, ∃ r : ℝ, ct i = (r : EReal)) (s : Fin 4096) (k : Fin 1024) :
    ∃ r : ℝ, dhT w ct (ix2 s k) = (r : EReal) := by
  choose w' hw using hw
  choose c' hc using hct
  refine ⟨∑ n : Fin 4864, c' (ix2 s n) * w' (ix2 k n), ?_⟩
  rw [dhT_at, ← sum_coe]
  exact Finset.sum_congr rfl fun n _ => by rw [hw, hc, EReal.coe_mul]

theorem scale_real (hmd : ∀ i, ∃ r : ℝ, md i = (r : EReal)) (k : Fin 1024) : ∃ r : ℝ, scaleT md (ix2 0 k) = (r : EReal) := by
  obtain ⟨a, ha⟩ := hmd (ix2 1 k)
  exact ⟨1 + a, by rw [scaleT_at, ha, EReal.coe_add]; rfl⟩

theorem norm_real (hx : ∀ i, ∃ r : ℝ, x i = (r : EReal)) (s : Fin 4096) (k : Fin 1024) : ∃ r : ℝ, normT x (rootT (meanT x)) (ix2 s k) = (r : EReal) := by
  obtain ⟨a, ha⟩ := hx (ix2 s k)
  obtain ⟨b, hb⟩ := root_real (fun j => x (ix2 s j)) fun j => hx _
  exact ⟨a * b, by rw [normT_at, rootT_at, meanT_at, ha, hb, EReal.coe_mul]⟩

theorem dn_real (hmd : ∀ i, ∃ r : ℝ, md i = (r : EReal)) (hg : ∀ i, ∃ r : ℝ, g i = (r : EReal)) (hw : ∀ i, ∃ r : ℝ, w i = (r : EReal))
    (hct : ∀ i, ∃ r : ℝ, ct i = (r : EReal)) (s : Fin 4096) (k : Fin 1024) : ∃ r : ℝ, dnT (dhT w ct) md g (ix2 s k) = (r : EReal) := by
  obtain ⟨a, ha⟩ := dh_real hw hct s k
  obtain ⟨b, hb⟩ := scale_real hmd k
  obtain ⟨e, he⟩ := hg (ix2 0 k)
  exact ⟨a * b * e, by rw [dnT_at, ha, hb, he, EReal.coe_mul, EReal.coe_mul]⟩
end Reals

/-! ## The rows' gradient -/

theorem pay1_at (r : FVec Ideal S256x1 .f32) (xn d o : FVec Ideal S256x1024 .f32) (y : Fin 256) (k : Fin 1024) :
    k0_pay1 (F := Ideal) r xn d o (ix2 y k) = o (ix2 y k) + r (ix2 y 0) * (d (ix2 y k) - xn (ix2 y k)
      * Ideal.div (∑ j : Fin 1024, d (ix2 y j) * xn (ix2 y j)) (Ideal.ofBits .f32 0x44800000#32)) := by
  pointwise [k0_pay1]

theorem pay11_at (d : FVec Ideal S256x1024 .f32) (a b : FVec Ideal S1x1024 .f32) (y : Fin 256) (k : Fin 1024) :
    k0_pay11 (F := Ideal) d a b (ix2 y k) = d (ix2 y k) * (a (ix2 0 k) * k0_pay7 (F := Ideal) b (ix2 0 k)) := by
  pointwise [k0_pay11]

variable (m : (ℓ : Loc nD τ sig) → Buf (Elt Ideal) ℓ)

/-- What a point leaves in its block of the first result. -/
theorem out9 (c : Dev nD) (t : Fin cfg0.N) : (outsAt0 m c t.val t.isLt).1
    = k0_pay1 (F := Ideal) (k0_pay5 (k0_pay4 (iblk m c 5 t))) (k0_pay6 (iblk m c 5 t) (k0_pay4 (iblk m c 5 t)))
      (k0_pay11 (dhB m c t) (iblk m c 8 t) (View.ld (iblk m c 7 t) (Rect.unit ![1, 0] ![1, 1024] inb_S3x1024_S1x1024_1_0))) (iblk m c 6 t) := by
  by_cases h : t.val % 16 = 0
  · rw [outsAt0_A m c t h]
    frame_out
    rfl
  · rw [outsAt0_B m c t h]
    frame_out
    rfl

abbrev aX (c : Dev nD) : FVec Ideal S4096x1024 .f32 := m ((c : Thread nD τ).loc main_arg0)
abbrev aM (c : Dev nD) : FVec Ideal S3x1024 .f32 := m ((c : Thread nD τ).loc main_arg1)
abbrev aG (c : Dev nD) : FVec Ideal S1x1024 .f32 := m ((c : Thread nD τ).loc main_arg2)
abbrev aW (c : Dev nD) : FVec Ideal S1024x4864 .f32 := m ((c : Thread nD τ).loc main_arg3)
abbrev aC (c : Dev nD) : FVec Ideal S4096x4864 .f32 := m ((c : Thread nD τ).loc main_arg4)
abbrev aD (c : Dev nD) : FVec Ideal S4096x1024 .f32 := m ((c : Thread nD τ).loc main_arg5)

section Given
variable (c : Dev nD) (hx : ∀ i, ∃ r : ℝ, aX m c i = (r : EReal)) (hmd : ∀ i, ∃ r : ℝ, aM m c i = (r : EReal)) (hg : ∀ i, ∃ r : ℝ, aG m c i = (r : EReal))
  (hw : ∀ i, ∃ r : ℝ, aW m c i = (r : EReal)) (hct : ∀ i, ∃ r : ℝ, aC m c i = (r : EReal)) (hdo : ∀ i, ∃ r : ℝ, aD m c i = (r : EReal))

section Point
variable (t : Fin cfg0.N) (y : Fin 256) (s : Fin 4096) (hs : s.val = t.val * 256 + y.val)
include hs

theorem dn_at (k : Fin 1024) : k0_pay11 (F := Ideal) (dhB m c t) (iblk m c 8 t) (View.ld (iblk m c 7 t) (Rect.unit ![1, 0] ![1, 1024] inb_S3x1024_S1x1024_1_0)) (ix2 y k)
    = dnT (dhT (aW m c) (aC m c)) (aM m c) (aG m c) (ix2 s k) := by
  rw [pay11_at, dnT_at, dh_at m c t y s hs, scale_at m c t k, mul_assoc]
  exact congrArg _ ((congrArg (· * _) (gain_at m c t k)).trans (mul_comm _ _))

theorem dout_at (k : Fin 1024) : (show FVec Ideal S256x1024 .f32 from iblk m c 6 t) (ix2 y k) = aD m c (ix2 s k) := by
  blk_ext [iblk, V, idx t]

include hx hmd hg hw hct hdo in
theorem grad_at (k : Fin 1024) : (outsAt0 m c t.val t.isLt).1 (ix2 y k)
    = gradT (aX m c) (aM m c) (aG m c) (aW m c) (aC m c) (aD m c) (ix2 s k) := by
  rw [out9, pay1_at]
  simp only [dn_at m c t y s hs, norm_at m c t y s hs, root_at m c t y s hs]
  refine (congrArg (· + _) (dout_at m c t y s hs k)).trans ?_
  unfold gradT
  rw [dxT_at, pullT_at, slopeT_at]
  simp only [normT_at, rootT_at, meanT_at]
  exact row (fun j => aX m c (ix2 s j)) (fun j => dnT (dhT (aW m c) (aC m c)) (aM m c) (aG m c) (ix2 s j)) (aD m c (ix2 s k))
    (fun j => hx _) (fun j => dn_real hmd hg hw hct s j) (hdo _) k
end Point

include hx hmd hg hw hct hdo in
theorem final9 : (dats m 0 c).arrAt 9 (cfgs 0).N = gradT (aX m c) (aM m c) (aG m c) (aW m c) (aC m c) (aD m c) := by
  refine (dats m 0 c).arrAt_eq_of_covers 9 _ (by decide +kernel) fun t _ y => ?_
  blk_simp
  rw [after0_9]
  have ht : t.val < 16 := lt_of_lt_of_eq t.isLt N_0
  obtain ⟨y0, y1, rfl⟩ : ∃ (y0 : Fin 256) (y1 : Fin 1024), y = ix2 y0 y1 := ⟨y 0, y 1, eq_ix2 y⟩
  refine (grad_at m c hx hmd hg hw hct hdo t y0 ⟨t.val * 256 + y0.val, by omega⟩ rfl y1).trans ?_
  blk_ext [idx t]

/-! ## The sums over the rows -/

theorem total0 (k : Fin 1024) : ∑ t : Fin cfg0.N, add0 m c t k = ∑ s : Fin 4096, dhT (aW m c) (aC m c) (ix2 s k) := by
  rw [← sum_rows]
  exact Finset.sum_congr rfl fun t _ => Finset.sum_congr rfl fun y _ => dh_at m c t y _ rfl k
theorem total1 (k : Fin 1024) : ∑ t : Fin cfg0.N, add1 m c t k
    = ∑ s : Fin 4096, normT (aX m c) (rootT (meanT (aX m c))) (ix2 s k) * aG m c (ix2 0 k) * dhT (aW m c) (aC m c) (ix2 s k) := by
  rw [← sum_rows]
  refine Finset.sum_congr rfl fun t _ => Finset.sum_congr rfl fun y _ => (mul_comm _ _).trans ?_
  exact congrArg₂ _ (congrArg₂ _ (norm_at m c t y _ rfl k) (gain_at m c t k)) (dh_at m c t y _ rfl k)
/-- The token of a row at a point. -/
abbrev tokenOf (t : Fin cfg0.N) (y : Fin 256) : Fin 4096 := ⟨t.val * 256 + y.val, by have := lt_of_lt_of_eq t.isLt N_0; omega⟩
include hx hmd hw hct in
theorem point2 (t : Fin cfg0.N) (k : Fin 1024) : add2 m c t k = ∑ y : Fin 256, k0_pay6 (F := Ideal) (iblk m c 5 t) (k0_pay4 (iblk m c 5 t)) (ix2 y k)
    * (dhB m c t (ix2 y k) * k0_pay7 (F := Ideal) (View.ld (iblk m c 7 t) (Rect.unit ![1, 0] ![1, 1024] inb_S3x1024_S1x1024_1_0)) (ix2 0 k)) := by
  refine sum_factor _ _ _ (fun y => ?_) (fun y => ?_) ?_
  · rw [dh_at m c t y (tokenOf t y) rfl k]; exact dh_real hw hct _ k
  · rw [norm_at m c t y (tokenOf t y) rfl k]; exact norm_real hx _ k
  · rw [scale_at m c t k]; exact scale_real hmd k
include hx hmd hw hct in
theorem total2 (k : Fin 1024) : ∑ t : Fin cfg0.N, add2 m c t k
    = ∑ s : Fin 4096, normT (aX m c) (rootT (meanT (aX m c))) (ix2 s k) * (dhT (aW m c) (aC m c) (ix2 s k) * scaleT (aM m c) (ix2 0 k)) := by
  rw [← sum_rows]
  refine Finset.sum_congr rfl fun t _ => (point2 m c hx hmd hw hct t k).trans (Finset.sum_congr rfl fun y _ => ?_)
  exact congrArg₂ _ (norm_at m c t y _ rfl k) (congrArg₂ _ (dh_at m c t y _ rfl k) (scale_at m c t k))

include hx hmd hw hct in
theorem grads_at (a : Fin 8) (k : Fin 1024) : (outsAt0 m c 15 tl.isLt).2 (ix2 a k)
    = gradsT (aX m c) (aM m c) (aG m c) (aW m c) (aC m c) (ix2 a k) := by
  unfold gradsT
  by_cases h : 3 ≤ a.val
  · exact (lasts m c a h k).trans (sumsT_ats _ _ _ _ k a h).symm
  · obtain rfl | rfl | rfl : a = 0 ∨ a = 1 ∨ a = 2 := by omega
    · exact (last0 m c k).trans ((total0 m c k).trans (sumsT_at0 _ _ _ _ k).symm)
    · exact (last1 m c k).trans ((total1 m c k).trans (sumsT_at1 _ _ _ _ k).symm)
    · exact (last2 m c k).trans ((total2 m c hx hmd hw hct k).trans (sumsT_at2 _ _ _ _ k).symm)

include hx hmd hw hct in
theorem final10 : (dats m 0 c).arrAt 10 (cfgs 0).N = gradsT (aX m c) (aM m c) (aG m c) (aW m c) (aC m c) := by
  refine (dats m 0 c).arrAt_eq_of_after_last 10 tl (by decide +kernel) _ fun j => ?_
  blk_simp
  rw [after0_10]
  obtain ⟨y0, y1, rfl⟩ : ∃ (y0 : Fin 8) (y1 : Fin 1024), j = ix2 y0 y1 := ⟨j 0, j 1, eq_ix2 j⟩
  exact grads_at m c hx hmd hw hct y0 y1
end Given

theorem algebraic : Cert.algebraic_Kernel2Ideal_Reference2Ideal_pre_finite2 := by
  intro m g m' g' hpre hagree
  refine ⟨fun c => gradT (aX m c) (aM m c) (aG m c) (aW m c) (aC m c) (aD m c), fun c => gradsT (aX m c) (aM m c) (aG m c) (aW m c) (aC m c),
    (θ_run _ _ _).mono (fun r h c => ?_) (Cert.Kernel2Ideal.Value.run_blocks m g), (θ_run _ _ _).mono (fun r h c => ?_) (run_ref m' g')⟩
  · obtain ⟨hx, hmd, hg, hw, hct, hdo⟩ := reals _ _ _ _ _ _ (hpre c)
    exact ⟨(h c).1.trans (final9 m c hx hmd hg hw hct hdo), (h c).2.1.trans (final10 m c hx hmd hw hct), (h c).2.2⟩
  · obtain ⟨e0, e1, e2, e3, e4, e5⟩ := hagree c
    obtain ⟨a, b, args⟩ := h c
    rw [e0, e1, e2, e3, e4, e5] at a
    rw [e0, e1, e2, e3, e4] at b
    exact ⟨a, b, args⟩

theorem frame_kernel : Cert.quiescent_Kernel2 := fun m g _ => Cert.Kernel2.Gen.frame m g
theorem frame_ideal : Cert.quiescent_Kernel2Ideal := fun m g _ => Cert.Kernel2Ideal.Gen.frame m g
theorem frame_ideal_pre : Cert.quiescent_Kernel2Ideal_pre_finite2 := fun m g _ => frame_ideal m g trivial
theorem frame_reference : Cert.quiescent_Reference2Ideal := fun m g _ =>
  (θ_run Cert.Reference2Ideal.defs _ _).mono (fun r h => ⟨fun c => (h c).2.2, sem_eq_zero_of_no_sems (by decide) r.2⟩) (run_ref m g)
theorem frame_reference_pre : Cert.quiescent_Reference2Ideal_pre_finite2 := fun m g _ => frame_reference m g trivial

end Cert.BwdIn

end
-- ==== Proof.MidDef.lean ====
/- The loss's gradient back through the output projection and the merge of the branches, as the reference computes it. -/
module

public import proofs.«01_k».proof.Proof.Gen.Reference6Ideal
public import proofs.«01_k».proof.Proof.BwdRef

@[expose] public section

set_option maxRecDepth 16384

noncomputable section

namespace Cert.Mid

open Idealize.ShloMosaic Idealize.ShloMosaic.TcCoe Idealize.SL.Sem
open Cert.Reference6Ideal Cert.Reference6Ideal.Gen
open Cert.BwdIn (meanT rootT slopeT normT rowsT colsumT pullT)

/-- The arguments: the block's input, the target, the modulation, the post-norm's gain, the attention, the projection, the retention's
branch, and the weights of the two branches and of the output. -/
structure Args where
  x : FVec Ideal S4096x1024 .f32
  t : FVec Ideal S4096x1024 .f32
  md : FVec Ideal S3x1024 .f32
  g : FVec Ideal S1x1024 .f32
  o : FVec Ideal S4096x512 .f32
  p : FVec Ideal S4096x4864 .f32
  y : FVec Ideal S4096x512 .f32
  wa : FVec Ideal S512x1024 .f32
  wr : FVec Ideal S512x1024 .f32
  wo : FVec Ideal S1024x1024 .f32

variable (A : Args)

/-- The attention's gate, its sigmoid, and that sigmoid's derivative, -/
def zaT : FVec Ideal S4096x512 .f32 := extractStridedSlice S4096x512 ![0, 2048] A.p slices_S4096x4864_S4096x512_0_2048
def saT : FVec Ideal S4096x512 .f32 := Host.divf (broadcastInDim S4096x512 ![] bcast_S_S4096x512 (constant S_ .f32 0x3F800000#32))
  (addf (broadcastInDim S4096x512 ![] bcast_S_S4096x512 (constant S_ .f32 0x3F800000#32)) (Host.exp (Host.negf (zaT A))))
def saD : FVec Ideal S4096x512 .f32 := mulf (saT A) (subf (broadcastInDim S4096x512 ![] bcast_S_S4096x512 (constant S_ .f32 0x3F800000#32)) (saT A))
/-- the gated attention, -/
def silT : FVec Ideal S4096x512 .f32 := mulf (zaT A) (saT A)
def yaT : FVec Ideal S4096x512 .f32 := mulf A.o (silT A)
/-- the two branches, -/
def avT : FVec Ideal S4096x1024 .f32 := Host.dotGeneral dot_S4096x512_S512x1024_S4096x1024_1_0_0_1_n_n none (yaT A) A.wa
def rvT : FVec Ideal S4096x1024 .f32 := Host.dotGeneral dot_S4096x512_S512x1024_S4096x1024_1_0_0_1_n_n none A.y A.wr
/-- the merge gates and their derivatives, -/
def sgT : FVec Ideal S4096x2048 .f32 := Host.divf (broadcastInDim S4096x2048 ![] bcast_S_S4096x2048 (constant S_ .f32 0x3F800000#32))
  (addf (broadcastInDim S4096x2048 ![] bcast_S_S4096x2048 (constant S_ .f32 0x3F800000#32))
    (Host.exp (Host.negf (extractStridedSlice S4096x2048 ![0, 0] A.p slices_S4096x4864_S4096x2048_0_0))))
def sgD : FVec Ideal S4096x2048 .f32 := mulf (sgT A) (subf (broadcastInDim S4096x2048 ![] bcast_S_S4096x2048 (constant S_ .f32 0x3F800000#32)) (sgT A))
def gaT : FVec Ideal S4096x1024 .f32 := extractStridedSlice S4096x1024 ![0, 0] (sgT A) slices_S4096x2048_S4096x1024_0_0
def grT : FVec Ideal S4096x1024 .f32 := extractStridedSlice S4096x1024 ![0, 1024] (sgT A) slices_S4096x2048_S4096x1024_0_1024
/-- the merged branches and their projection, -/
def mgT : FVec Ideal S4096x1024 .f32 := addf (mulf (gaT A) (avT A)) (mulf (grT A) (rvT A))
def uT : FVec Ideal S4096x1024 .f32 := Host.dotGeneral dot_S4096x1024_S1024x1024_S4096x1024_1_0_0_1_n_n none (mgT A) A.wo
/-- its rows over their root mean square, with the gain, -/
def unT : FVec Ideal S4096x1024 .f32 := normT (uT A) (rootT (meanT (uT A)))
def yvT : FVec Ideal S4096x1024 .f32 := mulf (unT A) (rowsT A.g)
/-- the modulation's gate, -/
def gateT : FVec Ideal S4096x1024 .f32 := rowsT (extractStridedSlice S1x1024 ![2, 0] A.md slices_S3x1024_S1x1024_2_0)
/-- the difference from the target, -/
def errT : FVec Ideal S4096x1024 .f32 := subf (addf A.x (mulf (gateT A) (yvT A))) A.t
/-- the loss's gradient by the block's output, -/
def doutT : FVec Ideal S4096x1024 .f32 :=
  mulf (broadcastInDim S4096x1024 ![0] bcast_S4096_S4096x1024_0 (Host.divf
      (broadcastInDim S4096 ![] bcast_S_S4096 (mulf (constant S_ .f32 0x3F000000#32) (constant S_ .f32 0x3F800000#32)))
      (broadcastInDim S4096 ![] bcast_S_S4096 (constant S_ .f32 0x44800000#32))))
    (mulf (broadcastInDim S4096x1024 ![] bcast_S_S4096x1024 (constant S_ .f32 0x40000000#32)) (errT A))
/-- by the norm's output and by its normalised rows, -/
def dyT : FVec Ideal S4096x1024 .f32 := mulf (gateT A) (doutT A)
def dnT : FVec Ideal S4096x1024 .f32 := mulf (dyT A) (rowsT A.g)
/-- by the projection, -/
def pull : FVec Ideal S4096x1024 .f32 := pullT (uT A) (dnT A) (slopeT (meanT (uT A)) (rootT (meanT (uT A))))
def duT : FVec Ideal S4096x1024 .f32 := addf (addf (normT (dnT A) (rootT (meanT (uT A)))) (mulf (uT A) (pull A))) (mulf (pull A) (uT A))
/-- by the merged branches, -/
def dmT : FVec Ideal S4096x1024 .f32 := Host.dotGeneral dot_S4096x1024_S1024x1024_S4096x1024_1_1_0_0_n_n none (duT A) A.wo
/-- by each branch and by what goes into it, -/
def daT : FVec Ideal S4096x1024 .f32 := mulf (gaT A) (dmT A)
def drT : FVec Ideal S4096x1024 .f32 := mulf (grT A) (dmT A)
def dyaT : FVec Ideal S4096x512 .f32 := Host.dotGeneral dot_S4096x1024_S512x1024_S4096x512_1_1_0_0_n_n none (daT A) A.wa
def dyrT : FVec Ideal S4096x512 .f32 := Host.dotGeneral dot_S4096x1024_S512x1024_S4096x512_1_1_0_0_n_n none (drT A) A.wr
/-- by the merge gates' logits, -/
def dglT : FVec Ideal S4096x2048 .f32 :=
  mulf (concatenate S4096x2048 1 [⟨S4096x1024, mulf (dmT A) (avT A)⟩, ⟨S4096x1024, mulf (dmT A) (rvT A)⟩] concatenates_S4096x1024_S4096x1024_S4096x2048_d1) (sgD A)
/-- and by the attention and its gate. -/
def doT : FVec Ideal S4096x512 .f32 := mulf (dyaT A) (silT A)
def dzaT : FVec Ideal S4096x512 .f32 := addf (mulf (mulf A.o (dyaT A)) (saT A)) (mulf (mulf (zaT A) (mulf A.o (dyaT A))) (saD A))

/-- The results: the attention's gradient by heads, the gradients of the projection's columns side by side, and the sums over the tokens. -/
def headsT : FVec Ideal S8x64x4096 .bf16 :=
  truncf .bf16 (transpose S8x64x4096 [1, 2, 0] (shapeCast S4096x8x64 (doT A) shapeCasts_S4096x512_S4096x8x64) transposes_S4096x8x64_S8x64x4096_1_2_0) bitsLt_bf16_f32
def colsT : FVec Ideal S4096x2560 .bf16 :=
  truncf .bf16 (concatenate S4096x2560 1 [⟨S4096x2048, dglT A⟩, ⟨S4096x512, dzaT A⟩] concatenates_S4096x2048_S4096x512_S4096x2560_d1) bitsLt_bf16_f32
def sumsT : FVec Ideal S8x1024 .f32 :=
  concatenate S8x1024 0 [⟨S1x1024, colsumT (mulf (doutT A) (yvT A))⟩, ⟨S1x1024, colsumT (mulf (unT A) (dyT A))⟩,
    ⟨S1x1024, broadcastInDim S1x1024 ![1] bcast_S1024_S1x1024_1 (Host.reduceAdd (mulf (errT A) (errT A)) (constant S_ FTy.f32 0#32) reducesTo_S4096x1024_S1024_d0 h_S_)⟩,
    ⟨S5x1024, broadcastInDim S5x1024 ![] bcast_S_S5x1024 (constant S_ FTy.f32 0#32)⟩]
    concatenates_S1x1024_S1x1024_S1x1024_S5x1024_S8x1024_d0

end Cert.Mid

end
-- ==== Proof.MidBlk.lean ====
/- The arguments of the merge's call as its points read them: the rows of 256 tokens, the whole weights, and the gate's row of the modulation. -/
module

public import proofs.«01_k».proof.Proof.Gen.Kernel6Ideal.Value
public import proofs.«01_k».proof.Proof.MidDef
public import Idealize.ShloMosaic.Lib.Pipeline.ValueKit

@[expose] public section

set_option maxRecDepth 16384

noncomputable section

namespace Cert.Mid

open Idealize.ShloMosaic Idealize.ShloMosaic.TcCoe Idealize.SL.Sem
open Idealize.ShloMosaic.Pipeline (Dat)
open Cert.Kernel6Ideal Cert.Kernel6Ideal.Gen

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 4] ∧ win0_6.index t = ![t.val, 0] ∧ win0_7.index t = ![t.val, 0] ∧ win0_8.index t = ![0, 0]
    ∧ win0_9.index t = ![0, 0] ∧ win0_10.index t = ![0, 0] ∧ win0_11.index t = ![t.val, 0] ∧ win0_12.index t = ![0, 0, t.val] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![0, 0] :=
  (by decide +kernel : ∀ t : Fin grid0.N, _)

variable (m : (ℓ : Loc nD τ sig) → Buf (Elt Ideal) ℓ) (c : Dev nD)

/-- The arguments in a memory of the kernel's run, -/
abbrev argsK : Args :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9)⟩

/-- those the host casts, -/
theorem entryP : V m c main_v0 = (m ((c : Thread nD τ).loc main_arg5) : FVec Ideal S4096x4864 .f32) := by entry_read; rfl
theorem entryY : V m c main_v1 = (m ((c : Thread nD τ).loc main_arg6) : FVec Ideal S4096x512 .f32) := by entry_read; rfl
theorem entryA : V m c main_v2 = (m ((c : Thread nD τ).loc main_arg7) : FVec Ideal S512x1024 .f32) := by entry_read; rfl
theorem entryR : V m c main_v3 = (m ((c : Thread nD τ).loc main_arg8) : FVec Ideal S512x1024 .f32) := by entry_read; rfl
theorem entryO : V m c main_v4 = (m ((c : Thread nD τ).loc main_arg9) : FVec Ideal S1024x1024 .f32) := by entry_read; rfl

/-! and what a point reads of them: of the arrays with tokens, the rows of its 256. -/
section Rows
variable (t : Fin cfg0.N) (y : Fin 256) (s : Fin 4096) (hs : s.val = t.val * 256 + y.val)
include hs
theorem x_blk (k : Fin 1024) : (show FVec Ideal S256x1024 .f32 from iblk m c 0 t) (ix2 y k) = (argsK m c).x (ix2 s k) := by
  blk_ext [iblk, V, idx t]
theorem t_blk (k : Fin 1024) : (show FVec Ideal S256x1024 .f32 from iblk m c 1 t) (ix2 y k) = (argsK m c).t (ix2 s k) := by
  blk_ext [iblk, V, idx t]
theorem o_blk (n : Fin 512) : (show FVec Ideal S256x512 .f32 from iblk m c 4 t) (ix2 y n) = (argsK m c).o (ix2 s n) := by
  blk_ext [iblk, V, idx t]
theorem z_blk (n : Fin 512) : (show FVec Ideal S256x512 .bf16 from X0_5 m c t) (ix2 y n) = (argsK m c).p (ix2 s ⟨2048 + n.val, by omega⟩) := by
  refine (dif_pos (moved0_5 t _)).trans ?_
  show _ = (show FVec Ideal S4096x4864 .f32 from m ((c : Thread nD τ).loc main_arg5)) _
  rw [← entryP m c]
  blk_ext [iblk, idx t]
theorem g_blk (n : Fin 2048) : (show FVec Ideal S256x2048 .bf16 from X0_6 m c t) (ix2 y n) = (argsK m c).p (ix2 s ⟨n.val, by omega⟩) := by
  refine (dif_pos (moved0_6 t _)).trans ?_
  show _ = (show FVec Ideal S4096x4864 .f32 from m ((c : Thread nD τ).loc main_arg5)) _
  rw [← entryP m c]
  blk_ext [iblk, idx t]
theorem y_blk (n : Fin 512) : (show FVec Ideal S256x512 .bf16 from iblk m c 7 t) (ix2 y n) = (argsK m c).y (ix2 s n) := by
  show _ = (show FVec Ideal S4096x512 .f32 from m ((c : Thread nD τ).loc main_arg6)) _
  rw [← entryY m c]
  blk_ext [iblk, idx t]
end Rows

section Whole
variable (t : Fin cfg0.N)
theorem gate_blk (k : Fin 1024) : View.ld (iblk m c 2 t) (Rect.unit ![2, 0] ![1, 1024] inb_S3x1024_S1x1024_2_0) (ix2 0 k) = (argsK m c).md (ix2 2 k) := by
  blk_point [iblk, V, idx t]
theorem gain_blk (k : Fin 1024) : (show FVec Ideal S1x1024 .f32 from iblk m c 3 t) (ix2 0 k) = (argsK m c).g (ix2 0 k) := by
  blk_ext [iblk, V, idx t]
theorem wa_blk (n : Fin 512) (k : Fin 1024) : (show FVec Ideal S512x1024 .bf16 from iblk m c 8 t) (ix2 n k) = (argsK m c).wa (ix2 n k) := by
  show _ = (show FVec Ideal S512x1024 .f32 from m ((c : Thread nD τ).loc main_arg7)) _
  rw [← entryA m c]
  blk_ext [iblk, idx t]
theorem wr_blk (n : Fin 512) (k : Fin 1024) : (show FVec Ideal S512x1024 .bf16 from iblk m c 9 t) (ix2 n k) = (argsK m c).wr (ix2 n k) := by
  show _ = (show FVec Ideal S512x1024 .f32 from m ((c : Thread nD τ).loc main_arg8)) _
  rw [← entryR m c]
  blk_ext [iblk, idx t]
theorem wo_blk (j k : Fin 1024) : (show FVec Ideal S1024x1024 .bf16 from iblk m c 10 t) (ix2 j k) = (argsK m c).wo (ix2 j k) := by
  show _ = (show FVec Ideal S1024x1024 .f32 from m ((c : Thread nD τ).loc main_arg9)) _
  rw [← entryO m c]
  blk_ext [iblk, idx t]
end Whole

end Cert.Mid

end
-- ==== Proof.MidOut.lean ====
/- What a point of the merge's gradient leaves in its blocks, in the names of the skeleton. -/
module

public import proofs.«01_k».proof.Proof.MidBlk
public import Idealize.ShloMosaic.Lib.WritesUnit
public import Idealize.ShloMosaic.Lib.Pipeline.ReadBack

@[expose] public section

set_option maxRecDepth 16384

noncomputable section

namespace Cert.Mid

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ) (c : Dev nD) (t : Fin cfg0.N)

/-- The branches, the gates (the second before its sigmoid), the modulation's gate, -/
def avB : FVec Ideal S256x1024 .f32 := k0_pay8 (F := Ideal) (X0_5 m c t) (iblk m c 4 t) (iblk m c 8 t)
def rvB : FVec Ideal S256x1024 .f32 := k0_pay9 (F := Ideal) (iblk m c 7 t) (iblk m c 9 t)
def gaB : FVec Ideal S256x1024 .f32 := k0_pay10 (F := Ideal) (View.ld (X0_6 m c t) (Rect.unit ![0, 0] ![256, 1024] inb_S256x2048_S256x1024_0_0))
def glB : FVec Ideal S256x1024 .bf16 := View.ld (X0_6 m c t) (Rect.unit ![0, 1024] ![256, 1024] inb_S256x2048_S256x1024_0_1024)
def grB : FVec Ideal S256x1024 .f32 := k0_pay11 (F := Ideal) (glB m c t)
def gateB : FVec Ideal S1x1024 .f32 := View.ld (iblk m c 2 t) (Rect.unit ![2, 0] ![1, 1024] inb_S3x1024_S1x1024_2_0)
/-- the merged rows and their projection, its root and its rows over it, with the gain, -/
def mgB : FVec Ideal S256x1024 .bf16 := k0_pay12 (F := Ideal) (avB m c t) (rvB m c t) (gaB m c t) (glB m c t)
def uB : FVec Ideal S256x1024 .f32 := k0_pay13 (F := Ideal) (avB m c t) (rvB m c t) (gaB m c t) (glB m c t) (iblk m c 10 t)
def rootB : FVec Ideal S256x1 .f32 := k0_pay14 (F := Ideal) (avB m c t) (rvB m c t) (gaB m c t) (glB m c t) (iblk m c 10 t)
def unB : FVec Ideal S256x1024 .f32 := k0_pay15 (F := Ideal) (avB m c t) (rvB m c t) (gaB m c t) (glB m c t) (iblk m c 10 t)
def yvB : FVec Ideal S256x1024 .f32 := k0_pay16 (F := Ideal) (avB m c t) (rvB m c t) (gaB m c t) (glB m c t) (iblk m c 10 t) (iblk m c 3 t)
/-- the difference from the target and the gradients. -/
def errB : FVec Ideal S256x1024 .f32 :=
  k0_pay17 (F := Ideal) (avB m c t) (rvB m c t) (gaB m c t) (glB m c t) (iblk m c 10 t) (iblk m c 3 t) (gateB m c t) (iblk m c 0 t) (iblk m c 1 t)
def doutB : FVec Ideal S256x1024 .f32 :=
  k0_pay18 (F := Ideal) (avB m c t) (rvB m c t) (gaB m c t) (glB m c t) (iblk m c 10 t) (iblk m c 3 t) (gateB m c t) (iblk m c 0 t) (iblk m c 1 t)
def duB : FVec Ideal S256x1024 .bf16 := k0_pay23 (F := Ideal) (rootB m c t) (unB m c t) (iblk m c 3 t) (gateB m c t) (doutB m c t)
def dyaB : FVec Ideal S256x512 .f32 := k0_pay29 (F := Ideal) (gaB m c t) (duB m c t) (iblk m c 10 t) (iblk m c 8 t)
def doB : FVec Ideal S256x512 .f32 := k0_pay31 (F := Ideal) (k0_pay6 (F := Ideal) (X0_5 m c t)) (gaB m c t) (duB m c t) (iblk m c 10 t) (iblk m c 8 t)

theorem out11 : (outsAt0 m c t.val t.isLt).1 = doutB m c t := by
  by_cases h : t.val % 16 = 0
  · rw [outsAt0_A m c t h]; frame_out; first | done | rfl
  · rw [outsAt0_B m c t h]; frame_out; first | done | rfl
theorem out14 : (outsAt0 m c t.val t.isLt).2.2.2.1 = k0_pay30 (F := Ideal) (grB m c t) (duB m c t) (iblk m c 10 t) (iblk m c 9 t) := by
  by_cases h : t.val % 16 = 0
  · rw [outsAt0_A m c t h]; frame_out; first | done | rfl
  · rw [outsAt0_B m c t h]; frame_out; first | done | rfl
theorem out15 : (outsAt0 m c t.val t.isLt).2.2.2.2.1 = mgB m c t := by
  by_cases h : t.val % 16 = 0
  · rw [outsAt0_A m c t h]; frame_out; first | done | rfl
  · rw [outsAt0_B m c t h]; frame_out; first | done | rfl
theorem out16 : (outsAt0 m c t.val t.isLt).2.2.2.2.2.1 = duB m c t := by
  by_cases h : t.val % 16 = 0
  · rw [outsAt0_A m c t h]; frame_out; first | done | rfl
  · rw [outsAt0_B m c t h]; frame_out; first | done | rfl
theorem out17 : (outsAt0 m c t.val t.isLt).2.2.2.2.2.2.1 = k0_pay7 (F := Ideal) (X0_5 m c t) (iblk m c 4 t) := by
  by_cases h : t.val % 16 = 0
  · rw [outsAt0_A m c t h]; frame_out; first | done | rfl
  · rw [outsAt0_B m c t h]; frame_out; first | done | rfl
theorem out18 : (outsAt0 m c t.val t.isLt).2.2.2.2.2.2.2.1 = k0_pay25 (F := Ideal) (gaB m c t) (duB m c t) (iblk m c 10 t) := by
  by_cases h : t.val % 16 = 0
  · rw [outsAt0_A m c t h]; frame_out; first | done | rfl
  · rw [outsAt0_B m c t h]; frame_out; first | done | rfl
theorem out19 : (outsAt0 m c t.val t.isLt).2.2.2.2.2.2.2.2.1 = k0_pay26 (F := Ideal) (grB m c t) (duB m c t) (iblk m c 10 t) := by
  by_cases h : t.val % 16 = 0
  · rw [outsAt0_A m c t h]; frame_out; first | done | rfl
  · rw [outsAt0_B m c t h]; frame_out; first | done | rfl

/-! ## The columns' gradients, stored in three parts -/

section Parts
variable {sp : Space} (v : View sig .tc sp S256x2560 .bf16) (f : v.ty.Contents (Elt Ideal)) (p0 p1 : FVec Ideal S256x1024 .bf16) (p2 : FVec Ideal S256x512 .bf16)
  (y : Fin 256)
theorem read_part0 (k : Fin 1024) : v.read (Elt Ideal) (v.writes (Elt Ideal) f [⟨Rect.unit ![0, 2048] ![256, 512] inb_S256x2560_S256x512_0_2048, p2⟩,
    ⟨Rect.unit ![0, 1024] ![256, 1024] inb_S256x2560_S256x1024_0_1024, p1⟩, ⟨Rect.unit ![0, 0] ![256, 1024] inb_S256x2560_S256x1024_0_0, p0⟩])
    (ix2 y ⟨k.val, by omega⟩) = p0 (ix2 y k) := by
  refine (View.read_writes_cons_unit_of_not_mem v f _ _ _ _ rfl 1 (.inl (show k.val < 2048 by omega))).trans ?_
  refine (View.read_writes_cons_unit_of_not_mem v f _ _ _ _ rfl 1 (.inl (show k.val < 1024 by omega))).trans ?_
  exact View.read_writes_cons_unit_of_mem v f _ _ _ _ (ix2 y k) rfl (Fin.forall_fin_two.mpr ⟨(Nat.zero_add _).symm, (Nat.zero_add _).symm⟩)
theorem read_part1 (k : Fin 1024) : v.read (Elt Ideal) (v.writes (Elt Ideal) f [⟨Rect.unit ![0, 2048] ![256, 512] inb_S256x2560_S256x512_0_2048, p2⟩,
    ⟨Rect.unit ![0, 1024] ![256, 1024] inb_S256x2560_S256x1024_0_1024, p1⟩, ⟨Rect.unit ![0, 0] ![256, 1024] inb_S256x2560_S256x1024_0_0, p0⟩])
    (ix2 y ⟨1024 + k.val, by omega⟩) = p1 (ix2 y k) := by
  refine (View.read_writes_cons_unit_of_not_mem v f _ _ _ _ rfl 1 (.inl (show 1024 + k.val < 2048 by omega))).trans ?_
  exact View.read_writes_cons_unit_of_mem v f _ _ _ _ (ix2 y k) rfl (Fin.forall_fin_two.mpr ⟨(Nat.zero_add _).symm, rfl⟩)
theorem read_part2 (n : Fin 512) : v.read (Elt Ideal) (v.writes (Elt Ideal) f [⟨Rect.unit ![0, 2048] ![256, 512] inb_S256x2560_S256x512_0_2048, p2⟩,
    ⟨Rect.unit ![0, 1024] ![256, 1024] inb_S256x2560_S256x1024_0_1024, p1⟩, ⟨Rect.unit ![0, 0] ![256, 1024] inb_S256x2560_S256x1024_0_0, p0⟩])
    (ix2 y ⟨2048 + n.val, by omega⟩) = p2 (ix2 y n) :=
  View.read_writes_cons_unit_of_mem v f _ _ _ _ (ix2 y n) rfl (Fin.forall_fin_two.mpr ⟨(Nat.zero_add _).symm, rfl⟩)
end Parts

theorem out13_0 (y : Fin 256) (k : Fin 1024) : (outsAt0 m c t.val t.isLt).2.2.1 (ix2 y ⟨k.val, by omega⟩)
    = k0_pay27 (F := Ideal) (avB m c t) (gaB m c t) (duB m c t) (iblk m c 10 t) (ix2 y k) := by
  by_cases h : t.val % 16 = 0
  · rw [outsAt0_A m c t h]; frame_out; rw [← View.read_writes_junk_apply_eq_canon (ms0_13 t).view]; exact read_part0 _ _ _ _ _ y k
  · rw [outsAt0_B m c t h]; frame_out; rw [← View.read_writes_junk_apply_eq_canon (ms0_13 t).view]; exact read_part0 _ _ _ _ _ y k
theorem out13_1 (y : Fin 256) (k : Fin 1024) : (outsAt0 m c t.val t.isLt).2.2.1 (ix2 y ⟨1024 + k.val, by omega⟩)
    = k0_pay28 (F := Ideal) (rvB m c t) (grB m c t) (duB m c t) (iblk m c 10 t) (ix2 y k) := by
  by_cases h : t.val % 16 = 0
  · rw [outsAt0_A m c t h]; frame_out; rw [← View.read_writes_junk_apply_eq_canon (ms0_13 t).view]; exact read_part1 _ _ _ _ _ y k
  · rw [outsAt0_B m c t h]; frame_out; rw [← View.read_writes_junk_apply_eq_canon (ms0_13 t).view]; exact read_part1 _ _ _ _ _ y k
theorem out13_2 (y : Fin 256) (n : Fin 512) : (outsAt0 m c t.val t.isLt).2.2.1 (ix2 y ⟨2048 + n.val, by omega⟩)
    = k0_pay2 (F := Ideal) (k0_pay4 (F := Ideal) (X0_5 m c t)) (k0_pay5 (F := Ideal) (X0_5 m c t)) (iblk m c 4 t) (dyaB m c t) (ix2 y n) := by
  by_cases h : t.val % 16 = 0
  · rw [outsAt0_A m c t h]; frame_out; rw [← View.read_writes_junk_apply_eq_canon (ms0_13 t).view]; exact read_part2 _ _ _ _ _ y n
  · rw [outsAt0_B m c t h]; frame_out; rw [← View.read_writes_junk_apply_eq_canon (ms0_13 t).view]; exact read_part2 _ _ _ _ _ y n

/-! ## The attention's gradient, stored head by head -/

/-- The block by heads of the block by columns. -/
def byHead (o : FVec Ideal S256x512 .f32) : FVec Ideal S8x64x256 .bf16 :=
  fun i => o (ix2 (i 2) ⟨(i 0).val * 64 + (i 1).val, by have h0 : (i 0).val < 8 := (i 0).isLt; have h1 : (i 1).val < 64 := (i 1).isLt; omega⟩)

section Heads
variable (o : FVec Ideal S256x512 .f32) (d : Fin 64) (y : Fin 256)
theorem head0 : k0_pay33 (F := Ideal) (k0_pay6 (F := Ideal) (X0_5 m c t)) (gaB m c t) (duB m c t) (iblk m c 10 t) (iblk m c 8 t) (ix3 0 d y)
    = doB m c t (ix2 y ⟨d.val, by omega⟩) := by
  unfold doB
  pointwise [k0_pay33, k0_pay32]
theorem head1 : k0_pay35 (F := Ideal) (k0_pay34 (F := Ideal) (k0_pay6 (F := Ideal) (X0_5 m c t)) (gaB m c t) (duB m c t) (iblk m c 10 t) (iblk m c 8 t)) (ix3 0 d y)
    = doB m c t (ix2 y ⟨64 + d.val, by omega⟩) := by
  unfold doB
  pointwise [k0_pay35, k0_pay34, k0_pay32]
theorem head2 : k0_pay37 (F := Ideal) o (ix3 0 d y) = o (ix2 y ⟨128 + d.val, by omega⟩) := by
  pointwise [k0_pay37, k0_pay36]
theorem head3 : k0_pay38 (F := Ideal) o (ix3 0 d y) = o (ix2 y ⟨192 + d.val, by omega⟩) := by
  pointwise [k0_pay38, k0_pay36]
  exact congrArg (fun q => o (ix2 y q)) (Fin.ext (by dsimp; omega))
theorem head4 : k0_pay40 (F := Ideal) o (ix3 0 d y) = o (ix2 y ⟨256 + d.val, by omega⟩) := by
  pointwise [k0_pay40, k0_pay39]
theorem head5 : k0_pay41 (F := Ideal) o (ix3 0 d y) = o (ix2 y ⟨320 + d.val, by omega⟩) := by
  pointwise [k0_pay41, k0_pay39]
  exact congrArg (fun q => o (ix2 y q)) (Fin.ext (by dsimp; omega))
theorem head6 : k0_pay43 (F := Ideal) o (ix3 0 d y) = o (ix2 y ⟨384 + d.val, by omega⟩) := by
  pointwise [k0_pay43, k0_pay42]
theorem head7 : k0_pay1 (F := Ideal) (k0_pay44 (F := Ideal) o) (ix3 0 d y) = o (ix2 y ⟨448 + d.val, by omega⟩) := by
  pointwise [k0_pay1, k0_pay44, k0_pay42]
  exact congrArg (fun q => o (ix2 y q)) (Fin.ext (by dsimp; omega))
end Heads

/-- A head's part, as 64 rows of the block by heads. -/
theorem part (o : FVec Ideal S256x512 .f32) (p : FVec Ideal S1x64x256 .bf16) (h : ℕ) (hh : h < 8) (inb : ∀ a, (![h, 0, 0] : Fin 3 → ℕ) a + (![1, 64, 256] : Fin 3 → ℕ) a ≤ S8x64x256.size a)
    (hp : ∀ (d : Fin 64) (y : Fin 256), p (ix3 0 d y) = o (ix2 y ⟨h * 64 + d.val, by omega⟩)) (x : S1x64x256.Idx) :
    p x = byHead o ((Rect.unit (s := S8x64x256) ![h, 0, 0] ![1, 64, 256] inb).emb x) := by
  obtain ⟨e, d, y, rfl⟩ : ∃ (e : Fin 1) (d : Fin 64) (y : Fin 256), x = ix3 e d y := ⟨x 0, x 1, x 2, eq_ix3 x⟩
  obtain rfl : e = 0 := Subsingleton.elim _ _
  rw [hp]
  refine congrArg o (congrArg₂ ix2 (Fin.ext ?_) (Fin.ext ?_))
  · show y.val = 0 + 1 * y.val
    omega
  · show h * 64 + d.val = (h + 1 * 0) * 64 + (0 + 1 * d.val)
    omega

theorem heads (i : S8x64x256.Idx) : View.canon (Val := Elt Ideal) (s := S8x64x256) (e := .bf16)
    [⟨Rect.unit ![7, 0, 0] ![1, 64, 256] inb_S8x64x256_S1x64x256_7_0_0, k0_pay1 (F := Ideal) (k0_pay44 (F := Ideal) (doB m c t))⟩,
      ⟨Rect.unit ![6, 0, 0] ![1, 64, 256] inb_S8x64x256_S1x64x256_6_0_0, k0_pay43 (F := Ideal) (doB m c t)⟩,
      ⟨Rect.unit ![5, 0, 0] ![1, 64, 256] inb_S8x64x256_S1x64x256_5_0_0, k0_pay41 (F := Ideal) (doB m c t)⟩,
      ⟨Rect.unit ![4, 0, 0] ![1, 64, 256] inb_S8x64x256_S1x64x256_4_0_0, k0_pay40 (F := Ideal) (doB m c t)⟩,
      ⟨Rect.unit ![3, 0, 0] ![1, 64, 256] inb_S8x64x256_S1x64x256_3_0_0, k0_pay38 (F := Ideal) (doB m c t)⟩,
      ⟨Rect.unit ![2, 0, 0] ![1, 64, 256] inb_S8x64x256_S1x64x256_2_0_0, k0_pay37 (F := Ideal) (doB m c t)⟩,
      ⟨Rect.unit ![1, 0, 0] ![1, 64, 256] inb_S8x64x256_S1x64x256_1_0_0, k0_pay35 (F := Ideal) (k0_pay34 (F := Ideal) (k0_pay6 (F := Ideal) (X0_5 m c t)) (gaB m c t) (duB m c t) (iblk m c 10 t) (iblk m c 8 t))⟩,
      ⟨Rect.unit ![0, 0, 0] ![1, 64, 256] inb_S8x64x256_S1x64x256_0_0_0, k0_pay33 (F := Ideal) (k0_pay6 (F := Ideal) (X0_5 m c t)) (gaB m c t) (duB m c t) (iblk m c 10 t) (iblk m c 8 t)⟩] i
    = byHead (doB m c t) i := by
  refine View.canon_apply_of_pieces (Val := Elt Ideal) (S := S8x64x256) (e := .bf16) (byHead (doB m c t)) _ ?_ i ?_
  · simp only [List.forall_mem_cons, List.not_mem_nil, false_imp_iff, implies_true, and_true]
    exact ⟨part _ _ 7 (by omega) _ (head7 _), part _ _ 6 (by omega) _ (head6 _), part _ _ 5 (by omega) _ (head5 _), part _ _ 4 (by omega) _ (head4 _),
      part _ _ 3 (by omega) _ (head3 _), part _ _ 2 (by omega) _ (head2 _), part _ _ 1 (by omega) _ (head1 m c t),
      part _ _ 0 (by omega) _ fun d y => (head0 m c t d y).trans (congrArg (fun q => doB m c t (ix2 y q)) (Fin.ext (by dsimp; omega)))⟩
  · exact View.cover_of_tiled _ ![1, 64, 256] (by rfl) i

theorem out12 (i : S8x64x256.Idx) : (outsAt0 m c t.val t.isLt).2.1 i = byHead (doB m c t) i := by
  by_cases h : t.val % 16 = 0
  · rw [outsAt0_A m c t h]; frame_out; exact heads m c t i
  · rw [outsAt0_B m c t h]; frame_out; exact heads m c t i

end Cert.Mid

end
-- ==== Proof.MidReal.lean ====
/- What the reference's arrays are at an index. -/
module

public import proofs.«01_k».proof.Proof.MidDef
public import proofs.«01_k».proof.Proof.BwdReal

@[expose] public section

set_option maxRecDepth 16384

noncomputable section

namespace Cert.Mid

open Idealize.ShloMosaic Idealize.ShloMosaic.TcCoe Idealize.SL.Sem
open Cert.Reference6Ideal Cert.Reference6Ideal.Gen
open Cert.BwdIn (meanT rootT slopeT normT rowsT colsumT pullT meanE)
variable (A : Args) (s : Fin 4096)

/-- One over one and the exponential of the negative. -/
def sigE (z : EReal) : EReal := Ideal.div 1 (1 + Ideal.exp (-z))

section Narrow
variable (n : Fin 512)
theorem zaT_at : zaT A (ix2 s n) = A.p (ix2 s ⟨2048 + n.val, by omega⟩) := by
  pointwise [zaT]
theorem saT_at : saT A (ix2 s n) = sigE (zaT A (ix2 s n)) := by
  pointwise [saT, sigE]
theorem saD_at : saD A (ix2 s n) = saT A (ix2 s n) * (1 - saT A (ix2 s n)) := by
  pointwise [saD]
theorem yaT_at : yaT A (ix2 s n) = A.o (ix2 s n) * (zaT A (ix2 s n) * saT A (ix2 s n)) := by
  pointwise [yaT, silT]
theorem dyaT_at : dyaT A (ix2 s n) = ∑ k : Fin 1024, daT A (ix2 s k) * A.wa (ix2 n k) := by
  pointwise [dyaT]
theorem dyrT_at : dyrT A (ix2 s n) = ∑ k : Fin 1024, drT A (ix2 s k) * A.wr (ix2 n k) := by
  pointwise [dyrT]
theorem doT_at : doT A (ix2 s n) = dyaT A (ix2 s n) * (zaT A (ix2 s n) * saT A (ix2 s n)) := by
  pointwise [doT, silT]
theorem dzaT_at : dzaT A (ix2 s n) = A.o (ix2 s n) * dyaT A (ix2 s n) * saT A (ix2 s n)
    + zaT A (ix2 s n) * (A.o (ix2 s n) * dyaT A (ix2 s n)) * (saT A (ix2 s n) * (1 - saT A (ix2 s n))) := by
  pointwise [dzaT, saD]
end Narrow

section Wide
variable (k : Fin 1024)
theorem avT_at : avT A (ix2 s k) = ∑ n : Fin 512, yaT A (ix2 s n) * A.wa (ix2 n k) := by
  pointwise [avT]
theorem rvT_at : rvT A (ix2 s k) = ∑ n : Fin 512, A.y (ix2 s n) * A.wr (ix2 n k) := by
  pointwise [rvT]
theorem gaT_at : gaT A (ix2 s k) = sigE (A.p (ix2 s ⟨k.val, by omega⟩)) := by
  pointwise [gaT, sgT, sigE]
theorem grT_at : grT A (ix2 s k) = sigE (A.p (ix2 s ⟨1024 + k.val, by omega⟩)) := by
  pointwise [grT, sgT, sigE]
theorem mgT_at : mgT A (ix2 s k) = gaT A (ix2 s k) * avT A (ix2 s k) + grT A (ix2 s k) * rvT A (ix2 s k) := by
  pointwise [mgT]
theorem uT_at : uT A (ix2 s k) = ∑ j : Fin 1024, mgT A (ix2 s j) * A.wo (ix2 j k) := by
  pointwise [uT]
theorem unT_at : unT A (ix2 s k) = uT A (ix2 s k) * Ideal.rsqrt (meanE fun j => uT A (ix2 s j)) := by
  unfold unT
  rw [Cert.BwdIn.normT_at, Cert.BwdIn.rootT_at, Cert.BwdIn.meanT_at]
theorem yvT_at : yvT A (ix2 s k) = unT A (ix2 s k) * A.g (ix2 0 k) := by
  pointwise [yvT, rowsT]
theorem gateT_at : gateT A (ix2 s k) = A.md (ix2 2 k) := by
  pointwise [gateT, rowsT]
theorem errT_at : errT A (ix2 s k) = A.x (ix2 s k) + A.md (ix2 2 k) * yvT A (ix2 s k) - A.t (ix2 s k) := by
  pointwise [errT, gateT, rowsT]
theorem doutT_at : doutT A (ix2 s k) = Ideal.div (Ideal.ofBits .f32 0x3F000000#32 * 1) (Ideal.ofBits .f32 0x44800000#32)
    * (Ideal.ofBits .f32 0x40000000#32 * errT A (ix2 s k)) := by
  pointwise [doutT]
theorem dyT_at : dyT A (ix2 s k) = A.md (ix2 2 k) * doutT A (ix2 s k) := by
  pointwise [dyT, gateT, rowsT]
theorem dnT_at : dnT A (ix2 s k) = dyT A (ix2 s k) * A.g (ix2 0 k) := by
  pointwise [dnT, rowsT]
theorem duT_at : duT A (ix2 s k) = dnT A (ix2 s k) * Ideal.rsqrt (meanE fun j => uT A (ix2 s j)) + uT A (ix2 s k) * pull A (ix2 s k) + pull A (ix2 s k) * uT A (ix2 s k) := by
  refine Eq.trans ?_ (congrArg (fun z => z + _ + _) ((Cert.BwdIn.normT_at (dnT A) (rootT (meanT (uT A))) s k).trans (congrArg _ ((Cert.BwdIn.rootT_at _ s).trans (congrArg _ (Cert.BwdIn.meanT_at _ s))))))
  rfl
theorem pull_at : pull A (ix2 s k) = Ideal.div ((∑ j : Fin 1024, uT A (ix2 s j) * dnT A (ix2 s j))
    * (Ideal.ofBits .f32 0xBF000000#32 * Ideal.div (Ideal.rsqrt (meanE fun j => uT A (ix2 s j))) (meanE fun j => uT A (ix2 s j)))) (Ideal.ofBits .f32 0x44800000#32) := by
  unfold pull
  rw [Cert.BwdIn.pullT_at, Cert.BwdIn.slopeT_at, Cert.BwdIn.rootT_at, Cert.BwdIn.meanT_at]
theorem dmT_at : dmT A (ix2 s k) = ∑ j : Fin 1024, duT A (ix2 s j) * A.wo (ix2 k j) := by
  pointwise [dmT]
theorem daT_at : daT A (ix2 s k) = gaT A (ix2 s k) * dmT A (ix2 s k) := by
  pointwise [daT]
theorem drT_at : drT A (ix2 s k) = grT A (ix2 s k) * dmT A (ix2 s k) := by
  pointwise [drT]
end Wide

/-! ## The results -/
theorem headsT_at (h : Fin 8) (d : Fin 64) : headsT A (ix3 h d s) = doT A (ix2 s ⟨h.val * 64 + d.val, by omega⟩) := by
  pointwise [headsT]
theorem colsT_at0 (k : Fin 1024) : colsT A (ix2 s ⟨k.val, by omega⟩) = dmT A (ix2 s k) * avT A (ix2 s k) * (gaT A (ix2 s k) * (1 - gaT A (ix2 s k))) := by
  pointwise [colsT, dglT, sgD, gaT]
  rw [dif_pos (by omega)]
theorem colsT_at1 (k : Fin 1024) : colsT A (ix2 s ⟨1024 + k.val, by omega⟩) = dmT A (ix2 s k) * rvT A (ix2 s k) * (grT A (ix2 s k) * (1 - grT A (ix2 s k))) := by
  pointwise [colsT, dglT, sgD, grT]
  rw [dif_pos (by omega)]
theorem colsT_at2 (n : Fin 512) : colsT A (ix2 s ⟨2048 + n.val, by omega⟩) = dzaT A (ix2 s n) := by
  pointwise [colsT]
section Sums
variable (k : Fin 1024)
theorem sumsT_at0 : sumsT A (ix2 0 k) = ∑ s : Fin 4096, doutT A (ix2 s k) * yvT A (ix2 s k) := by
  pointwise [sumsT, colsumT]
theorem sumsT_at1 : sumsT A (ix2 1 k) = ∑ s : Fin 4096, unT A (ix2 s k) * dyT A (ix2 s k) := by
  pointwise [sumsT, colsumT]
theorem sumsT_at2 : sumsT A (ix2 2 k) = ∑ s : Fin 4096, errT A (ix2 s k) * errT A (ix2 s k) := by
  pointwise [sumsT, colsumT]
theorem sumsT_ats (a : Fin 8) (ha : 3 ≤ a.val) : sumsT A (ix2 a k) = 0 := by
  pointwise [sumsT]
  rw [dif_neg (by omega), dif_neg (by omega), dif_neg (by omega)]
end Sums

end Cert.Mid

end
-- ==== Proof.MidPay.lean ====
/- The computed pieces of the merge's body at an index. -/
module

public import proofs.«01_k».proof.Proof.MidBlk
public import proofs.«01_k».proof.Proof.MidReal

@[expose] public section

set_option maxRecDepth 16384

noncomputable section

namespace Cert.Mid

open Idealize.ShloMosaic Idealize.ShloMosaic.TcCoe Idealize.SL.Sem
open Cert.Kernel6Ideal Cert.Kernel6Ideal.Gen
open Cert.BwdIn (meanE)

variable (y : Fin 256)

section Narrow
variable (z : FVec Ideal S256x512 .bf16) (a o d : FVec Ideal S256x512 .f32) (sl : FVec Ideal S256x512 .f32) (ga : FVec Ideal S256x1024 .f32)
  (du : FVec Ideal S256x1024 .bf16) (wo : FVec Ideal S1024x1024 .bf16) (w : FVec Ideal S512x1024 .bf16) (n : Fin 512)
theorem pay4_at : k0_pay4 (F := Ideal) z (ix2 y n) = z (ix2 y n) := by
  pointwise [k0_pay4]
theorem pay5_at : k0_pay5 (F := Ideal) z (ix2 y n) = sigE (z (ix2 y n)) := by
  pointwise [k0_pay5, k0_pay4, sigE]
  simp only [zero_sub]
theorem pay6_at : k0_pay6 (F := Ideal) z (ix2 y n) = z (ix2 y n) * sigE (z (ix2 y n)) := by
  pointwise [k0_pay6, k0_pay5, k0_pay4, sigE]
  simp only [zero_sub]
theorem pay7_at : k0_pay7 (F := Ideal) z o (ix2 y n) = o (ix2 y n) * (z (ix2 y n) * sigE (z (ix2 y n))) := by
  pointwise [k0_pay7, k0_pay6, k0_pay5, k0_pay4, sigE]
  simp only [zero_sub]
theorem pay2_at : k0_pay2 (F := Ideal) a sl o d (ix2 y n) = d (ix2 y n) * o (ix2 y n) * (sl (ix2 y n) * (1 + a (ix2 y n) * (1 - sl (ix2 y n)))) := by
  pointwise [k0_pay2]
theorem pay29_at : k0_pay29 (F := Ideal) ga du wo w (ix2 y n) = ∑ k : Fin 1024, k0_pay25 (F := Ideal) ga du wo (ix2 y k) * w (ix2 n k) := by
  pointwise [k0_pay29]
theorem pay30_at : k0_pay30 (F := Ideal) ga du wo w (ix2 y n) = ∑ k : Fin 1024, k0_pay26 (F := Ideal) ga du wo (ix2 y k) * w (ix2 n k) := by
  pointwise [k0_pay30]
theorem pay31_at : k0_pay31 (F := Ideal) sl ga du wo w (ix2 y n) = k0_pay29 (F := Ideal) ga du wo w (ix2 y n) * sl (ix2 y n) := by
  pointwise [k0_pay31]
end Narrow

section Wide
variable (z : FVec Ideal S256x512 .bf16) (o : FVec Ideal S256x512 .f32) (w : FVec Ideal S512x1024 .bf16) (yr : FVec Ideal S256x512 .bf16)
  (gl : FVec Ideal S256x1024 .bf16) (av rv ga gr d un : FVec Ideal S256x1024 .f32) (wo : FVec Ideal S1024x1024 .bf16) (g gate : FVec Ideal S1x1024 .f32)
  (x t : FVec Ideal S256x1024 .f32) (r : FVec Ideal S256x1 .f32) (du : FVec Ideal S256x1024 .bf16) (k : Fin 1024)
theorem pay8_at : k0_pay8 (F := Ideal) z o w (ix2 y k) = ∑ n : Fin 512, k0_pay7 (F := Ideal) z o (ix2 y n) * w (ix2 n k) := by
  pointwise [k0_pay8]
theorem pay9_at : k0_pay9 (F := Ideal) yr w (ix2 y k) = ∑ n : Fin 512, yr (ix2 y n) * w (ix2 n k) := by
  pointwise [k0_pay9]
theorem pay10_at : k0_pay10 (F := Ideal) gl (ix2 y k) = sigE (gl (ix2 y k)) := by
  pointwise [k0_pay10, sigE]
  simp only [zero_sub]
theorem pay11_at : k0_pay11 (F := Ideal) gl (ix2 y k) = sigE (gl (ix2 y k)) := by
  pointwise [k0_pay11, sigE]
  simp only [zero_sub]
theorem pay12_at : k0_pay12 (F := Ideal) av rv ga gl (ix2 y k) = ga (ix2 y k) * av (ix2 y k) + k0_pay11 (F := Ideal) gl (ix2 y k) * rv (ix2 y k) := by
  pointwise [k0_pay12]
theorem pay13_at : k0_pay13 (F := Ideal) av rv ga gl wo (ix2 y k) = ∑ j : Fin 1024, k0_pay12 (F := Ideal) av rv ga gl (ix2 y j) * wo (ix2 j k) := by
  pointwise [k0_pay13]
theorem pay14_at : k0_pay14 (F := Ideal) av rv ga gl wo (ix2 y 0) = Ideal.rsqrt (meanE fun j => k0_pay13 (F := Ideal) av rv ga gl wo (ix2 y j)) := by
  pointwise [k0_pay14, meanE]
theorem pay15_at : k0_pay15 (F := Ideal) av rv ga gl wo (ix2 y k) = k0_pay13 (F := Ideal) av rv ga gl wo (ix2 y k) * k0_pay14 (F := Ideal) av rv ga gl wo (ix2 y 0) := by
  pointwise [k0_pay15]
theorem pay16_at : k0_pay16 (F := Ideal) av rv ga gl wo g (ix2 y k) = k0_pay15 (F := Ideal) av rv ga gl wo (ix2 y k) * g (ix2 0 k) := by
  pointwise [k0_pay16]
theorem pay17_at : k0_pay17 (F := Ideal) av rv ga gl wo g gate x t (ix2 y k)
    = x (ix2 y k) + gate (ix2 0 k) * k0_pay16 (F := Ideal) av rv ga gl wo g (ix2 y k) - t (ix2 y k) := by
  pointwise [k0_pay17]
theorem pay18_at : k0_pay18 (F := Ideal) av rv ga gl wo g gate x t (ix2 y k)
    = k0_pay17 (F := Ideal) av rv ga gl wo g gate x t (ix2 y k) * Ideal.ofBits .f32 0x3A800000#32 := by
  pointwise [k0_pay18]
theorem pay23_at : k0_pay23 (F := Ideal) r un g gate d (ix2 y k) = r (ix2 y 0) * (d (ix2 y k) * gate (ix2 0 k) * g (ix2 0 k)
    - un (ix2 y k) * Ideal.div (∑ j : Fin 1024, d (ix2 y j) * gate (ix2 0 j) * g (ix2 0 j) * un (ix2 y j)) (Ideal.ofBits .f32 0x44800000#32)) := by
  pointwise [k0_pay23, k0_pay19]
theorem pay24_at : k0_pay24 (F := Ideal) du wo (ix2 y k) = ∑ j : Fin 1024, du (ix2 y j) * wo (ix2 k j) := by
  pointwise [k0_pay24]
theorem pay25_at : k0_pay25 (F := Ideal) ga du wo (ix2 y k) = k0_pay24 (F := Ideal) du wo (ix2 y k) * ga (ix2 y k) := by
  pointwise [k0_pay25]
theorem pay26_at : k0_pay26 (F := Ideal) gr du wo (ix2 y k) = k0_pay24 (F := Ideal) du wo (ix2 y k) * gr (ix2 y k) := by
  pointwise [k0_pay26]
theorem pay27_at : k0_pay27 (F := Ideal) av ga du wo (ix2 y k)
    = k0_pay24 (F := Ideal) du wo (ix2 y k) * av (ix2 y k) * (ga (ix2 y k) * (1 - ga (ix2 y k))) := by
  pointwise [k0_pay27]
theorem pay28_at : k0_pay28 (F := Ideal) rv gr du wo (ix2 y k)
    = k0_pay24 (F := Ideal) du wo (ix2 y k) * rv (ix2 y k) * (gr (ix2 y k) * (1 - gr (ix2 y k))) := by
  pointwise [k0_pay28]
end Wide

end Cert.Mid

end
-- ==== Proof.MidFin.lean ====
/- Where the arguments are finite, what the reference computes of them is real, and the kernel's forms of the gradients agree with its own. -/
module

public import proofs.«01_k».proof.Proof.MidReal
public import proofs.«01_k».proof.Proof.Gen.Pre_finite6

@[expose] public section

set_option maxRecDepth 16384

noncomputable section

namespace Cert.Mid

open Idealize.ShloMosaic
open Cert.AttnBwd (sum_coe div_real)
open Cert.BwdIn (meanE root_real row)

/-- Being a real. -/
def Re (x : EReal) : Prop := ∃ r : ℝ, x = (r : EReal)

theorem Re.coe (r : ℝ) : Re (r : EReal) := ⟨r, rfl⟩
theorem Re.one : Re 1 := ⟨1, EReal.coe_one.symm⟩
theorem Re.add {x y : EReal} : Re x → Re y → Re (x + y) := by
  rintro ⟨a, rfl⟩ ⟨b, rfl⟩; exact ⟨a + b, (EReal.coe_add a b).symm⟩
theorem Re.sub {x y : EReal} : Re x → Re y → Re (x - y) := by
  rintro ⟨a, rfl⟩ ⟨b, rfl⟩; exact ⟨a - b, (EReal.coe_sub a b).symm⟩
theorem Re.mul {x y : EReal} : Re x → Re y → Re (x * y) := by
  rintro ⟨a, rfl⟩ ⟨b, rfl⟩; exact ⟨a * b, (EReal.coe_mul a b).symm⟩
theorem Re.sum {n : ℕ} {f : Fin n → EReal} (h : ∀ j, Re (f j)) : Re (∑ j, f j) := by
  choose g hg using h
  exact ⟨∑ j, g j, by rw [← sum_coe]; exact Finset.sum_congr rfl fun j _ => hg j⟩
theorem Re.sig {x : EReal} : Re x → Re (sigE x) := by
  rintro ⟨a, rfl⟩
  have h : (1 : ℝ) + Real.exp (-a) ≠ 0 := by positivity
  refine ⟨1 / (1 + Real.exp (-a)), ?_⟩
  unfold sigE
  rw [← EReal.coe_neg, Ideal.exp_coe, ← EReal.coe_one, ← EReal.coe_add, div_real _ _ h]

/-- The loss's factors make one: twice one half over 1024. -/
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1024th : Ideal.ofBits .f32 0x3A800000#32 = ((1 / 1024 : ℝ) : EReal) := by
  simp [Ideal.ofBits, Ideal.ieee, -EReal.coe_mul]; norm_num

theorem factor (e : EReal) : e * Ideal.ofBits .f32 0x3A800000#32
    = Ideal.div (Ideal.ofBits .f32 0x3F000000#32 * 1) (Ideal.ofBits .f32 0x44800000#32) * (Ideal.ofBits .f32 0x40000000#32 * e) := by
  rw [← mul_assoc, mul_comm e, ofBits_half, ofBits_two, ofBits_1024th, Cert.BwdIn.ofBits_1024, mul_one, div_real _ _ (by norm_num), ← EReal.coe_mul]
  norm_num

/-- Every argument finite. -/
structure Args.Real (A : Args) : Prop where
  x : ∀ i, Re (A.x i)
  t : ∀ i, Re (A.t i)
  md : ∀ i, Re (A.md i)
  g : ∀ i, Re (A.g i)
  o : ∀ i, Re (A.o i)
  p : ∀ i, Re (A.p i)
  y : ∀ i, Re (A.y i)
  wa : ∀ i, Re (A.wa i)
  wr : ∀ i, Re (A.wr i)
  wo : ∀ i, Re (A.wo i)

section Reals
variable {A : Args} (h : A.Real) (s : Fin 4096)
include h
theorem za_real (n : Fin 512) : Re (zaT A (ix2 s n)) := by rw [zaT_at]; exact h.p _
theorem sa_real (n : Fin 512) : Re (saT A (ix2 s n)) := by rw [saT_at]; exact (za_real h s n).sig
theorem ya_real (n : Fin 512) : Re (yaT A (ix2 s n)) := by rw [yaT_at]; exact (h.o _).mul ((za_real h s n).mul (sa_real h s n))
theorem av_real (k : Fin 1024) : Re (avT A (ix2 s k)) := by rw [avT_at]; exact Re.sum fun n => (ya_real h s n).mul (h.wa _)
theorem rv_real (k : Fin 1024) : Re (rvT A (ix2 s k)) := by rw [rvT_at]; exact Re.sum fun n => (h.y _).mul (h.wr _)
theorem ga_real (k : Fin 1024) : Re (gaT A (ix2 s k)) := by rw [gaT_at]; exact (h.p _).sig
theorem gr_real (k : Fin 1024) : Re (grT A (ix2 s k)) := by rw [grT_at]; exact (h.p _).sig
theorem mg_real (k : Fin 1024) : Re (mgT A (ix2 s k)) := by
  rw [mgT_at]; exact ((ga_real h s k).mul (av_real h s k)).add ((gr_real h s k).mul (rv_real h s k))
theorem u_real (k : Fin 1024) : Re (uT A (ix2 s k)) := by rw [uT_at]; exact Re.sum fun j => (mg_real h s j).mul (h.wo _)
theorem un_real (k : Fin 1024) : Re (unT A (ix2 s k)) := by rw [unT_at]; exact (u_real h s k).mul (root_real _ fun j => u_real h s j)
theorem yv_real (k : Fin 1024) : Re (yvT A (ix2 s k)) := by rw [yvT_at]; exact (un_real h s k).mul (h.g _)
theorem err_real (k : Fin 1024) : Re (errT A (ix2 s k)) := by rw [errT_at]; exact ((h.x _).add ((h.md _).mul (yv_real h s k))).sub (h.t _)
theorem dout_real (k : Fin 1024) : Re (doutT A (ix2 s k)) := by
  rw [doutT_at, ← factor, ofBits_1024th]; exact (err_real h s k).mul (Re.coe _)
theorem dy_real (k : Fin 1024) : Re (dyT A (ix2 s k)) := by rw [dyT_at]; exact (h.md _).mul (dout_real h s k)
theorem dn_real (k : Fin 1024) : Re (dnT A (ix2 s k)) := by rw [dnT_at]; exact (dy_real h s k).mul (h.g _)

/-- The gradient of the normalised rows, as the kernel has it. -/
theorem du_form (k : Fin 1024) : Ideal.rsqrt (meanE fun j => uT A (ix2 s j)) * (dnT A (ix2 s k) - unT A (ix2 s k)
      * Ideal.div (∑ j : Fin 1024, dnT A (ix2 s j) * unT A (ix2 s j)) (Ideal.ofBits .f32 0x44800000#32)) = duT A (ix2 s k) := by
  have e := row (fun j => uT A (ix2 s j)) (fun j => dnT A (ix2 s j)) 0 (fun j => u_real h s j) (fun j => dn_real h s j) ⟨0, EReal.coe_zero.symm⟩ k
  simp only [zero_add] at e
  rw [duT_at, pull_at]
  simp only [unT_at]
  exact e

theorem du_real (k : Fin 1024) : Re (duT A (ix2 s k)) := by
  rw [← du_form h s k, Cert.BwdIn.ofBits_1024]
  refine Re.mul (root_real _ fun j => u_real h s j) ((dn_real h s k).sub ((un_real h s k).mul ?_))
  obtain ⟨r, e⟩ := Re.sum fun j => (dn_real h s j).mul (un_real h s j)
  rw [e, div_real _ _ (by norm_num)]
  exact Re.coe _
theorem dm_real (k : Fin 1024) : Re (dmT A (ix2 s k)) := by rw [dmT_at]; exact Re.sum fun j => (du_real h s j).mul (h.wo _)
theorem da_real (k : Fin 1024) : Re (daT A (ix2 s k)) := by rw [daT_at]; exact (ga_real h s k).mul (dm_real h s k)
theorem dya_real (n : Fin 512) : Re (dyaT A (ix2 s n)) := by rw [dyaT_at]; exact Re.sum fun k => (da_real h s k).mul (h.wa _)

/-- The gradient of the attention's gate, as the kernel has it. -/
theorem dza_form (n : Fin 512) : dyaT A (ix2 s n) * A.o (ix2 s n) * (saT A (ix2 s n) * (1 + zaT A (ix2 s n) * (1 - saT A (ix2 s n)))) = dzaT A (ix2 s n) := by
  rw [dzaT_at]
  obtain ⟨d, hd⟩ := dya_real h s n
  obtain ⟨o, ho⟩ := h.o (ix2 s n)
  obtain ⟨a, ha⟩ := sa_real h s n
  obtain ⟨z, hz⟩ := za_real h s n
  rw [hd, ho, ha, hz, ← EReal.coe_one]
  simp only [← EReal.coe_mul, ← EReal.coe_sub, ← EReal.coe_add]
  exact congrArg _ (by ring)
end Reals

section Pre
open Cert.Pre_finite6 Cert.Pre_finite6.Gen
open Cert.AttnBwd.Pre (real_of_abs)

theorem reals (A : Args) (h : fn (F := Ideal) A.x A.t A.md A.g A.o A.p A.y A.wa A.wr A.wo = fun _ => 1#1) : A.Real := by
  have hs : Subsingleton S_.Idx := ⟨fun a b => funext fun i => i.elim0⟩
  have h0 := congrFun h (fun i => i.elim0)
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_abs (Host.reduce_andi_all _ _ _ _ _ h0 i), fun i => real_of_abs (Host.reduce_andi_all _ _ _ _ _ h1 i),
    fun i => real_of_abs (Host.reduce_andi_all _ _ _ _ _ h2 i), fun i => real_of_abs (Host.reduce_andi_all _ _ _ _ _ h3 i),
    fun i => real_of_abs (Host.reduce_andi_all _ _ _ _ _ h4 i), fun i => real_of_abs (Host.reduce_andi_all _ _ _ _ _ h5 i),
    fun i => real_of_abs (Host.reduce_andi_all _ _ _ _ _ h6 i), fun i => real_of_abs (Host.reduce_andi_all _ _ _ _ _ h7 i),
    fun i => real_of_abs (Host.reduce_andi_all _ _ _ _ _ h8 i), fun i => real_of_abs (Host.reduce_andi_all _ _ _ _ _ h9 i)⟩
end Pre

end Cert.Mid

end
-- ==== Proof.MidRow.lean ====
/- A point's rows are the reference's rows of the same tokens. -/
module

public import proofs.«01_k».proof.Proof.MidOut
public import proofs.«01_k».proof.Proof.MidPay
public import proofs.«01_k».proof.Proof.MidFin

@[expose] public section

set_option maxRecDepth 16384

noncomputable section

namespace Cert.Mid

open Idealize.ShloMosaic Idealize.ShloMosaic.TcCoe Idealize.SL.Sem
open Cert.Kernel6Ideal Cert.Kernel6Ideal.Gen
open Cert.BwdIn (meanE)

variable (m : (ℓ : Loc nD τ sig) → Buf (Elt Ideal) ℓ) (c : Dev nD) (t : Fin cfg0.N) (y : Fin 256) (s : Fin 4096) (hs : s.val = t.val * 256 + y.val)
include hs

/-! ## Up to the loss -/

theorem sa_at (n : Fin 512) : k0_pay5 (F := Ideal) (X0_5 m c t) (ix2 y n) = saT (argsK m c) (ix2 s n) := by
  rw [pay5_at, saT_at, zaT_at]
  exact congrArg sigE (z_blk m c t y s hs n)
theorem ya_at (n : Fin 512) : k0_pay7 (F := Ideal) (X0_5 m c t) (iblk m c 4 t) (ix2 y n) = yaT (argsK m c) (ix2 s n) := by
  rw [pay7_at, yaT_at, saT_at, zaT_at]
  exact congrArg₂ (· * ·) (o_blk m c t y s hs n) (congrArg (fun z => z * sigE z) (z_blk m c t y s hs n))
theorem av_at (k : Fin 1024) : avB m c t (ix2 y k) = avT (argsK m c) (ix2 s k) := by
  unfold avB
  rw [pay8_at, avT_at]
  exact Finset.sum_congr rfl fun n _ => congrArg₂ (· * ·) (ya_at m c t y s hs n) (wa_blk m c t n k)
theorem rv_at (k : Fin 1024) : rvB m c t (ix2 y k) = rvT (argsK m c) (ix2 s k) := by
  unfold rvB
  rw [pay9_at, rvT_at]
  exact Finset.sum_congr rfl fun n _ => congrArg₂ (· * ·) (y_blk m c t y s hs n) (wr_blk m c t n k)
theorem ga_at (k : Fin 1024) : gaB m c t (ix2 y k) = gaT (argsK m c) (ix2 s k) := by
  unfold gaB
  rw [pay10_at, gaT_at]
  refine congrArg sigE (Eq.trans ?_ (g_blk m c t y s hs ⟨k.val, by omega⟩))
  exact View.ld_unit_apply_of (S := S256x2048) (X0_6 m c t) ![0, 0] ![256, 1024] inb_S256x2048_S256x1024_0_0 (ix2 y k) (ix2 y ⟨k.val, by omega⟩)
    (Fin.forall_fin_two.mpr ⟨(Nat.zero_add _).symm, (Nat.zero_add _).symm⟩)
theorem gr_at (k : Fin 1024) : grB m c t (ix2 y k) = grT (argsK m c) (ix2 s k) := by
  unfold grB
  rw [pay11_at, grT_at]
  refine congrArg sigE (Eq.trans ?_ (g_blk m c t y s hs ⟨1024 + k.val, by omega⟩))
  exact View.ld_unit_apply_of (S := S256x2048) (X0_6 m c t) ![0, 1024] ![256, 1024] inb_S256x2048_S256x1024_0_1024 (ix2 y k) (ix2 y ⟨1024 + k.val, by omega⟩)
    (Fin.forall_fin_two.mpr ⟨(Nat.zero_add _).symm, rfl⟩)
theorem mg_at (k : Fin 1024) : mgB m c t (ix2 y k) = mgT (argsK m c) (ix2 s k) := by
  unfold mgB
  rw [pay12_at, mgT_at, av_at m c t y s hs, rv_at m c t y s hs, ga_at m c t y s hs]
  exact congrArg (fun z => _ + z * _) (gr_at m c t y s hs k)
theorem u_at (k : Fin 1024) : uB m c t (ix2 y k) = uT (argsK m c) (ix2 s k) := by
  unfold uB
  rw [pay13_at, uT_at]
  exact Finset.sum_congr rfl fun j _ => congrArg₂ (· * ·) (mg_at m c t y s hs j) (wo_blk m c t j k)
theorem root_at : rootB m c t (ix2 y 0) = Ideal.rsqrt (meanE fun j => uT (argsK m c) (ix2 s j)) := by
  unfold rootB
  rw [pay14_at]
  exact congrArg (fun f => Ideal.rsqrt (meanE f)) (funext fun j => u_at m c t y s hs j)
theorem un_at (k : Fin 1024) : unB m c t (ix2 y k) = unT (argsK m c) (ix2 s k) := by
  unfold unB
  rw [pay15_at, unT_at]
  exact congrArg₂ (· * ·) (u_at m c t y s hs k) (root_at m c t y s hs)
theorem yv_at (k : Fin 1024) : yvB m c t (ix2 y k) = yvT (argsK m c) (ix2 s k) := by
  unfold yvB
  rw [pay16_at, yvT_at]
  exact congrArg₂ (· * ·) (un_at m c t y s hs k) (gain_blk m c t k)
theorem err_at (k : Fin 1024) : errB m c t (ix2 y k) = errT (argsK m c) (ix2 s k) := by
  unfold errB
  rw [pay17_at, errT_at]
  exact congrArg₂ (· - ·) (congrArg₂ (· + ·) (x_blk m c t y s hs k) (congrArg₂ (· * ·) (gate_blk m c t k) (yv_at m c t y s hs k))) (t_blk m c t y s hs k)
theorem dout_at (k : Fin 1024) : doutB m c t (ix2 y k) = doutT (argsK m c) (ix2 s k) := by
  unfold doutB
  rw [pay18_at, doutT_at, factor]
  exact congrArg (fun e => _ * (_ * e)) (err_at m c t y s hs k)
theorem dy_at (k : Fin 1024) : doutB m c t (ix2 y k) * gateB m c t (ix2 0 k) = dyT (argsK m c) (ix2 s k) := by
  rw [dout_at m c t y s hs, dyT_at]
  exact (congrArg (_ * ·) (gate_blk m c t k)).trans (mul_comm _ _)

/-! ## And back -/

variable (hA : (argsK m c).Real)
include hA

theorem du_at (k : Fin 1024) : duB m c t (ix2 y k) = duT (argsK m c) (ix2 s k) := by
  have dn : ∀ j : Fin 1024, doutB m c t (ix2 y j) * gateB m c t (ix2 0 j) * (show FVec Ideal S1x1024 .f32 from iblk m c 3 t) (ix2 0 j) = dnT (argsK m c) (ix2 s j) := fun j => by
    rw [dnT_at]; exact congrArg₂ (· * ·) (dy_at m c t y s hs j) (gain_blk m c t j)
  unfold duB
  rw [pay23_at, ← du_form hA s k, root_at m c t y s hs, un_at m c t y s hs k]
  refine congrArg (_ * ·) (congrArg₂ (· - ·) (dn k) (congrArg (fun z => _ * Ideal.div z _) (Finset.sum_congr rfl fun j _ => ?_)))
  exact congrArg₂ (· * ·) (dn j) (un_at m c t y s hs j)
theorem dm_at (k : Fin 1024) : k0_pay24 (F := Ideal) (duB m c t) (iblk m c 10 t) (ix2 y k) = dmT (argsK m c) (ix2 s k) := by
  rw [pay24_at, dmT_at]
  exact Finset.sum_congr rfl fun j _ => congrArg₂ (· * ·) (du_at m c t y s hs hA j) (wo_blk m c t k j)
theorem da_at (k : Fin 1024) : k0_pay25 (F := Ideal) (gaB m c t) (duB m c t) (iblk m c 10 t) (ix2 y k) = daT (argsK m c) (ix2 s k) := by
  rw [pay25_at, daT_at, dm_at m c t y s hs hA, ga_at m c t y s hs, mul_comm]
theorem dr_at (k : Fin 1024) : k0_pay26 (F := Ideal) (grB m c t) (duB m c t) (iblk m c 10 t) (ix2 y k) = drT (argsK m c) (ix2 s k) := by
  rw [pay26_at, drT_at, dm_at m c t y s hs hA, gr_at m c t y s hs, mul_comm]
theorem dgl0_at (k : Fin 1024) : k0_pay27 (F := Ideal) (avB m c t) (gaB m c t) (duB m c t) (iblk m c 10 t) (ix2 y k)
    = colsT (argsK m c) (ix2 s ⟨k.val, by omega⟩) := by
  rw [pay27_at, colsT_at0, dm_at m c t y s hs hA, ga_at m c t y s hs, av_at m c t y s hs]
theorem dgl1_at (k : Fin 1024) : k0_pay28 (F := Ideal) (rvB m c t) (grB m c t) (duB m c t) (iblk m c 10 t) (ix2 y k)
    = colsT (argsK m c) (ix2 s ⟨1024 + k.val, by omega⟩) := by
  rw [pay28_at, colsT_at1, dm_at m c t y s hs hA, gr_at m c t y s hs, rv_at m c t y s hs]
theorem dya_at (n : Fin 512) : dyaB m c t (ix2 y n) = dyaT (argsK m c) (ix2 s n) := by
  unfold dyaB
  rw [pay29_at, dyaT_at]
  exact Finset.sum_congr rfl fun k _ => congrArg₂ (· * ·) (da_at m c t y s hs hA k) (wa_blk m c t n k)
theorem dyr_at (n : Fin 512) : k0_pay30 (F := Ideal) (grB m c t) (duB m c t) (iblk m c 10 t) (iblk m c 9 t) (ix2 y n) = dyrT (argsK m c) (ix2 s n) := by
  rw [pay30_at, dyrT_at]
  exact Finset.sum_congr rfl fun k _ => congrArg₂ (· * ·) (dr_at m c t y s hs hA k) (wr_blk m c t n k)
theorem do_at (n : Fin 512) : doB m c t (ix2 y n) = doT (argsK m c) (ix2 s n) := by
  unfold doB
  rw [pay31_at, pay6_at, doT_at, saT_at, zaT_at]
  exact congrArg₂ (· * ·) (dya_at m c t y s hs hA n) (congrArg (fun z => z * sigE z) (z_blk m c t y s hs n))
theorem dza_at (n : Fin 512) : k0_pay2 (F := Ideal) (k0_pay4 (F := Ideal) (X0_5 m c t)) (k0_pay5 (F := Ideal) (X0_5 m c t)) (iblk m c 4 t) (dyaB m c t) (ix2 y n)
    = colsT (argsK m c) (ix2 s ⟨2048 + n.val, by omega⟩) := by
  have z : k0_pay4 (F := Ideal) (X0_5 m c t) (ix2 y n) = zaT (argsK m c) (ix2 s n) := by
    rw [pay4_at, zaT_at]; exact z_blk m c t y s hs n
  rw [colsT_at2, pay2_at, ← dza_form hA s n, z, sa_at m c t y s hs, dya_at m c t y s hs hA]
  exact congrArg (fun z => _ * z * _) (o_blk m c t y s hs n)

end Cert.Mid

end
-- ==== Proof.MidSum.lean ====
/- The sums over the tokens, row by row of the last result: each point adds its own rows' part. -/
module

public import proofs.«01_k».proof.Proof.MidOut
public import proofs.«01_k».proof.Proof.BwdSum

@[expose] public section

set_option maxRecDepth 16384

noncomputable section

namespace Cert.Mid

open Idealize.ShloMosaic Idealize.ShloMosaic.TcCoe Idealize.SL.Sem
open Idealize.ShloMosaic.Pipeline (Dat)
open Cert.Kernel6Ideal Cert.Kernel6Ideal.Gen
open Cert.BwdIn (read_row0 read_row1 read_row2 read_rows ld_row0 ld_row1 ld_row2)

variable (m : (ℓ : Loc nD τ sig) → Buf (Elt Ideal) ℓ) (c : Dev nD)

/-- What a point adds to the three rows. -/
def add0 (t : Fin cfg0.N) (k : Fin 1024) : EReal := ∑ y : Fin 256, doutB m c t (ix2 y k) * yvB m c t (ix2 y k)
def add1 (t : Fin cfg0.N) (k : Fin 1024) : EReal := ∑ y : Fin 256, doutB m c t (ix2 y k) * gateB m c t (ix2 0 k) * unB m c t (ix2 y k)
def add2 (t : Fin cfg0.N) (k : Fin 1024) : EReal := ∑ y : Fin 256, errB m c t (ix2 y k) * errB m c t (ix2 y k)

theorem pay20_at (t : Fin cfg0.N) (p : FVec Ideal S1x1024 .f32) (k : Fin 1024) :
    k0_pay20 (F := Ideal) (yvB m c t) (doutB m c t) p (ix2 0 k) = p (ix2 0 k) + add0 m c t k := by
  pointwise [k0_pay20, add0]
theorem pay21_at (t : Fin cfg0.N) (p : FVec Ideal S1x1024 .f32) (k : Fin 1024) :
    k0_pay21 (F := Ideal) (unB m c t) (gateB m c t) (doutB m c t) p (ix2 0 k) = p (ix2 0 k) + add1 m c t k := by
  pointwise [k0_pay21, k0_pay19, add1]
theorem pay22_at (t : Fin cfg0.N) (p : FVec Ideal S1x1024 .f32) (k : Fin 1024) :
    k0_pay22 (F := Ideal) (errB m c t) p (ix2 0 k) = p (ix2 0 k) + add2 m c t k := by
  pointwise [k0_pay22, add2]

theorem zero_at (r : Fin 8) (k : Fin 1024) : k0_pay3 (F := Ideal) (ix2 r k) = 0 := by
  pointwise [k0_pay3]

section First
variable (t : Fin cfg0.N) (h : t.val % 16 = 0) (k : Fin 1024)
include h
theorem first0 : (outsAt0 m c t.val t.isLt).2.2.2.2.2.2.2.2.2 (ix2 0 k) = 0 + add0 m c t k := by
  rw [outsAt0_A m c t h]
  frame_out
  rw [← View.read_writes_junk_apply_eq_canon (ms0_20 t).view]
  refine (read_row0 _ _ _ _ _ _ k).trans ?_
  rw [View.readCov_fill _ _ _ _ _ (by decide)]
  refine (pay20_at m c t _ k).trans (congrArg (· + _) ?_)
  exact (ld_row0 _ k).trans (zero_at 0 k)
theorem first1 : (outsAt0 m c t.val t.isLt).2.2.2.2.2.2.2.2.2 (ix2 1 k) = 0 + add1 m c t k := by
  rw [outsAt0_A m c t h]
  frame_out
  rw [← View.read_writes_junk_apply_eq_canon (ms0_20 t).view]
  refine (read_row1 _ _ _ _ _ _ k).trans ?_
  rw [View.readCov_skip _ _ _ _ _ (by decide), View.readCov_fill _ _ _ _ _ (by decide)]
  refine (pay21_at m c t _ k).trans (congrArg (· + _) ?_)
  exact (ld_row1 _ k).trans (zero_at 1 k)
theorem first2 : (outsAt0 m c t.val t.isLt).2.2.2.2.2.2.2.2.2 (ix2 2 k) = 0 + add2 m c t k := by
  rw [outsAt0_A m c t h]
  frame_out
  rw [← View.read_writes_junk_apply_eq_canon (ms0_20 t).view]
  refine (read_row2 _ _ _ _ _ _ k).trans ?_
  rw [View.readCov_skip _ _ _ _ _ (by decide), View.readCov_skip _ _ _ _ _ (by decide), View.readCov_fill _ _ _ _ _ (by decide)]
  refine (pay22_at m c t _ k).trans (congrArg (· + _) ?_)
  exact (ld_row2 _ k).trans (zero_at 2 k)
theorem firsts (r : Fin 8) (hr : 3 ≤ r.val) : (outsAt0 m c t.val t.isLt).2.2.2.2.2.2.2.2.2 (ix2 r k) = 0 + 0 := by
  rw [outsAt0_A m c t h]
  frame_out
  rw [← View.read_writes_junk_apply_eq_canon (ms0_20 t).view]
  refine (read_rows _ _ _ _ _ _ k r hr).trans ?_
  refine (View.read_writes_cons_rows_of_mem _ _ _ _ _ _ (ix2 r k) rfl (Nat.zero_add _).symm rfl).trans ?_
  exact (zero_at r k).trans (add_zero _).symm
end First

section Next
variable (t : Fin cfg0.N) (h : ¬t.val % 16 = 0) (k : Fin 1024)
include h
theorem next0 : (outsAt0 m c t.val t.isLt).2.2.2.2.2.2.2.2.2 (ix2 0 k)
    = (outsAt0 m c (t.val - 1) (Nat.lt_of_le_of_lt (Nat.sub_le _ _) t.isLt)).2.2.2.2.2.2.2.2.2 (ix2 0 k) + add0 m c t k := by
  rw [outsAt0_B m c t h]
  frame_out
  refine (read_row0 _ _ _ _ _ _ k).trans ?_
  refine (pay20_at m c t _ k).trans (congrArg (· + _) ?_)
  exact ld_row0 _ k
theorem next1 : (outsAt0 m c t.val t.isLt).2.2.2.2.2.2.2.2.2 (ix2 1 k)
    = (outsAt0 m c (t.val - 1) (Nat.lt_of_le_of_lt (Nat.sub_le _ _) t.isLt)).2.2.2.2.2.2.2.2.2 (ix2 1 k) + add1 m c t k := by
  rw [outsAt0_B m c t h]
  frame_out
  refine (read_row1 _ _ _ _ _ _ k).trans ?_
  refine (pay21_at m c t _ k).trans (congrArg (· + _) ?_)
  exact ld_row1 _ k
theorem next2 : (outsAt0 m c t.val t.isLt).2.2.2.2.2.2.2.2.2 (ix2 2 k)
    = (outsAt0 m c (t.val - 1) (Nat.lt_of_le_of_lt (Nat.sub_le _ _) t.isLt)).2.2.2.2.2.2.2.2.2 (ix2 2 k) + add2 m c t k := by
  rw [outsAt0_B m c t h]
  frame_out
  refine (read_row2 _ _ _ _ _ _ k).trans ?_
  refine (pay22_at m c t _ k).trans (congrArg (· + _) ?_)
  exact ld_row2 _ k
theorem nexts (r : Fin 8) (hr : 3 ≤ r.val) : (outsAt0 m c t.val t.isLt).2.2.2.2.2.2.2.2.2 (ix2 r k)
    = (outsAt0 m c (t.val - 1) (Nat.lt_of_le_of_lt (Nat.sub_le _ _) t.isLt)).2.2.2.2.2.2.2.2.2 (ix2 r k) + 0 := by
  rw [outsAt0_B m c t h]
  frame_out
  refine (read_rows _ _ _ _ _ _ k r hr).trans ?_
  refine Eq.trans ?_ (add_zero _).symm
  exact congrFun (Memref.IsWhole.read_unread _ _) _
end Next

/-- The last point. -/
abbrev tl : Fin cfg0.N := ⟨15, by decide⟩

theorem last0 (k : Fin 1024) : (outsAt0 m c 15 tl.isLt).2.2.2.2.2.2.2.2.2 (ix2 0 k) = ∑ t : Fin cfg0.N, add0 m c t k :=
  (Pipeline.eq_sum_fin_of_reset_step_last (fun n h => (outsAt0 m c n h).2.2.2.2.2.2.2.2.2 (ix2 0 k)) 16 0 (fun t => add0 m c t k)
    (fun t h => first0 m c t h k) (fun t h => next0 m c t h k) (le_of_eq N_0) tl N_0.symm).trans (zero_add _)
theorem last1 (k : Fin 1024) : (outsAt0 m c 15 tl.isLt).2.2.2.2.2.2.2.2.2 (ix2 1 k) = ∑ t : Fin cfg0.N, add1 m c t k :=
  (Pipeline.eq_sum_fin_of_reset_step_last (fun n h => (outsAt0 m c n h).2.2.2.2.2.2.2.2.2 (ix2 1 k)) 16 0 (fun t => add1 m c t k)
    (fun t h => first1 m c t h k) (fun t h => next1 m c t h k) (le_of_eq N_0) tl N_0.symm).trans (zero_add _)
theorem last2 (k : Fin 1024) : (outsAt0 m c 15 tl.isLt).2.2.2.2.2.2.2.2.2 (ix2 2 k) = ∑ t : Fin cfg0.N, add2 m c t k :=
  (Pipeline.eq_sum_fin_of_reset_step_last (fun n h => (outsAt0 m c n h).2.2.2.2.2.2.2.2.2 (ix2 2 k)) 16 0 (fun t => add2 m c t k)
    (fun t h => first2 m c t h k) (fun t h => next2 m c t h k) (le_of_eq N_0) tl N_0.symm).trans (zero_add _)
theorem lasts (r : Fin 8) (hr : 3 ≤ r.val) (k : Fin 1024) : (outsAt0 m c 15 tl.isLt).2.2.2.2.2.2.2.2.2 (ix2 r k) = 0 :=
  (Pipeline.eq_sum_fin_of_reset_step_last (fun n h => (outsAt0 m c n h).2.2.2.2.2.2.2.2.2 (ix2 r k)) 16 0 (fun _ => 0)
    (fun t h => firsts m c t h k r hr) (fun t h => nexts m c t h k r hr) (le_of_eq N_0) tl N_0.symm).trans (by simp)

end Cert.Mid

end
-- ==== Proof.MidRef.lean ====
/- The reference's run of the loss's gradient back through the output projection and the merge of the branches: its results. -/
module

public import proofs.«01_k».proof.Proof.MidDef
public import Idealize.ShloMosaic.Lib.StableHlo.RunRead
public import Idealize.ShloMosaic.Lib.Claim

@[expose] public section

set_option maxRecDepth 16384

noncomputable section

namespace Cert.Mid

open Idealize.ShloMosaic Idealize.ShloMosaic.TcCoe Idealize.SL.Sem
open Cert.Reference6Ideal Cert.Reference6Ideal.Gen

/-- The arguments in a memory of the reference's run. -/
abbrev argsR (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9)⟩

set_option maxHeartbeats 8000000 in
theorem run_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = doutT (argsR m c)
      ∧ r.2.mem ((c.tc : Thread nD τ).loc main_v106) = headsT (argsR m c)
      ∧ r.2.mem ((c.tc : Thread nD τ).loc main_v108) = colsT (argsR m c)
      ∧ r.2.mem ((c.tc : Thread nD τ).loc main_v109) = dyrT (argsR m c)
      ∧ r.2.mem ((c.tc : Thread nD τ).loc main_v110) = (truncf .bf16 (mgT (argsR m c)) bitsLt_bf16_f32 : FVec Ideal S4096x1024 .bf16)
      ∧ r.2.mem ((c.tc : Thread nD τ).loc main_v111) = (truncf .bf16 (duT (argsR m c)) bitsLt_bf16_f32 : FVec Ideal S4096x1024 .bf16)
      ∧ r.2.mem ((c.tc : Thread nD τ).loc main_v112) = (truncf .bf16 (yaT (argsR m c)) bitsLt_bf16_f32 : FVec Ideal S4096x512 .bf16)
      ∧ r.2.mem ((c.tc : Thread nD τ).loc main_v113) = (truncf .bf16 (daT (argsR m c)) bitsLt_bf16_f32 : FVec Ideal S4096x1024 .bf16)
      ∧ r.2.mem ((c.tc : Thread nD τ).loc main_v114) = (truncf .bf16 (drT (argsR m c)) bitsLt_bf16_f32 : FVec Ideal S4096x1024 .bf16)
      ∧ r.2.mem ((c.tc : Thread nD τ).loc main_v116) = sumsT (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have base := StableHlo.run_hlo (defs (F := Ideal)) (main (F := Ideal)) (by hlo_seq) (by decide) (by decide) (by simp)
    (by intro _ h; (repeat (cases h with | head => rfl | tail _ h => ?_)); exact nomatch h) m ρ
  exact (θ_run _ _ _).mono (fun r h c => ⟨(h c main_v65).trans (by after_reads_simp; rfl), (h c main_v106).trans (by after_reads_simp; rfl), (h c main_v108).trans (by after_reads_simp; rfl),
    (h c main_v109).trans (by after_reads_simp; rfl), (h c main_v110).trans (by after_reads_simp; rfl), (h c main_v111).trans (by after_reads_simp; rfl), (h c main_v112).trans (by after_reads_simp; rfl), (h c main_v113).trans (by after_reads_simp; rfl),
    (h c main_v114).trans (by after_reads_simp; rfl), (h c main_v116).trans (by after_reads_simp; rfl), (h c main_arg0).trans rfl,
    (h c main_arg1).trans rfl, (h c main_arg2).trans rfl, (h c main_arg3).trans rfl, (h c main_arg4).trans rfl, (h c main_arg5).trans rfl,
    (h c main_arg6).trans rfl, (h c main_arg7).trans rfl, (h c main_arg8).trans rfl, (h c main_arg9).trans rfl⟩) base

end Cert.Mid

end
-- ==== Proof.Mid.lean ====
/- The call of the loss, the output projection and the merge, forward and back: its ten results are the reference's, and its frames. -/
module

public import proofs.«01_k».proof.Proof.Gen.Kernel6.Frame
public import proofs.«01_k».proof.Proof.MidRow
public import proofs.«01_k».proof.Proof.MidSum
public import proofs.«01_k».proof.Proof.MidRef

@[expose] public section

set_option maxRecDepth 16384

noncomputable section

namespace Cert.Mid

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ) (c : Dev nD)

/-- The token of a row at a point. -/
abbrev tokenOf (t : Fin cfg0.N) (y : Fin 256) : Fin 4096 := ⟨t.val * 256 + y.val, by have := lt_of_lt_of_eq t.isLt N_0; omega⟩

section Final
variable (hA : (argsK m c).Real)

/-! ## The arrays with tokens -/

theorem final11 : (dats m 0 c).arrAt 11 (cfgs 0).N = doutT (argsK m c) := by
  refine (dats m 0 c).arrAt_eq_of_covers 11 _ (by decide +kernel) fun t _ y => ?_
  blk_simp
  rw [after0_11, out11]
  have ht : t.val < 16 := lt_of_lt_of_eq t.isLt N_0
  obtain ⟨y0, y1, rfl⟩ : ∃ (y0 : Fin 256) (y1 : Fin 1024), y = ix2 y0 y1 := ⟨y 0, y 1, eq_ix2 y⟩
  refine (dout_at m c t y0 (tokenOf t y0) rfl y1).trans ?_
  blk_ext [idx t]

include hA in
theorem final14 : (dats m 0 c).arrAt 14 (cfgs 0).N = dyrT (argsK m c) := by
  refine (dats m 0 c).arrAt_eq_of_covers 14 _ (by decide +kernel) fun t _ y => ?_
  blk_simp
  rw [after0_14, out14]
  have ht : t.val < 16 := lt_of_lt_of_eq t.isLt N_0
  obtain ⟨y0, y1, rfl⟩ : ∃ (y0 : Fin 256) (y1 : Fin 512), y = ix2 y0 y1 := ⟨y 0, y 1, eq_ix2 y⟩
  refine (dyr_at m c t y0 (tokenOf t y0) rfl hA y1).trans ?_
  blk_ext [idx t]

theorem final15 : (dats m 0 c).arrAt 15 (cfgs 0).N = mgT (argsK m c) := by
  refine (dats m 0 c).arrAt_eq_of_covers 15 _ (by decide +kernel) fun t _ y => ?_
  blk_simp
  rw [after0_15, out15]
  have ht : t.val < 16 := lt_of_lt_of_eq t.isLt N_0
  obtain ⟨y0, y1, rfl⟩ : ∃ (y0 : Fin 256) (y1 : Fin 1024), y = ix2 y0 y1 := ⟨y 0, y 1, eq_ix2 y⟩
  refine (mg_at m c t y0 (tokenOf t y0) rfl y1).trans ?_
  blk_ext [idx t]

include hA in
theorem final16 : (dats m 0 c).arrAt 16 (cfgs 0).N = duT (argsK m c) := by
  refine (dats m 0 c).arrAt_eq_of_covers 16 _ (by decide +kernel) fun t _ y => ?_
  blk_simp
  rw [after0_16, out16]
  have ht : t.val < 16 := lt_of_lt_of_eq t.isLt N_0
  obtain ⟨y0, y1, rfl⟩ : ∃ (y0 : Fin 256) (y1 : Fin 1024), y = ix2 y0 y1 := ⟨y 0, y 1, eq_ix2 y⟩
  refine (du_at m c t y0 (tokenOf t y0) rfl hA y1).trans ?_
  blk_ext [idx t]

theorem final17 : (dats m 0 c).arrAt 17 (cfgs 0).N = yaT (argsK m c) := by
  refine (dats m 0 c).arrAt_eq_of_covers 17 _ (by decide +kernel) fun t _ y => ?_
  blk_simp
  rw [after0_17, out17]
  have ht : t.val < 16 := lt_of_lt_of_eq t.isLt N_0
  obtain ⟨y0, y1, rfl⟩ : ∃ (y0 : Fin 256) (y1 : Fin 512), y = ix2 y0 y1 := ⟨y 0, y 1, eq_ix2 y⟩
  refine (ya_at m c t y0 (tokenOf t y0) rfl y1).trans ?_
  blk_ext [idx t]

include hA in
theorem final18 : (dats m 0 c).arrAt 18 (cfgs 0).N = daT (argsK m c) := by
  refine (dats m 0 c).arrAt_eq_of_covers 18 _ (by decide +kernel) fun t _ y => ?_
  blk_simp
  rw [after0_18, out18]
  have ht : t.val < 16 := lt_of_lt_of_eq t.isLt N_0
  obtain ⟨y0, y1, rfl⟩ : ∃ (y0 : Fin 256) (y1 : Fin 1024), y = ix2 y0 y1 := ⟨y 0, y 1, eq_ix2 y⟩
  refine (da_at m c t y0 (tokenOf t y0) rfl hA y1).trans ?_
  blk_ext [idx t]

include hA in
theorem final19 : (dats m 0 c).arrAt 19 (cfgs 0).N = drT (argsK m c) := by
  refine (dats m 0 c).arrAt_eq_of_covers 19 _ (by decide +kernel) fun t _ y => ?_
  blk_simp
  rw [after0_19, out19]
  have ht : t.val < 16 := lt_of_lt_of_eq t.isLt N_0
  obtain ⟨y0, y1, rfl⟩ : ∃ (y0 : Fin 256) (y1 : Fin 1024), y = ix2 y0 y1 := ⟨y 0, y 1, eq_ix2 y⟩
  refine (dr_at m c t y0 (tokenOf t y0) rfl hA y1).trans ?_
  blk_ext [idx t]

include hA in
theorem final12 : (dats m 0 c).arrAt 12 (cfgs 0).N = headsT (argsK m c) := by
  refine (dats m 0 c).arrAt_eq_of_covers 12 _ (by decide +kernel) fun t _ y => ?_
  blk_simp
  rw [after0_12, out12]
  have ht : t.val < 16 := lt_of_lt_of_eq t.isLt N_0
  obtain ⟨h, d, y0, rfl⟩ : ∃ (h : Fin 8) (d : Fin 64) (y0 : Fin 256), y = ix3 h d y0 := ⟨y 0, y 1, y 2, eq_ix3 y⟩
  refine (do_at m c t y0 (tokenOf t y0) rfl hA _).trans ((headsT_at _ _ h d).symm.trans ?_)
  blk_ext [idx t]

include hA in
theorem cols_at (t : Fin cfg0.N) (y : Fin 256) (k : Fin 2560) : (outsAt0 m c t.val t.isLt).2.2.1 (ix2 y k) = colsT (argsK m c) (ix2 (tokenOf t y) k) := by
  by_cases h0 : k.val < 1024
  · exact (out13_0 m c t y ⟨k.val, h0⟩).trans (dgl0_at m c t y (tokenOf t y) rfl hA ⟨k.val, h0⟩)
  · by_cases h1 : k.val < 2048
    · obtain ⟨j, e⟩ : ∃ j : Fin 1024, (⟨1024 + j.val, by omega⟩ : Fin 2560) = k := ⟨⟨k.val - 1024, by omega⟩, Fin.ext (by dsimp; omega)⟩
      rw [← e]
      exact (out13_1 m c t y j).trans (dgl1_at m c t y (tokenOf t y) rfl hA j)
    · obtain ⟨n, e⟩ : ∃ n : Fin 512, (⟨2048 + n.val, by omega⟩ : Fin 2560) = k := ⟨⟨k.val - 2048, by omega⟩, Fin.ext (by dsimp; omega)⟩
      rw [← e]
      exact (out13_2 m c t y n).trans (dza_at m c t y (tokenOf t y) rfl hA n)

include hA in
theorem final13 : (dats m 0 c).arrAt 13 (cfgs 0).N = colsT (argsK m c) := by
  refine (dats m 0 c).arrAt_eq_of_covers 13 _ (by decide +kernel) fun t _ y => ?_
  blk_simp
  rw [after0_13]
  have ht : t.val < 16 := lt_of_lt_of_eq t.isLt N_0
  obtain ⟨y0, y1, rfl⟩ : ∃ (y0 : Fin 256) (y1 : Fin 2560), y = ix2 y0 y1 := ⟨y 0, y 1, eq_ix2 y⟩
  refine (cols_at m c hA t y0 y1).trans ?_
  blk_ext [idx t]
end Final

/-! ## The sums over the tokens -/

/-- A sum over the points and their rows is a sum over all tokens. -/
theorem sum_rows (f : Fin 4096 → EReal) : ∑ t : Fin cfg0.N, ∑ y : Fin 256, f (tokenOf t y) = ∑ s : Fin 4096, f s :=
  Fin.sum_mul_add_fin 16 256 f

theorem total0 (k : Fin 1024) : ∑ t : Fin cfg0.N, add0 m c t k = sumsT (argsK m c) (ix2 0 k) := by
  rw [sumsT_at0, ← sum_rows]
  exact Finset.sum_congr rfl fun t _ => Finset.sum_congr rfl fun y _ => congrArg₂ (· * ·) (dout_at m c t y _ rfl k) (yv_at m c t y _ rfl k)
theorem total1 (k : Fin 1024) : ∑ t : Fin cfg0.N, add1 m c t k = sumsT (argsK m c) (ix2 1 k) := by
  rw [sumsT_at1, ← sum_rows]
  exact Finset.sum_congr rfl fun t _ => Finset.sum_congr rfl fun y _ =>
    (congrArg₂ (· * ·) (dy_at m c t y _ rfl k) (un_at m c t y _ rfl k)).trans (mul_comm _ _)
theorem total2 (k : Fin 1024) : ∑ t : Fin cfg0.N, add2 m c t k = sumsT (argsK m c) (ix2 2 k) := by
  rw [sumsT_at2, ← sum_rows]
  exact Finset.sum_congr rfl fun t _ => Finset.sum_congr rfl fun y _ => congrArg₂ (· * ·) (err_at m c t y _ rfl k) (err_at m c t y _ rfl k)

theorem sums_at (a : Fin 8) (k : Fin 1024) : (outsAt0 m c 15 tl.isLt).2.2.2.2.2.2.2.2.2 (ix2 a k) = sumsT (argsK m c) (ix2 a k) := by
  by_cases h : 3 ≤ a.val
  · exact (lasts m c a h k).trans (sumsT_ats _ k a h).symm
  · obtain rfl | rfl | rfl : a = 0 ∨ a = 1 ∨ a = 2 := by omega
    · exact (last0 m c k).trans (total0 m c k)
    · exact (last1 m c k).trans (total1 m c k)
    · exact (last2 m c k).trans (total2 m c k)

theorem final20 : (dats m 0 c).arrAt 20 (cfgs 0).N = sumsT (argsK m c) := by
  refine (dats m 0 c).arrAt_eq_of_after_last 20 tl (by decide +kernel) _ fun j => ?_
  blk_simp
  rw [after0_20]
  obtain ⟨y0, y1, rfl⟩ : ∃ (y0 : Fin 8) (y1 : Fin 1024), j = ix2 y0 y1 := ⟨j 0, j 1, eq_ix2 j⟩
  exact sums_at m c y0 y1

/-! ## The claims -/

theorem algebraic : Cert.algebraic_Kernel6Ideal_Reference6Ideal_pre_finite6 := by
  intro m g m' g' hpre hagree
  refine ⟨fun c => doutT (argsK m c), fun c => headsT (argsK m c), fun c => colsT (argsK m c), fun c => dyrT (argsK m c), fun c => mgT (argsK m c),
    fun c => duT (argsK m c), fun c => yaT (argsK m c), fun c => daT (argsK m c), fun c => drT (argsK m c), fun c => sumsT (argsK m c),
    (θ_run _ _ _).mono (fun r h c => ?_) (Cert.Kernel6Ideal.Value.run_blocks m g), (θ_run _ _ _).mono (fun r h c => ?_) (run_ref m' g')⟩
  · have hA : (argsK m c).Real := reals _ (hpre c)
    obtain ⟨h0, h1, h2, h3, h4, h5, h6, h7, h8, h9, args⟩ := h c
    exact ⟨h0.trans (final11 m c), h1.trans (final12 m c hA), h2.trans (final13 m c hA), h3.trans (final14 m c hA), h4.trans (final15 m c),
      h5.trans (final16 m c hA), h6.trans (final17 m c), h7.trans (final18 m c hA), h8.trans (final19 m c hA), h9.trans (final20 m c), args⟩
  · have e : argsR m' c = argsK m c := by
      obtain ⟨e0, e1, e2, e3, e4, e5, e6, e7, e8, e9⟩ := hagree c
      unfold argsR argsK
      rw [e0, e1, e2, e3, e4, e5, e6, e7, e8, e9]
    obtain ⟨h0, h1, h2, h3, h4, h5, h6, h7, h8, h9, args⟩ := h c
    rw [e] at h0 h1 h2 h3 h4 h5 h6 h7 h8 h9
    exact ⟨h0, h1, h2, h3, h4, h5, h6, h7, h8, h9, args⟩

theorem frame_kernel : Cert.quiescent_Kernel6 := fun m g _ => Cert.Kernel6.Gen.frame m g
theorem frame_ideal : Cert.quiescent_Kernel6Ideal := fun m g _ => Cert.Kernel6Ideal.Gen.frame m g
theorem frame_ideal_pre : Cert.quiescent_Kernel6Ideal_pre_finite6 := fun m g _ => frame_ideal m g trivial
theorem frame_reference : Cert.quiescent_Reference6Ideal := fun m g _ =>
  (θ_run Cert.Reference6Ideal.defs _ _).mono (fun r h => ⟨fun c => by
      obtain ⟨_, _, _, _, _, _, _, _, _, _, args⟩ := h c
      exact args, sem_eq_zero_of_no_sems (by decide) r.2⟩) (run_ref m g)
theorem frame_reference_pre : Cert.quiescent_Reference6Ideal_pre_finite6 := fun m g _ => frame_reference m g trivial

end Cert.Mid

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Pre_finite2
public import proofs.«01_k».proof.Proof.Gen.Pre_finite6
public import proofs.«01_k».proof.Proof.Grad
public import proofs.«01_k».proof.Proof.MatMid
public import proofs.«01_k».proof.Proof.MatAtt
public import proofs.«01_k».proof.Proof.MatOut
public import proofs.«01_k».proof.Proof.MatBranch
public import proofs.«01_k».proof.Proof.FwdIn
public import proofs.«01_k».proof.Proof.BwdIn
public import proofs.«01_k».proof.Proof.Mid
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite2.Gen.facts, Cert.Pre_finite6.Gen.facts,
  Cert.AttnBwd.frame_kernel, Cert.AttnBwd.frame_ideal, Cert.AttnBwd.frame_ideal_pre, Cert.AttnBwd.frame_reference, Cert.AttnBwd.frame_reference_pre,
  Cert.BwdIn.frame_kernel, Cert.BwdIn.frame_ideal, Cert.BwdIn.frame_ideal_pre, Cert.BwdIn.frame_reference, Cert.BwdIn.frame_reference_pre,
  Cert.MatMid.frame_kernel, Cert.MatMid.frame_ideal, Cert.MatMid.frame_reference,
  Cert.MatAtt.frame_kernel, Cert.MatAtt.frame_ideal, Cert.MatAtt.frame_reference,
  Cert.FwdIn.frame_kernel, Cert.FwdIn.frame_ideal, Cert.FwdIn.frame_reference,
  Cert.Mid.frame_kernel, Cert.Mid.frame_ideal, Cert.Mid.frame_ideal_pre, Cert.Mid.frame_reference, Cert.Mid.frame_reference_pre,
  Cert.MatOut.frame_kernel, Cert.MatOut.frame_ideal, Cert.MatOut.frame_reference,
  Cert.MatBranch.frame_kernel, Cert.MatBranch.frame_ideal, Cert.MatBranch.frame_reference,
  trivial, Cert.AttnBwd.algebraic, trivial, Cert.BwdIn.algebraic, trivial, Cert.MatMid.algebraic, trivial, Cert.MatAtt.algebraic, trivial, Cert.FwdIn.algebraic,
  trivial, Cert.Mid.algebraic, trivial, Cert.MatOut.algebraic, trivial, Cert.MatBranch.algebraic⟩

end Cert.Proof

end
